-- ==== Defs.lean ====
def Pre_LatAttn (m : (ℓ : Loc Cert.LatAttn.nD Cert.LatAttn.τ Cert.LatAttn.sig) → Buf (Elt Bits) ℓ) : Prop :=
  True

def Pre_LatAttnIdeal (m : (ℓ : Loc Cert.LatAttnIdeal.nD Cert.LatAttnIdeal.τ Cert.LatAttnIdeal.sig) → Buf (Elt Ideal) ℓ) : Prop :=
  True

def Pre_LatAttnIdeal_lat_inputs [hPre_lat_inputs : Cert.Pre_lat_inputs.Facts] (m : (ℓ : Loc Cert.LatAttnIdeal.nD Cert.LatAttnIdeal.τ Cert.LatAttnIdeal.sig) → Buf (Elt Ideal) ℓ) : Prop :=
  ∀ c : Dev Cert.LatAttnIdeal.nD,
    (Cert.Pre_lat_inputs.fn (F := Ideal) (m ((c.tc : Thread Cert.LatAttnIdeal.nD Cert.LatAttnIdeal.τ).loc Cert.LatAttnIdeal.main_arg0)) (m ((c.tc : Thread Cert.LatAttnIdeal.nD Cert.LatAttnIdeal.τ).loc Cert.LatAttnIdeal.main_arg1)) (m ((c.tc : Thread Cert.LatAttnIdeal.nD Cert.LatAttnIdeal.τ).loc Cert.LatAttnIdeal.main_arg2)) (m ((c.tc : Thread Cert.LatAttnIdeal.nD Cert.LatAttnIdeal.τ).loc Cert.LatAttnIdeal.main_arg3)) (m ((c.tc : Thread Cert.LatAttnIdeal.nD Cert.LatAttnIdeal.τ).loc Cert.LatAttnIdeal.main_arg4)) (m ((c.tc : Thread Cert.LatAttnIdeal.nD Cert.LatAttnIdeal.τ).loc Cert.LatAttnIdeal.main_arg5))).1 = (fun _ => 1#1)
    ∧ (Cert.Pre_lat_inputs.fn (F := Ideal) (m ((c.tc : Thread Cert.LatAttnIdeal.nD Cert.LatAttnIdeal.τ).loc Cert.LatAttnIdeal.main_arg0)) (m ((c.tc : Thread Cert.LatAttnIdeal.nD Cert.LatAttnIdeal.τ).loc Cert.LatAttnIdeal.main_arg1)) (m ((c.tc : Thread Cert.LatAttnIdeal.nD Cert.LatAttnIdeal.τ).loc Cert.LatAttnIdeal.main_arg2)) (m ((c.tc : Thread Cert.LatAttnIdeal.nD Cert.LatAttnIdeal.τ).loc Cert.LatAttnIdeal.main_arg3)) (m ((c.tc : Thread Cert.LatAttnIdeal.nD Cert.LatAttnIdeal.τ).loc Cert.LatAttnIdeal.main_arg4)) (m ((c.tc : Thread Cert.LatAttnIdeal.nD Cert.LatAttnIdeal.τ).loc Cert.LatAttnIdeal.main_arg5))).2.1 = (fun _ => 1#1)
    ∧ (Cert.Pre_lat_inputs.fn (F := Ideal) (m ((c.tc : Thread Cert.LatAttnIdeal.nD Cert.LatAttnIdeal.τ).loc Cert.LatAttnIdeal.main_arg0)) (m ((c.tc : Thread Cert.LatAttnIdeal.nD Cert.LatAttnIdeal.τ).loc Cert.LatAttnIdeal.main_arg1)) (m ((c.tc : Thread Cert.LatAttnIdeal.nD Cert.LatAttnIdeal.τ).loc Cert.LatAttnIdeal.main_arg2)) (m ((c.tc : Thread Cert.LatAttnIdeal.nD Cert.LatAttnIdeal.τ).loc Cert.LatAttnIdeal.main_arg3)) (m ((c.tc : Thread Cert.LatAttnIdeal.nD Cert.LatAttnIdeal.τ).loc Cert.LatAttnIdeal.main_arg4)) (m ((c.tc : Thread Cert.LatAttnIdeal.nD Cert.LatAttnIdeal.τ).loc Cert.LatAttnIdeal.main_arg5))).2.2.1 = (fun _ => 1#1)
    ∧ (Cert.Pre_lat_inputs.fn (F := Ideal) (m ((c.tc : Thread Cert.LatAttnIdeal.nD Cert.LatAttnIdeal.τ).loc Cert.LatAttnIdeal.main_arg0)) (m ((c.tc : Thread Cert.LatAttnIdeal.nD Cert.LatAttnIdeal.τ).loc Cert.LatAttnIdeal.main_arg1)) (m ((c.tc : Thread Cert.LatAttnIdeal.nD Cert.LatAttnIdeal.τ).loc Cert.LatAttnIdeal.main_arg2)) (m ((c.tc : Thread Cert.LatAttnIdeal.nD Cert.LatAttnIdeal.τ).loc Cert.LatAttnIdeal.main_arg3)) (m ((c.tc : Thread Cert.LatAttnIdeal.nD Cert.LatAttnIdeal.τ).loc Cert.LatAttnIdeal.main_arg4)) (m ((c.tc : Thread Cert.LatAttnIdeal.nD Cert.LatAttnIdeal.τ).loc Cert.LatAttnIdeal.main_arg5))).2.2.2 = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_lat_inputs [hPre_lat_inputs : Cert.Pre_lat_inputs.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_lat_inputs.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5))).1 = (fun _ => 1#1)
    ∧ (Cert.Pre_lat_inputs.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5))).2.1 = (fun _ => 1#1)
    ∧ (Cert.Pre_lat_inputs.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5))).2.2.1 = (fun _ => 1#1)
    ∧ (Cert.Pre_lat_inputs.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5))).2.2.2 = (fun _ => 1#1)

def Pre_CtxAttn (m : (ℓ : Loc Cert.CtxAttn.nD Cert.CtxAttn.τ Cert.CtxAttn.sig) → Buf (Elt Bits) ℓ) : Prop :=
  True

def Pre_CtxAttnIdeal (m : (ℓ : Loc Cert.CtxAttnIdeal.nD Cert.CtxAttnIdeal.τ Cert.CtxAttnIdeal.sig) → Buf (Elt Ideal) ℓ) : Prop :=
  True

def Pre_CtxAttnIdeal_ctx_finite [hPre_ctx_finite : Cert.Pre_ctx_finite.Facts] (m : (ℓ : Loc Cert.CtxAttnIdeal.nD Cert.CtxAttnIdeal.τ Cert.CtxAttnIdeal.sig) → Buf (Elt Ideal) ℓ) : Prop :=
  ∀ c : Dev Cert.CtxAttnIdeal.nD,
    (Cert.Pre_ctx_finite.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1)) (m ((c.tc : Thread Cert.CtxAttnIdeal.nD Cert.CtxAttnIdeal.τ).loc Cert.CtxAttnIdeal.main_arg2))).1 = (fun _ => 1#1)
    ∧ (Cert.Pre_ctx_finite.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1)) (m ((c.tc : Thread Cert.CtxAttnIdeal.nD Cert.CtxAttnIdeal.τ).loc Cert.CtxAttnIdeal.main_arg2))).2 = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_ctx_finite [hPre_ctx_finite : Cert.Pre_ctx_finite.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2))).1 = (fun _ => 1#1)
    ∧ (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2))).2 = (fun _ => 1#1)

def Pre_PostOdd (m : (ℓ : Loc Cert.PostOdd.nD Cert.PostOdd.τ Cert.PostOdd.sig) → Buf (Elt Bits) ℓ) : Prop :=
  True

def Pre_PostOddIdeal (m : (ℓ : Loc Cert.PostOddIdeal.nD Cert.PostOddIdeal.τ Cert.PostOddIdeal.sig) → Buf (Elt Ideal) ℓ) : Prop :=
  True

def Pre_PostOddRefIdeal (m : (ℓ : Loc Cert.PostOddRefIdeal.nD Cert.PostOddRefIdeal.τ Cert.PostOddRefIdeal.sig) → Buf (Elt Ideal) ℓ) : Prop :=
  True

def Pre_PostEven (m : (ℓ : Loc Cert.PostEven.nD Cert.PostEven.τ Cert.PostEven.sig) → Buf (Elt Bits) ℓ) : Prop :=
  True

def Pre_PostEvenIdeal (m : (ℓ : Loc Cert.PostEvenIdeal.nD Cert.PostEvenIdeal.τ Cert.PostEvenIdeal.sig) → Buf (Elt Ideal) ℓ) : Prop :=
  True

def Pre_PostEvenRefIdeal (m : (ℓ : Loc Cert.PostEvenRefIdeal.nD Cert.PostEvenRefIdeal.τ Cert.PostEvenRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_PostOddPrompt (m : (ℓ : Loc Cert.PostOddPrompt.nD Cert.PostOddPrompt.τ Cert.PostOddPrompt.sig) → Buf (Elt Bits) ℓ) : Prop :=
  True

def Pre_PostOddPromptIdeal (m : (ℓ : Loc Cert.PostOddPromptIdeal.nD Cert.PostOddPromptIdeal.τ Cert.PostOddPromptIdeal.sig) → Buf (Elt Ideal) ℓ) : Prop :=
  True

def Pre_PostOddPromptRefIdeal (m : (ℓ : Loc Cert.PostOddPromptRefIdeal.nD Cert.PostOddPromptRefIdeal.τ Cert.PostOddPromptRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def quiescent_LatAttn [hLatAttn : Cert.LatAttn.Facts] : Prop :=
  ∀ (m : (ℓ : Loc Cert.LatAttn.nD Cert.LatAttn.τ Cert.LatAttn.sig) → Buf (Elt Bits) ℓ) (g : Dev Cert.LatAttn.nD → PrngReg), Pre_LatAttn m →
    θ_run (Cert.LatAttn.defs (F := Bits)) (onTc (τ := Cert.LatAttn.τ) (Cert.LatAttn.main (F := Bits))) ⟨m, fun _ => 0, g⟩ (fun r => (∀ c : Dev Cert.LatAttn.nD,
      r.2.mem ((c.tc : Thread Cert.LatAttn.nD Cert.LatAttn.τ).loc Cert.LatAttn.main_arg0) = m ((c.tc : Thread Cert.LatAttn.nD Cert.LatAttn.τ).loc Cert.LatAttn.main_arg0)
      ∧ r.2.mem ((c.tc : Thread Cert.LatAttn.nD Cert.LatAttn.τ).loc Cert.LatAttn.main_arg1) = m ((c.tc : Thread Cert.LatAttn.nD Cert.LatAttn.τ).loc Cert.LatAttn.main_arg1)
      ∧ r.2.mem ((c.tc : Thread Cert.LatAttn.nD Cert.LatAttn.τ).loc Cert.LatAttn.main_arg2) = m ((c.tc : Thread Cert.LatAttn.nD Cert.LatAttn.τ).loc Cert.LatAttn.main_arg2)
      ∧ r.2.mem ((c.tc : Thread Cert.LatAttn.nD Cert.LatAttn.τ).loc Cert.LatAttn.main_arg3) = m ((c.tc : Thread Cert.LatAttn.nD Cert.LatAttn.τ).loc Cert.LatAttn.main_arg3)
      ∧ r.2.mem ((c.tc : Thread Cert.LatAttn.nD Cert.LatAttn.τ).loc Cert.LatAttn.main_arg4) = m ((c.tc : Thread Cert.LatAttn.nD Cert.LatAttn.τ).loc Cert.LatAttn.main_arg4)
      ∧ r.2.mem ((c.tc : Thread Cert.LatAttn.nD Cert.LatAttn.τ).loc Cert.LatAttn.main_arg5) = m ((c.tc : Thread Cert.LatAttn.nD Cert.LatAttn.τ).loc Cert.LatAttn.main_arg5))
      ∧ r.2.sem = fun _ => 0)

def quiescent_LatAttnIdeal [hLatAttnIdeal : Cert.LatAttnIdeal.Facts] : Prop :=
  ∀ (m : (ℓ : Loc Cert.LatAttnIdeal.nD Cert.LatAttnIdeal.τ Cert.LatAttnIdeal.sig) → Buf (Elt Ideal) ℓ) (g : Dev Cert.LatAttnIdeal.nD → PrngReg), Pre_LatAttnIdeal m →
    θ_run (Cert.LatAttnIdeal.defs (F := Ideal)) (onTc (τ := Cert.LatAttnIdeal.τ) (Cert.LatAttnIdeal.main (F := Ideal))) ⟨m, fun _ => 0, g⟩ (fun r => (∀ c : Dev Cert.LatAttnIdeal.nD,
      r.2.mem ((c.tc : Thread Cert.LatAttnIdeal.nD Cert.LatAttnIdeal.τ).loc Cert.LatAttnIdeal.main_arg0) = m ((c.tc : Thread Cert.LatAttnIdeal.nD Cert.LatAttnIdeal.τ).loc Cert.LatAttnIdeal.main_arg0)
      ∧ r.2.mem ((c.tc : Thread Cert.LatAttnIdeal.nD Cert.LatAttnIdeal.τ).loc Cert.LatAttnIdeal.main_arg1) = m ((c.tc : Thread Cert.LatAttnIdeal.nD Cert.LatAttnIdeal.τ).loc Cert.LatAttnIdeal.main_arg1)
      ∧ r.2.mem ((c.tc : Thread Cert.LatAttnIdeal.nD Cert.LatAttnIdeal.τ).loc Cert.LatAttnIdeal.main_arg2) = m ((c.tc : Thread Cert.LatAttnIdeal.nD Cert.LatAttnIdeal.τ).loc Cert.LatAttnIdeal.main_arg2)
      ∧ r.2.mem ((c.tc : Thread Cert.LatAttnIdeal.nD Cert.LatAttnIdeal.τ).loc Cert.LatAttnIdeal.main_arg3) = m ((c.tc : Thread Cert.LatAttnIdeal.nD Cert.LatAttnIdeal.τ).loc Cert.LatAttnIdeal.main_arg3)
      ∧ r.2.mem ((c.tc : Thread Cert.LatAttnIdeal.nD Cert.LatAttnIdeal.τ).loc Cert.LatAttnIdeal.main_arg4) = m ((c.tc : Thread Cert.LatAttnIdeal.nD Cert.LatAttnIdeal.τ).loc Cert.LatAttnIdeal.main_arg4)
      ∧ r.2.mem ((c.tc : Thread Cert.LatAttnIdeal.nD Cert.LatAttnIdeal.τ).loc Cert.LatAttnIdeal.main_arg5) = m ((c.tc : Thread Cert.LatAttnIdeal.nD Cert.LatAttnIdeal.τ).loc Cert.LatAttnIdeal.main_arg5))
      ∧ r.2.sem = fun _ => 0)

def quiescent_LatAttnIdeal_pre_lat_inputs [hLatAttnIdeal : Cert.LatAttnIdeal.Facts] [hPre_lat_inputs : Cert.Pre_lat_inputs.Facts] : Prop :=
  ∀ (m : (ℓ : Loc Cert.LatAttnIdeal.nD Cert.LatAttnIdeal.τ Cert.LatAttnIdeal.sig) → Buf (Elt Ideal) ℓ) (g : Dev Cert.LatAttnIdeal.nD → PrngReg), Pre_LatAttnIdeal_lat_inputs m →
    θ_run (Cert.LatAttnIdeal.defs (F := Ideal)) (onTc (τ := Cert.LatAttnIdeal.τ) (Cert.LatAttnIdeal.main (F := Ideal))) ⟨m, fun _ => 0, g⟩ (fun r => (∀ c : Dev Cert.LatAttnIdeal.nD,
      r.2.mem ((c.tc : Thread Cert.LatAttnIdeal.nD Cert.LatAttnIdeal.τ).loc Cert.LatAttnIdeal.main_arg0) = m ((c.tc : Thread Cert.LatAttnIdeal.nD Cert.LatAttnIdeal.τ).loc Cert.LatAttnIdeal.main_arg0)
      ∧ r.2.mem ((c.tc : Thread Cert.LatAttnIdeal.nD Cert.LatAttnIdeal.τ).loc Cert.LatAttnIdeal.main_arg1) = m ((c.tc : Thread Cert.LatAttnIdeal.nD Cert.LatAttnIdeal.τ).loc Cert.LatAttnIdeal.main_arg1)
      ∧ r.2.mem ((c.tc : Thread Cert.LatAttnIdeal.nD Cert.LatAttnIdeal.τ).loc Cert.LatAttnIdeal.main_arg2) = m ((c.tc : Thread Cert.LatAttnIdeal.nD Cert.LatAttnIdeal.τ).loc Cert.LatAttnIdeal.main_arg2)
      ∧ r.2.mem ((c.tc : Thread Cert.LatAttnIdeal.nD Cert.LatAttnIdeal.τ).loc Cert.LatAttnIdeal.main_arg3) = m ((c.tc : Thread Cert.LatAttnIdeal.nD Cert.LatAttnIdeal.τ).loc Cert.LatAttnIdeal.main_arg3)
      ∧ r.2.mem ((c.tc : Thread Cert.LatAttnIdeal.nD Cert.LatAttnIdeal.τ).loc Cert.LatAttnIdeal.main_arg4) = m ((c.tc : Thread Cert.LatAttnIdeal.nD Cert.LatAttnIdeal.τ).loc Cert.LatAttnIdeal.main_arg4)
      ∧ r.2.mem ((c.tc : Thread Cert.LatAttnIdeal.nD Cert.LatAttnIdeal.τ).loc Cert.LatAttnIdeal.main_arg5) = m ((c.tc : Thread Cert.LatAttnIdeal.nD Cert.LatAttnIdeal.τ).loc Cert.LatAttnIdeal.main_arg5))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5))
      ∧ r.2.sem = fun _ => 0)

def quiescent_LatRefIdeal_pre_lat_inputs [hLatRefIdeal : Cert.LatRefIdeal.Facts] [hPre_lat_inputs : Cert.Pre_lat_inputs.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_lat_inputs m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5))
      ∧ r.2.sem = fun _ => 0)

def quiescent_CtxAttn [hCtxAttn : Cert.CtxAttn.Facts] : Prop :=
  ∀ (m : (ℓ : Loc Cert.CtxAttn.nD Cert.CtxAttn.τ Cert.CtxAttn.sig) → Buf (Elt Bits) ℓ) (g : Dev Cert.CtxAttn.nD → PrngReg), Pre_CtxAttn m →
    θ_run (Cert.CtxAttn.defs (F := Bits)) (onTc (τ := Cert.CtxAttn.τ) (Cert.CtxAttn.main (F := Bits))) ⟨m, fun _ => 0, g⟩ (fun r => (∀ c : Dev Cert.CtxAttn.nD,
      r.2.mem ((c.tc : Thread Cert.CtxAttn.nD Cert.CtxAttn.τ).loc Cert.CtxAttn.main_arg0) = m ((c.tc : Thread Cert.CtxAttn.nD Cert.CtxAttn.τ).loc Cert.CtxAttn.main_arg0)
      ∧ r.2.mem ((c.tc : Thread Cert.CtxAttn.nD Cert.CtxAttn.τ).loc Cert.CtxAttn.main_arg1) = m ((c.tc : Thread Cert.CtxAttn.nD Cert.CtxAttn.τ).loc Cert.CtxAttn.main_arg1)
      ∧ r.2.mem ((c.tc : Thread Cert.CtxAttn.nD Cert.CtxAttn.τ).loc Cert.CtxAttn.main_arg2) = m ((c.tc : Thread Cert.CtxAttn.nD Cert.CtxAttn.τ).loc Cert.CtxAttn.main_arg2))
      ∧ r.2.sem = fun _ => 0)

def quiescent_CtxAttnIdeal [hCtxAttnIdeal : Cert.CtxAttnIdeal.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
      ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2))
      ∧ r.2.sem = fun _ => 0)

def quiescent_CtxAttnIdeal_pre_ctx_finite [hCtxAttnIdeal : Cert.CtxAttnIdeal.Facts] [hPre_ctx_finite : Cert.Pre_ctx_finite.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal_ctx_finite m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
      ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_CtxRefIdeal_pre_ctx_finite [hCtxRefIdeal : Cert.CtxRefIdeal.Facts] [hPre_ctx_finite : Cert.Pre_ctx_finite.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_ctx_finite m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_PostOdd [hPostOdd : Cert.PostOdd.Facts] : Prop :=
  ∀ (m : (ℓ : Loc Cert.PostOdd.nD Cert.PostOdd.τ Cert.PostOdd.sig) → Buf (Elt Bits) ℓ) (g : Dev Cert.PostOdd.nD → PrngReg), Pre_PostOdd m →
    θ_run (Cert.PostOdd.defs (F := Bits)) (onTc (τ := Cert.PostOdd.τ) (Cert.PostOdd.main (F := Bits))) ⟨m, fun _ => 0, g⟩ (fun r => (∀ c : Dev Cert.PostOdd.nD,
      r.2.mem ((c.tc : Thread Cert.PostOdd.nD Cert.PostOdd.τ).loc Cert.PostOdd.main_arg0) = m ((c.tc : Thread Cert.PostOdd.nD Cert.PostOdd.τ).loc Cert.PostOdd.main_arg0)
      ∧ r.2.mem ((c.tc : Thread Cert.PostOdd.nD Cert.PostOdd.τ).loc Cert.PostOdd.main_arg1) = m ((c.tc : Thread Cert.PostOdd.nD Cert.PostOdd.τ).loc Cert.PostOdd.main_arg1)
      ∧ r.2.mem ((c.tc : Thread Cert.PostOdd.nD Cert.PostOdd.τ).loc Cert.PostOdd.main_arg2) = m ((c.tc : Thread Cert.PostOdd.nD Cert.PostOdd.τ).loc Cert.PostOdd.main_arg2)
      ∧ r.2.mem ((c.tc : Thread Cert.PostOdd.nD Cert.PostOdd.τ).loc Cert.PostOdd.main_arg3) = m ((c.tc : Thread Cert.PostOdd.nD Cert.PostOdd.τ).loc Cert.PostOdd.main_arg3)
      ∧ r.2.mem ((c.tc : Thread Cert.PostOdd.nD Cert.PostOdd.τ).loc Cert.PostOdd.main_arg4) = m ((c.tc : Thread Cert.PostOdd.nD Cert.PostOdd.τ).loc Cert.PostOdd.main_arg4)
      ∧ r.2.mem ((c.tc : Thread Cert.PostOdd.nD Cert.PostOdd.τ).loc Cert.PostOdd.main_arg5) = m ((c.tc : Thread Cert.PostOdd.nD Cert.PostOdd.τ).loc Cert.PostOdd.main_arg5)
      ∧ r.2.mem ((c.tc : Thread Cert.PostOdd.nD Cert.PostOdd.τ).loc Cert.PostOdd.main_arg6) = m ((c.tc : Thread Cert.PostOdd.nD Cert.PostOdd.τ).loc Cert.PostOdd.main_arg6)
      ∧ r.2.mem ((c.tc : Thread Cert.PostOdd.nD Cert.PostOdd.τ).loc Cert.PostOdd.main_arg7) = m ((c.tc : Thread Cert.PostOdd.nD Cert.PostOdd.τ).loc Cert.PostOdd.main_arg7)
      ∧ r.2.mem ((c.tc : Thread Cert.PostOdd.nD Cert.PostOdd.τ).loc Cert.PostOdd.main_arg8) = m ((c.tc : Thread Cert.PostOdd.nD Cert.PostOdd.τ).loc Cert.PostOdd.main_arg8)
      ∧ r.2.mem ((c.tc : Thread Cert.PostOdd.nD Cert.PostOdd.τ).loc Cert.PostOdd.main_arg9) = m ((c.tc : Thread Cert.PostOdd.nD Cert.PostOdd.τ).loc Cert.PostOdd.main_arg9)
      ∧ r.2.mem ((c.tc : Thread Cert.PostOdd.nD Cert.PostOdd.τ).loc Cert.PostOdd.main_arg10) = m ((c.tc : Thread Cert.PostOdd.nD Cert.PostOdd.τ).loc Cert.PostOdd.main_arg10)
      ∧ r.2.mem ((c.tc : Thread Cert.PostOdd.nD Cert.PostOdd.τ).loc Cert.PostOdd.main_arg11) = m ((c.tc : Thread Cert.PostOdd.nD Cert.PostOdd.τ).loc Cert.PostOdd.main_arg11)
      ∧ r.2.mem ((c.tc : Thread Cert.PostOdd.nD Cert.PostOdd.τ).loc Cert.PostOdd.main_arg12) = m ((c.tc : Thread Cert.PostOdd.nD Cert.PostOdd.τ).loc Cert.PostOdd.main_arg12))
      ∧ r.2.sem = fun _ => 0)

def quiescent_PostOddIdeal [hPostOddIdeal : Cert.PostOddIdeal.Facts] : Prop :=
  ∀ (m : (ℓ : Loc Cert.PostOddIdeal.nD Cert.PostOddIdeal.τ Cert.PostOddIdeal.sig) → Buf (Elt Ideal) ℓ) (g : Dev Cert.PostOddIdeal.nD → PrngReg), Pre_PostOddIdeal m →
    θ_run (Cert.PostOddIdeal.defs (F := Ideal)) (onTc (τ := Cert.PostOddIdeal.τ) (Cert.PostOddIdeal.main (F := Ideal))) ⟨m, fun _ => 0, g⟩ (fun r => (∀ c : Dev Cert.PostOddIdeal.nD,
      r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
      ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
      ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
      ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
      ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
      ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
      ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
      ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
      ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8)
      ∧ r.2.mem ((c.tc : Thread Cert.PostOddIdeal.nD Cert.PostOddIdeal.τ).loc Cert.PostOddIdeal.main_arg9) = m ((c.tc : Thread Cert.PostOddIdeal.nD Cert.PostOddIdeal.τ).loc Cert.PostOddIdeal.main_arg9)
      ∧ r.2.mem ((c.tc : Thread Cert.PostOddIdeal.nD Cert.PostOddIdeal.τ).loc Cert.PostOddIdeal.main_arg10) = m ((c.tc : Thread Cert.PostOddIdeal.nD Cert.PostOddIdeal.τ).loc Cert.PostOddIdeal.main_arg10)
      ∧ r.2.mem ((c.tc : Thread Cert.PostOddIdeal.nD Cert.PostOddIdeal.τ).loc Cert.PostOddIdeal.main_arg11) = m ((c.tc : Thread Cert.PostOddIdeal.nD Cert.PostOddIdeal.τ).loc Cert.PostOddIdeal.main_arg11)
      ∧ r.2.mem ((c.tc : Thread Cert.PostOddIdeal.nD Cert.PostOddIdeal.τ).loc Cert.PostOddIdeal.main_arg12) = m ((c.tc : Thread Cert.PostOddIdeal.nD Cert.PostOddIdeal.τ).loc Cert.PostOddIdeal.main_arg12))
      ∧ r.2.sem = fun _ => 0)

def quiescent_PostOddRefIdeal [hPostOddRefIdeal : Cert.PostOddRefIdeal.Facts] : Prop :=
  ∀ (m : (ℓ : Loc Cert.PostOddRefIdeal.nD Cert.PostOddRefIdeal.τ Cert.PostOddRefIdeal.sig) → Buf (Elt Ideal) ℓ) (g : Dev Cert.PostOddRefIdeal.nD → PrngReg), Pre_PostOddRefIdeal m →
    θ_run (Cert.PostOddRefIdeal.defs (F := Ideal)) (onTc (τ := Cert.PostOddRefIdeal.τ) (Cert.PostOddRefIdeal.main (F := Ideal))) ⟨m, fun _ => 0, g⟩ (fun r => (∀ c : Dev Cert.PostOddRefIdeal.nD,
      r.2.mem ((c.tc : Thread Cert.PostOddRefIdeal.nD Cert.PostOddRefIdeal.τ).loc Cert.PostOddRefIdeal.main_arg0) = m ((c.tc : Thread Cert.PostOddRefIdeal.nD Cert.PostOddRefIdeal.τ).loc Cert.PostOddRefIdeal.main_arg0)
      ∧ r.2.mem ((c.tc : Thread Cert.PostOddRefIdeal.nD Cert.PostOddRefIdeal.τ).loc Cert.PostOddRefIdeal.main_arg1) = m ((c.tc : Thread Cert.PostOddRefIdeal.nD Cert.PostOddRefIdeal.τ).loc Cert.PostOddRefIdeal.main_arg1)
      ∧ r.2.mem ((c.tc : Thread Cert.PostOddRefIdeal.nD Cert.PostOddRefIdeal.τ).loc Cert.PostOddRefIdeal.main_arg2) = m ((c.tc : Thread Cert.PostOddRefIdeal.nD Cert.PostOddRefIdeal.τ).loc Cert.PostOddRefIdeal.main_arg2)
      ∧ r.2.mem ((c.tc : Thread Cert.PostOddRefIdeal.nD Cert.PostOddRefIdeal.τ).loc Cert.PostOddRefIdeal.main_arg3) = m ((c.tc : Thread Cert.PostOddRefIdeal.nD Cert.PostOddRefIdeal.τ).loc Cert.PostOddRefIdeal.main_arg3)
      ∧ r.2.mem ((c.tc : Thread Cert.PostOddRefIdeal.nD Cert.PostOddRefIdeal.τ).loc Cert.PostOddRefIdeal.main_arg4) = m ((c.tc : Thread Cert.PostOddRefIdeal.nD Cert.PostOddRefIdeal.τ).loc Cert.PostOddRefIdeal.main_arg4)
      ∧ r.2.mem ((c.tc : Thread Cert.PostOddRefIdeal.nD Cert.PostOddRefIdeal.τ).loc Cert.PostOddRefIdeal.main_arg5) = m ((c.tc : Thread Cert.PostOddRefIdeal.nD Cert.PostOddRefIdeal.τ).loc Cert.PostOddRefIdeal.main_arg5)
      ∧ r.2.mem ((c.tc : Thread Cert.PostOddRefIdeal.nD Cert.PostOddRefIdeal.τ).loc Cert.PostOddRefIdeal.main_arg6) = m ((c.tc : Thread Cert.PostOddRefIdeal.nD Cert.PostOddRefIdeal.τ).loc Cert.PostOddRefIdeal.main_arg6)
      ∧ r.2.mem ((c.tc : Thread Cert.PostOddRefIdeal.nD Cert.PostOddRefIdeal.τ).loc Cert.PostOddRefIdeal.main_arg7) = m ((c.tc : Thread Cert.PostOddRefIdeal.nD Cert.PostOddRefIdeal.τ).loc Cert.PostOddRefIdeal.main_arg7)
      ∧ r.2.mem ((c.tc : Thread Cert.PostOddRefIdeal.nD Cert.PostOddRefIdeal.τ).loc Cert.PostOddRefIdeal.main_arg8) = m ((c.tc : Thread Cert.PostOddRefIdeal.nD Cert.PostOddRefIdeal.τ).loc Cert.PostOddRefIdeal.main_arg8)
      ∧ r.2.mem ((c.tc : Thread Cert.PostOddRefIdeal.nD Cert.PostOddRefIdeal.τ).loc Cert.PostOddRefIdeal.main_arg9) = m ((c.tc : Thread Cert.PostOddRefIdeal.nD Cert.PostOddRefIdeal.τ).loc Cert.PostOddRefIdeal.main_arg9)
      ∧ r.2.mem ((c.tc : Thread Cert.PostOddRefIdeal.nD Cert.PostOddRefIdeal.τ).loc Cert.PostOddRefIdeal.main_arg10) = m ((c.tc : Thread Cert.PostOddRefIdeal.nD Cert.PostOddRefIdeal.τ).loc Cert.PostOddRefIdeal.main_arg10)
      ∧ r.2.mem ((c.tc : Thread Cert.PostOddRefIdeal.nD Cert.PostOddRefIdeal.τ).loc Cert.PostOddRefIdeal.main_arg11) = m ((c.tc : Thread Cert.PostOddRefIdeal.nD Cert.PostOddRefIdeal.τ).loc Cert.PostOddRefIdeal.main_arg11)
      ∧ r.2.mem ((c.tc : Thread Cert.PostOddRefIdeal.nD Cert.PostOddRefIdeal.τ).loc Cert.PostOddRefIdeal.main_arg12) = m ((c.tc : Thread Cert.PostOddRefIdeal.nD Cert.PostOddRefIdeal.τ).loc Cert.PostOddRefIdeal.main_arg12))
      ∧ r.2.sem = fun _ => 0)

def quiescent_PostEven [hPostEven : Cert.PostEven.Facts] : Prop :=
  ∀ (m : (ℓ : Loc Cert.PostEven.nD Cert.PostEven.τ Cert.PostEven.sig) → Buf (Elt Bits) ℓ) (g : Dev Cert.PostEven.nD → PrngReg), Pre_PostEven m →
    θ_run (Cert.PostEven.defs (F := Bits)) (onTc (τ := Cert.PostEven.τ) (Cert.PostEven.main (F := Bits))) ⟨m, fun _ => 0, g⟩ (fun r => (∀ c : Dev Cert.PostEven.nD,
      r.2.mem ((c.tc : Thread Cert.PostEven.nD Cert.PostEven.τ).loc Cert.PostEven.main_arg0) = m ((c.tc : Thread Cert.PostEven.nD Cert.PostEven.τ).loc Cert.PostEven.main_arg0)
      ∧ r.2.mem ((c.tc : Thread Cert.PostEven.nD Cert.PostEven.τ).loc Cert.PostEven.main_arg1) = m ((c.tc : Thread Cert.PostEven.nD Cert.PostEven.τ).loc Cert.PostEven.main_arg1)
      ∧ r.2.mem ((c.tc : Thread Cert.PostEven.nD Cert.PostEven.τ).loc Cert.PostEven.main_arg2) = m ((c.tc : Thread Cert.PostEven.nD Cert.PostEven.τ).loc Cert.PostEven.main_arg2)
      ∧ r.2.mem ((c.tc : Thread Cert.PostEven.nD Cert.PostEven.τ).loc Cert.PostEven.main_arg3) = m ((c.tc : Thread Cert.PostEven.nD Cert.PostEven.τ).loc Cert.PostEven.main_arg3)
      ∧ r.2.mem ((c.tc : Thread Cert.PostEven.nD Cert.PostEven.τ).loc Cert.PostEven.main_arg4) = m ((c.tc : Thread Cert.PostEven.nD Cert.PostEven.τ).loc Cert.PostEven.main_arg4)
      ∧ r.2.mem ((c.tc : Thread Cert.PostEven.nD Cert.PostEven.τ).loc Cert.PostEven.main_arg5) = m ((c.tc : Thread Cert.PostEven.nD Cert.PostEven.τ).loc Cert.PostEven.main_arg5)
      ∧ r.2.mem ((c.tc : Thread Cert.PostEven.nD Cert.PostEven.τ).loc Cert.PostEven.main_arg6) = m ((c.tc : Thread Cert.PostEven.nD Cert.PostEven.τ).loc Cert.PostEven.main_arg6)
      ∧ r.2.mem ((c.tc : Thread Cert.PostEven.nD Cert.PostEven.τ).loc Cert.PostEven.main_arg7) = m ((c.tc : Thread Cert.PostEven.nD Cert.PostEven.τ).loc Cert.PostEven.main_arg7)
      ∧ r.2.mem ((c.tc : Thread Cert.PostEven.nD Cert.PostEven.τ).loc Cert.PostEven.main_arg8) = m ((c.tc : Thread Cert.PostEven.nD Cert.PostEven.τ).loc Cert.PostEven.main_arg8)
      ∧ r.2.mem ((c.tc : Thread Cert.PostEven.nD Cert.PostEven.τ).loc Cert.PostEven.main_arg9) = m ((c.tc : Thread Cert.PostEven.nD Cert.PostEven.τ).loc Cert.PostEven.main_arg9)
      ∧ r.2.mem ((c.tc : Thread Cert.PostEven.nD Cert.PostEven.τ).loc Cert.PostEven.main_arg10) = m ((c.tc : Thread Cert.PostEven.nD Cert.PostEven.τ).loc Cert.PostEven.main_arg10)
      ∧ r.2.mem ((c.tc : Thread Cert.PostEven.nD Cert.PostEven.τ).loc Cert.PostEven.main_arg11) = m ((c.tc : Thread Cert.PostEven.nD Cert.PostEven.τ).loc Cert.PostEven.main_arg11)
      ∧ r.2.mem ((c.tc : Thread Cert.PostEven.nD Cert.PostEven.τ).loc Cert.PostEven.main_arg12) = m ((c.tc : Thread Cert.PostEven.nD Cert.PostEven.τ).loc Cert.PostEven.main_arg12)
      ∧ r.2.mem ((c.tc : Thread Cert.PostEven.nD Cert.PostEven.τ).loc Cert.PostEven.main_arg13) = m ((c.tc : Thread Cert.PostEven.nD Cert.PostEven.τ).loc Cert.PostEven.main_arg13)
      ∧ r.2.mem ((c.tc : Thread Cert.PostEven.nD Cert.PostEven.τ).loc Cert.PostEven.main_arg14) = m ((c.tc : Thread Cert.PostEven.nD Cert.PostEven.τ).loc Cert.PostEven.main_arg14)
      ∧ r.2.mem ((c.tc : Thread Cert.PostEven.nD Cert.PostEven.τ).loc Cert.PostEven.main_arg15) = m ((c.tc : Thread Cert.PostEven.nD Cert.PostEven.τ).loc Cert.PostEven.main_arg15))
      ∧ r.2.sem = fun _ => 0)

def quiescent_PostEvenIdeal [hPostEvenIdeal : Cert.PostEvenIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg), Pre_PostEvenIdeal m →
    θ_run (Cert.PostEvenIdeal.defs (F := Ideal)) (onTc (τ := Cert.PostEvenIdeal.τ) (Cert.PostEvenIdeal.main (F := Ideal))) ⟨m, fun _ => 0, g⟩ (fun r => (∀ c : Dev Cert.PostEvenIdeal.nD,
      r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
      ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
      ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
      ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
      ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
      ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
      ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
      ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
      ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
      ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9)
      ∧ r.2.mem ((c.tc : Thread Cert.PostEvenIdeal.nD Cert.PostEvenIdeal.τ).loc Cert.PostEvenIdeal.main_arg10) = m ((c.tc : Thread Cert.PostEvenIdeal.nD Cert.PostEvenIdeal.τ).loc Cert.PostEvenIdeal.main_arg10)
      ∧ r.2.mem ((c.tc : Thread Cert.PostEvenIdeal.nD Cert.PostEvenIdeal.τ).loc Cert.PostEvenIdeal.main_arg11) = m ((c.tc : Thread Cert.PostEvenIdeal.nD Cert.PostEvenIdeal.τ).loc Cert.PostEvenIdeal.main_arg11)
      ∧ r.2.mem ((c.tc : Thread Cert.PostEvenIdeal.nD Cert.PostEvenIdeal.τ).loc Cert.PostEvenIdeal.main_arg12) = m ((c.tc : Thread Cert.PostEvenIdeal.nD Cert.PostEvenIdeal.τ).loc Cert.PostEvenIdeal.main_arg12)
      ∧ r.2.mem ((c.tc : Thread Cert.PostEvenIdeal.nD Cert.PostEvenIdeal.τ).loc Cert.PostEvenIdeal.main_arg13) = m ((c.tc : Thread Cert.PostEvenIdeal.nD Cert.PostEvenIdeal.τ).loc Cert.PostEvenIdeal.main_arg13)
      ∧ r.2.mem ((c.tc : Thread Cert.PostEvenIdeal.nD Cert.PostEvenIdeal.τ).loc Cert.PostEvenIdeal.main_arg14) = m ((c.tc : Thread Cert.PostEvenIdeal.nD Cert.PostEvenIdeal.τ).loc Cert.PostEvenIdeal.main_arg14)
      ∧ r.2.mem ((c.tc : Thread Cert.PostEvenIdeal.nD Cert.PostEvenIdeal.τ).loc Cert.PostEvenIdeal.main_arg15) = m ((c.tc : Thread Cert.PostEvenIdeal.nD Cert.PostEvenIdeal.τ).loc Cert.PostEvenIdeal.main_arg15))
      ∧ r.2.sem = fun _ => 0)

def quiescent_PostEvenRefIdeal [hPostEvenRefIdeal : Cert.PostEvenRefIdeal.Facts] : Prop :=
  ∀ (m : (ℓ : Loc Cert.PostEvenRefIdeal.nD Cert.PostEvenRefIdeal.τ Cert.PostEvenRefIdeal.sig) → Buf (Elt Ideal) ℓ) (g : Dev Cert.PostEvenRefIdeal.nD → PrngReg), Pre_PostEvenRefIdeal m →
    θ_run (Cert.PostEvenRefIdeal.defs (F := Ideal)) (onTc (τ := Cert.PostEvenRefIdeal.τ) (Cert.PostEvenRefIdeal.main (F := Ideal))) ⟨m, fun _ => 0, g⟩ (fun r => (∀ c : Dev Cert.PostEvenRefIdeal.nD,
      r.2.mem ((c.tc : Thread Cert.PostEvenRefIdeal.nD Cert.PostEvenRefIdeal.τ).loc Cert.PostEvenRefIdeal.main_arg0) = m ((c.tc : Thread Cert.PostEvenRefIdeal.nD Cert.PostEvenRefIdeal.τ).loc Cert.PostEvenRefIdeal.main_arg0)
      ∧ r.2.mem ((c.tc : Thread Cert.PostEvenRefIdeal.nD Cert.PostEvenRefIdeal.τ).loc Cert.PostEvenRefIdeal.main_arg1) = m ((c.tc : Thread Cert.PostEvenRefIdeal.nD Cert.PostEvenRefIdeal.τ).loc Cert.PostEvenRefIdeal.main_arg1)
      ∧ r.2.mem ((c.tc : Thread Cert.PostEvenRefIdeal.nD Cert.PostEvenRefIdeal.τ).loc Cert.PostEvenRefIdeal.main_arg2) = m ((c.tc : Thread Cert.PostEvenRefIdeal.nD Cert.PostEvenRefIdeal.τ).loc Cert.PostEvenRefIdeal.main_arg2)
      ∧ r.2.mem ((c.tc : Thread Cert.PostEvenRefIdeal.nD Cert.PostEvenRefIdeal.τ).loc Cert.PostEvenRefIdeal.main_arg3) = m ((c.tc : Thread Cert.PostEvenRefIdeal.nD Cert.PostEvenRefIdeal.τ).loc Cert.PostEvenRefIdeal.main_arg3)
      ∧ r.2.mem ((c.tc : Thread Cert.PostEvenRefIdeal.nD Cert.PostEvenRefIdeal.τ).loc Cert.PostEvenRefIdeal.main_arg4) = m ((c.tc : Thread Cert.PostEvenRefIdeal.nD Cert.PostEvenRefIdeal.τ).loc Cert.PostEvenRefIdeal.main_arg4)
      ∧ r.2.mem ((c.tc : Thread Cert.PostEvenRefIdeal.nD Cert.PostEvenRefIdeal.τ).loc Cert.PostEvenRefIdeal.main_arg5) = m ((c.tc : Thread Cert.PostEvenRefIdeal.nD Cert.PostEvenRefIdeal.τ).loc Cert.PostEvenRefIdeal.main_arg5)
      ∧ r.2.mem ((c.tc : Thread Cert.PostEvenRefIdeal.nD Cert.PostEvenRefIdeal.τ).loc Cert.PostEvenRefIdeal.main_arg6) = m ((c.tc : Thread Cert.PostEvenRefIdeal.nD Cert.PostEvenRefIdeal.τ).loc Cert.PostEvenRefIdeal.main_arg6)
      ∧ r.2.mem ((c.tc : Thread Cert.PostEvenRefIdeal.nD Cert.PostEvenRefIdeal.τ).loc Cert.PostEvenRefIdeal.main_arg7) = m ((c.tc : Thread Cert.PostEvenRefIdeal.nD Cert.PostEvenRefIdeal.τ).loc Cert.PostEvenRefIdeal.main_arg7)
      ∧ r.2.mem ((c.tc : Thread Cert.PostEvenRefIdeal.nD Cert.PostEvenRefIdeal.τ).loc Cert.PostEvenRefIdeal.main_arg8) = m ((c.tc : Thread Cert.PostEvenRefIdeal.nD Cert.PostEvenRefIdeal.τ).loc Cert.PostEvenRefIdeal.main_arg8)
      ∧ r.2.mem ((c.tc : Thread Cert.PostEvenRefIdeal.nD Cert.PostEvenRefIdeal.τ).loc Cert.PostEvenRefIdeal.main_arg9) = m ((c.tc : Thread Cert.PostEvenRefIdeal.nD Cert.PostEvenRefIdeal.τ).loc Cert.PostEvenRefIdeal.main_arg9)
      ∧ r.2.mem ((c.tc : Thread Cert.PostEvenRefIdeal.nD Cert.PostEvenRefIdeal.τ).loc Cert.PostEvenRefIdeal.main_arg10) = m ((c.tc : Thread Cert.PostEvenRefIdeal.nD Cert.PostEvenRefIdeal.τ).loc Cert.PostEvenRefIdeal.main_arg10)
      ∧ r.2.mem ((c.tc : Thread Cert.PostEvenRefIdeal.nD Cert.PostEvenRefIdeal.τ).loc Cert.PostEvenRefIdeal.main_arg11) = m ((c.tc : Thread Cert.PostEvenRefIdeal.nD Cert.PostEvenRefIdeal.τ).loc Cert.PostEvenRefIdeal.main_arg11)
      ∧ r.2.mem ((c.tc : Thread Cert.PostEvenRefIdeal.nD Cert.PostEvenRefIdeal.τ).loc Cert.PostEvenRefIdeal.main_arg12) = m ((c.tc : Thread Cert.PostEvenRefIdeal.nD Cert.PostEvenRefIdeal.τ).loc Cert.PostEvenRefIdeal.main_arg12)
      ∧ r.2.mem ((c.tc : Thread Cert.PostEvenRefIdeal.nD Cert.PostEvenRefIdeal.τ).loc Cert.PostEvenRefIdeal.main_arg13) = m ((c.tc : Thread Cert.PostEvenRefIdeal.nD Cert.PostEvenRefIdeal.τ).loc Cert.PostEvenRefIdeal.main_arg13)
      ∧ r.2.mem ((c.tc : Thread Cert.PostEvenRefIdeal.nD Cert.PostEvenRefIdeal.τ).loc Cert.PostEvenRefIdeal.main_arg14) = m ((c.tc : Thread Cert.PostEvenRefIdeal.nD Cert.PostEvenRefIdeal.τ).loc Cert.PostEvenRefIdeal.main_arg14)
      ∧ r.2.mem ((c.tc : Thread Cert.PostEvenRefIdeal.nD Cert.PostEvenRefIdeal.τ).loc Cert.PostEvenRefIdeal.main_arg15) = m ((c.tc : Thread Cert.PostEvenRefIdeal.nD Cert.PostEvenRefIdeal.τ).loc Cert.PostEvenRefIdeal.main_arg15))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_PostOddPrompt [hPostOddPrompt : Cert.PostOddPrompt.Facts] : Prop :=
  ∀ (m : (ℓ : Loc Cert.PostOddPrompt.nD Cert.PostOddPrompt.τ Cert.PostOddPrompt.sig) → Buf (Elt Bits) ℓ) (g : Dev Cert.PostOddPrompt.nD → PrngReg), Pre_PostOddPrompt m →
    θ_run (Cert.PostOddPrompt.defs (F := Bits)) (onTc (τ := Cert.PostOddPrompt.τ) (Cert.PostOddPrompt.main (F := Bits))) ⟨m, fun _ => 0, g⟩ (fun r => (∀ c : Dev Cert.PostOddPrompt.nD,
      r.2.mem ((c.tc : Thread Cert.PostOddPrompt.nD Cert.PostOddPrompt.τ).loc Cert.PostOddPrompt.main_arg0) = m ((c.tc : Thread Cert.PostOddPrompt.nD Cert.PostOddPrompt.τ).loc Cert.PostOddPrompt.main_arg0)
      ∧ r.2.mem ((c.tc : Thread Cert.PostOddPrompt.nD Cert.PostOddPrompt.τ).loc Cert.PostOddPrompt.main_arg1) = m ((c.tc : Thread Cert.PostOddPrompt.nD Cert.PostOddPrompt.τ).loc Cert.PostOddPrompt.main_arg1)
      ∧ r.2.mem ((c.tc : Thread Cert.PostOddPrompt.nD Cert.PostOddPrompt.τ).loc Cert.PostOddPrompt.main_arg2) = m ((c.tc : Thread Cert.PostOddPrompt.nD Cert.PostOddPrompt.τ).loc Cert.PostOddPrompt.main_arg2)
      ∧ r.2.mem ((c.tc : Thread Cert.PostOddPrompt.nD Cert.PostOddPrompt.τ).loc Cert.PostOddPrompt.main_arg3) = m ((c.tc : Thread Cert.PostOddPrompt.nD Cert.PostOddPrompt.τ).loc Cert.PostOddPrompt.main_arg3)
      ∧ r.2.mem ((c.tc : Thread Cert.PostOddPrompt.nD Cert.PostOddPrompt.τ).loc Cert.PostOddPrompt.main_arg4) = m ((c.tc : Thread Cert.PostOddPrompt.nD Cert.PostOddPrompt.τ).loc Cert.PostOddPrompt.main_arg4)
      ∧ r.2.mem ((c.tc : Thread Cert.PostOddPrompt.nD Cert.PostOddPrompt.τ).loc Cert.PostOddPrompt.main_arg5) = m ((c.tc : Thread Cert.PostOddPrompt.nD Cert.PostOddPrompt.τ).loc Cert.PostOddPrompt.main_arg5)
      ∧ r.2.mem ((c.tc : Thread Cert.PostOddPrompt.nD Cert.PostOddPrompt.τ).loc Cert.PostOddPrompt.main_arg6) = m ((c.tc : Thread Cert.PostOddPrompt.nD Cert.PostOddPrompt.τ).loc Cert.PostOddPrompt.main_arg6)
      ∧ r.2.mem ((c.tc : Thread Cert.PostOddPrompt.nD Cert.PostOddPrompt.τ).loc Cert.PostOddPrompt.main_arg7) = m ((c.tc : Thread Cert.PostOddPrompt.nD Cert.PostOddPrompt.τ).loc Cert.PostOddPrompt.main_arg7)
      ∧ r.2.mem ((c.tc : Thread Cert.PostOddPrompt.nD Cert.PostOddPrompt.τ).loc Cert.PostOddPrompt.main_arg8) = m ((c.tc : Thread Cert.PostOddPrompt.nD Cert.PostOddPrompt.τ).loc Cert.PostOddPrompt.main_arg8)
      ∧ r.2.mem ((c.tc : Thread Cert.PostOddPrompt.nD Cert.PostOddPrompt.τ).loc Cert.PostOddPrompt.main_arg9) = m ((c.tc : Thread Cert.PostOddPrompt.nD Cert.PostOddPrompt.τ).loc Cert.PostOddPrompt.main_arg9)
      ∧ r.2.mem ((c.tc : Thread Cert.PostOddPrompt.nD Cert.PostOddPrompt.τ).loc Cert.PostOddPrompt.main_arg10) = m ((c.tc : Thread Cert.PostOddPrompt.nD Cert.PostOddPrompt.τ).loc Cert.PostOddPrompt.main_arg10)
      ∧ r.2.mem ((c.tc : Thread Cert.PostOddPrompt.nD Cert.PostOddPrompt.τ).loc Cert.PostOddPrompt.main_arg11) = m ((c.tc : Thread Cert.PostOddPrompt.nD Cert.PostOddPrompt.τ).loc Cert.PostOddPrompt.main_arg11)
      ∧ r.2.mem ((c.tc : Thread Cert.PostOddPrompt.nD Cert.PostOddPrompt.τ).loc Cert.PostOddPrompt.main_arg12) = m ((c.tc : Thread Cert.PostOddPrompt.nD Cert.PostOddPrompt.τ).loc Cert.PostOddPrompt.main_arg12))
      ∧ r.2.sem = fun _ => 0)

def quiescent_PostOddPromptIdeal [hPostOddPromptIdeal : Cert.PostOddPromptIdeal.Facts] : Prop :=
  ∀ (m : (ℓ : Loc Cert.PostOddPromptIdeal.nD Cert.PostOddPromptIdeal.τ Cert.PostOddPromptIdeal.sig) → Buf (Elt Ideal) ℓ) (g : Dev Cert.PostOddPromptIdeal.nD → PrngReg), Pre_PostOddPromptIdeal m →
    θ_run (Cert.PostOddPromptIdeal.defs (F := Ideal)) (onTc (τ := Cert.PostOddPromptIdeal.τ) (Cert.PostOddPromptIdeal.main (F := Ideal))) ⟨m, fun _ => 0, g⟩ (fun r => (∀ c : Dev Cert.PostOddPromptIdeal.nD,
      r.2.mem ((c.tc : Thread Cert.PostOddPromptIdeal.nD Cert.PostOddPromptIdeal.τ).loc Cert.PostOddPromptIdeal.main_arg0) = m ((c.tc : Thread Cert.PostOddPromptIdeal.nD Cert.PostOddPromptIdeal.τ).loc Cert.PostOddPromptIdeal.main_arg0)
      ∧ r.2.mem ((c.tc : Thread Cert.PostOddPromptIdeal.nD Cert.PostOddPromptIdeal.τ).loc Cert.PostOddPromptIdeal.main_arg1) = m ((c.tc : Thread Cert.PostOddPromptIdeal.nD Cert.PostOddPromptIdeal.τ).loc Cert.PostOddPromptIdeal.main_arg1)
      ∧ r.2.mem ((c.tc : Thread Cert.PostOddPromptIdeal.nD Cert.PostOddPromptIdeal.τ).loc Cert.PostOddPromptIdeal.main_arg2) = m ((c.tc : Thread Cert.PostOddPromptIdeal.nD Cert.PostOddPromptIdeal.τ).loc Cert.PostOddPromptIdeal.main_arg2)
      ∧ r.2.mem ((c.tc : Thread Cert.PostOddPromptIdeal.nD Cert.PostOddPromptIdeal.τ).loc Cert.PostOddPromptIdeal.main_arg3) = m ((c.tc : Thread Cert.PostOddPromptIdeal.nD Cert.PostOddPromptIdeal.τ).loc Cert.PostOddPromptIdeal.main_arg3)
      ∧ r.2.mem ((c.tc : Thread Cert.PostOddPromptIdeal.nD Cert.PostOddPromptIdeal.τ).loc Cert.PostOddPromptIdeal.main_arg4) = m ((c.tc : Thread Cert.PostOddPromptIdeal.nD Cert.PostOddPromptIdeal.τ).loc Cert.PostOddPromptIdeal.main_arg4)
      ∧ r.2.mem ((c.tc : Thread Cert.PostOddPromptIdeal.nD Cert.PostOddPromptIdeal.τ).loc Cert.PostOddPromptIdeal.main_arg5) = m ((c.tc : Thread Cert.PostOddPromptIdeal.nD Cert.PostOddPromptIdeal.τ).loc Cert.PostOddPromptIdeal.main_arg5)
      ∧ r.2.mem ((c.tc : Thread Cert.PostOddPromptIdeal.nD Cert.PostOddPromptIdeal.τ).loc Cert.PostOddPromptIdeal.main_arg6) = m ((c.tc : Thread Cert.PostOddPromptIdeal.nD Cert.PostOddPromptIdeal.τ).loc Cert.PostOddPromptIdeal.main_arg6)
      ∧ r.2.mem ((c.tc : Thread Cert.PostOddPromptIdeal.nD Cert.PostOddPromptIdeal.τ).loc Cert.PostOddPromptIdeal.main_arg7) = m ((c.tc : Thread Cert.PostOddPromptIdeal.nD Cert.PostOddPromptIdeal.τ).loc Cert.PostOddPromptIdeal.main_arg7)
      ∧ r.2.mem ((c.tc : Thread Cert.PostOddPromptIdeal.nD Cert.PostOddPromptIdeal.τ).loc Cert.PostOddPromptIdeal.main_arg8) = m ((c.tc : Thread Cert.PostOddPromptIdeal.nD Cert.PostOddPromptIdeal.τ).loc Cert.PostOddPromptIdeal.main_arg8)
      ∧ r.2.mem ((c.tc : Thread Cert.PostOddPromptIdeal.nD Cert.PostOddPromptIdeal.τ).loc Cert.PostOddPromptIdeal.main_arg9) = m ((c.tc : Thread Cert.PostOddPromptIdeal.nD Cert.PostOddPromptIdeal.τ).loc Cert.PostOddPromptIdeal.main_arg9)
      ∧ r.2.mem ((c.tc : Thread Cert.PostOddPromptIdeal.nD Cert.PostOddPromptIdeal.τ).loc Cert.PostOddPromptIdeal.main_arg10) = m ((c.tc : Thread Cert.PostOddPromptIdeal.nD Cert.PostOddPromptIdeal.τ).loc Cert.PostOddPromptIdeal.main_arg10)
      ∧ r.2.mem ((c.tc : Thread Cert.PostOddPromptIdeal.nD Cert.PostOddPromptIdeal.τ).loc Cert.PostOddPromptIdeal.main_arg11) = m ((c.tc : Thread Cert.PostOddPromptIdeal.nD Cert.PostOddPromptIdeal.τ).loc Cert.PostOddPromptIdeal.main_arg11)
      ∧ r.2.mem ((c.tc : Thread Cert.PostOddPromptIdeal.nD Cert.PostOddPromptIdeal.τ).loc Cert.PostOddPromptIdeal.main_arg12) = m ((c.tc : Thread Cert.PostOddPromptIdeal.nD Cert.PostOddPromptIdeal.τ).loc Cert.PostOddPromptIdeal.main_arg12))
      ∧ r.2.sem = fun _ => 0)

def quiescent_PostOddPromptRefIdeal [hPostOddPromptRefIdeal : Cert.PostOddPromptRefIdeal.Facts] : Prop :=
  ∀ (m : (ℓ : Loc Cert.PostOddPromptRefIdeal.nD Cert.PostOddPromptRefIdeal.τ Cert.PostOddPromptRefIdeal.sig) → Buf (Elt Ideal) ℓ) (g : Dev Cert.PostOddPromptRefIdeal.nD → PrngReg), Pre_PostOddPromptRefIdeal m →
    θ_run (Cert.PostOddPromptRefIdeal.defs (F := Ideal)) (onTc (τ := Cert.PostOddPromptRefIdeal.τ) (Cert.PostOddPromptRefIdeal.main (F := Ideal))) ⟨m, fun _ => 0, g⟩ (fun r => (∀ c : Dev Cert.PostOddPromptRefIdeal.nD,
      r.2.mem ((c.tc : Thread Cert.PostOddPromptRefIdeal.nD Cert.PostOddPromptRefIdeal.τ).loc Cert.PostOddPromptRefIdeal.main_arg0) = m ((c.tc : Thread Cert.PostOddPromptRefIdeal.nD Cert.PostOddPromptRefIdeal.τ).loc Cert.PostOddPromptRefIdeal.main_arg0)
      ∧ r.2.mem ((c.tc : Thread Cert.PostOddPromptRefIdeal.nD Cert.PostOddPromptRefIdeal.τ).loc Cert.PostOddPromptRefIdeal.main_arg1) = m ((c.tc : Thread Cert.PostOddPromptRefIdeal.nD Cert.PostOddPromptRefIdeal.τ).loc Cert.PostOddPromptRefIdeal.main_arg1)
      ∧ r.2.mem ((c.tc : Thread Cert.PostOddPromptRefIdeal.nD Cert.PostOddPromptRefIdeal.τ).loc Cert.PostOddPromptRefIdeal.main_arg2) = m ((c.tc : Thread Cert.PostOddPromptRefIdeal.nD Cert.PostOddPromptRefIdeal.τ).loc Cert.PostOddPromptRefIdeal.main_arg2)
      ∧ r.2.mem ((c.tc : Thread Cert.PostOddPromptRefIdeal.nD Cert.PostOddPromptRefIdeal.τ).loc Cert.PostOddPromptRefIdeal.main_arg3) = m ((c.tc : Thread Cert.PostOddPromptRefIdeal.nD Cert.PostOddPromptRefIdeal.τ).loc Cert.PostOddPromptRefIdeal.main_arg3)
      ∧ r.2.mem ((c.tc : Thread Cert.PostOddPromptRefIdeal.nD Cert.PostOddPromptRefIdeal.τ).loc Cert.PostOddPromptRefIdeal.main_arg4) = m ((c.tc : Thread Cert.PostOddPromptRefIdeal.nD Cert.PostOddPromptRefIdeal.τ).loc Cert.PostOddPromptRefIdeal.main_arg4)
      ∧ r.2.mem ((c.tc : Thread Cert.PostOddPromptRefIdeal.nD Cert.PostOddPromptRefIdeal.τ).loc Cert.PostOddPromptRefIdeal.main_arg5) = m ((c.tc : Thread Cert.PostOddPromptRefIdeal.nD Cert.PostOddPromptRefIdeal.τ).loc Cert.PostOddPromptRefIdeal.main_arg5)
      ∧ r.2.mem ((c.tc : Thread Cert.PostOddPromptRefIdeal.nD Cert.PostOddPromptRefIdeal.τ).loc Cert.PostOddPromptRefIdeal.main_arg6) = m ((c.tc : Thread Cert.PostOddPromptRefIdeal.nD Cert.PostOddPromptRefIdeal.τ).loc Cert.PostOddPromptRefIdeal.main_arg6)
      ∧ r.2.mem ((c.tc : Thread Cert.PostOddPromptRefIdeal.nD Cert.PostOddPromptRefIdeal.τ).loc Cert.PostOddPromptRefIdeal.main_arg7) = m ((c.tc : Thread Cert.PostOddPromptRefIdeal.nD Cert.PostOddPromptRefIdeal.τ).loc Cert.PostOddPromptRefIdeal.main_arg7)
      ∧ r.2.mem ((c.tc : Thread Cert.PostOddPromptRefIdeal.nD Cert.PostOddPromptRefIdeal.τ).loc Cert.PostOddPromptRefIdeal.main_arg8) = m ((c.tc : Thread Cert.PostOddPromptRefIdeal.nD Cert.PostOddPromptRefIdeal.τ).loc Cert.PostOddPromptRefIdeal.main_arg8)
      ∧ r.2.mem ((c.tc : Thread Cert.PostOddPromptRefIdeal.nD Cert.PostOddPromptRefIdeal.τ).loc Cert.PostOddPromptRefIdeal.main_arg9) = m ((c.tc : Thread Cert.PostOddPromptRefIdeal.nD Cert.PostOddPromptRefIdeal.τ).loc Cert.PostOddPromptRefIdeal.main_arg9)
      ∧ r.2.mem ((c.tc : Thread Cert.PostOddPromptRefIdeal.nD Cert.PostOddPromptRefIdeal.τ).loc Cert.PostOddPromptRefIdeal.main_arg10) = m ((c.tc : Thread Cert.PostOddPromptRefIdeal.nD Cert.PostOddPromptRefIdeal.τ).loc Cert.PostOddPromptRefIdeal.main_arg10)
      ∧ r.2.mem ((c.tc : Thread Cert.PostOddPromptRefIdeal.nD Cert.PostOddPromptRefIdeal.τ).loc Cert.PostOddPromptRefIdeal.main_arg11) = m ((c.tc : Thread Cert.PostOddPromptRefIdeal.nD Cert.PostOddPromptRefIdeal.τ).loc Cert.PostOddPromptRefIdeal.main_arg11)
      ∧ r.2.mem ((c.tc : Thread Cert.PostOddPromptRefIdeal.nD Cert.PostOddPromptRefIdeal.τ).loc Cert.PostOddPromptRefIdeal.main_arg12) = m ((c.tc : Thread Cert.PostOddPromptRefIdeal.nD Cert.PostOddPromptRefIdeal.τ).loc Cert.PostOddPromptRefIdeal.main_arg12))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4)
      ∧ r.2.mem ((c.tc : Thread Cert.EvenIn.nD Cert.EvenIn.τ).loc Cert.EvenIn.main_arg5) = m ((c.tc : Thread Cert.EvenIn.nD Cert.EvenIn.τ).loc Cert.EvenIn.main_arg5))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
      ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4)
      ∧ r.2.mem ((c.tc : Thread Cert.EvenInRefIdeal.nD Cert.EvenInRefIdeal.τ).loc Cert.EvenInRefIdeal.main_arg5) = m ((c.tc : Thread Cert.EvenInRefIdeal.nD Cert.EvenInRefIdeal.τ).loc Cert.EvenInRefIdeal.main_arg5))
      ∧ r.2.sem = fun _ => 0)

def preserves_LatAttn_LatAttnIdeal : Prop :=
  True

def algebraic_LatAttnIdeal_LatRefIdeal_pre_lat_inputs [hLatAttnIdeal : Cert.LatAttnIdeal.Facts] [hLatRefIdeal : Cert.LatRefIdeal.Facts] [hPre_lat_inputs : Cert.Pre_lat_inputs.Facts] : Prop :=
  ∀ (m : (ℓ : Loc Cert.LatAttnIdeal.nD Cert.LatAttnIdeal.τ Cert.LatAttnIdeal.sig) → Buf (Elt Ideal) ℓ) (g : Dev Cert.LatAttnIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatAttnIdeal_lat_inputs m →
    (∀ c : Dev Cert.LatAttnIdeal.nD,
      m' ((c.tc : Thread Cert.LatRefIdeal.nD Cert.LatRefIdeal.τ).loc Cert.LatRefIdeal.main_arg0) = m ((c.tc : Thread Cert.LatAttnIdeal.nD Cert.LatAttnIdeal.τ).loc Cert.LatAttnIdeal.main_arg0)
      ∧ m' ((c.tc : Thread Cert.LatRefIdeal.nD Cert.LatRefIdeal.τ).loc Cert.LatRefIdeal.main_arg1) = m ((c.tc : Thread Cert.LatAttnIdeal.nD Cert.LatAttnIdeal.τ).loc Cert.LatAttnIdeal.main_arg1)
      ∧ m' ((c.tc : Thread Cert.LatRefIdeal.nD Cert.LatRefIdeal.τ).loc Cert.LatRefIdeal.main_arg2) = m ((c.tc : Thread Cert.LatAttnIdeal.nD Cert.LatAttnIdeal.τ).loc Cert.LatAttnIdeal.main_arg2)
      ∧ m' ((c.tc : Thread Cert.LatRefIdeal.nD Cert.LatRefIdeal.τ).loc Cert.LatRefIdeal.main_arg3) = m ((c.tc : Thread Cert.LatAttnIdeal.nD Cert.LatAttnIdeal.τ).loc Cert.LatAttnIdeal.main_arg3)
      ∧ m' ((c.tc : Thread Cert.LatRefIdeal.nD Cert.LatRefIdeal.τ).loc Cert.LatRefIdeal.main_arg4) = m ((c.tc : Thread Cert.LatAttnIdeal.nD Cert.LatAttnIdeal.τ).loc Cert.LatAttnIdeal.main_arg4)
      ∧ m' ((c.tc : Thread Cert.LatRefIdeal.nD Cert.LatRefIdeal.τ).loc Cert.LatRefIdeal.main_arg5) = m ((c.tc : Thread Cert.LatAttnIdeal.nD Cert.LatAttnIdeal.τ).loc Cert.LatAttnIdeal.main_arg5)) →
    ∃ (v0 : (c : Dev Cert.LatAttnIdeal.nD) → Buf (Elt Ideal) ((c.tc : Thread Cert.LatAttnIdeal.nD Cert.LatAttnIdeal.τ).loc Cert.LatAttnIdeal.main_v10)),
      θ_run (Cert.LatAttnIdeal.defs (F := Ideal)) (onTc (τ := Cert.LatAttnIdeal.τ) (Cert.LatAttnIdeal.main (F := Ideal))) ⟨m, fun _ => 0, g⟩ (fun r => ∀ c : Dev Cert.LatAttnIdeal.nD,
          r.2.mem ((c.tc : Thread Cert.LatAttnIdeal.nD Cert.LatAttnIdeal.τ).loc Cert.LatAttnIdeal.main_v10) = v0 c
          ∧ r.2.mem ((c.tc : Thread Cert.LatAttnIdeal.nD Cert.LatAttnIdeal.τ).loc Cert.LatAttnIdeal.main_arg0) = m ((c.tc : Thread Cert.LatAttnIdeal.nD Cert.LatAttnIdeal.τ).loc Cert.LatAttnIdeal.main_arg0)
          ∧ r.2.mem ((c.tc : Thread Cert.LatAttnIdeal.nD Cert.LatAttnIdeal.τ).loc Cert.LatAttnIdeal.main_arg1) = m ((c.tc : Thread Cert.LatAttnIdeal.nD Cert.LatAttnIdeal.τ).loc Cert.LatAttnIdeal.main_arg1)
          ∧ r.2.mem ((c.tc : Thread Cert.LatAttnIdeal.nD Cert.LatAttnIdeal.τ).loc Cert.LatAttnIdeal.main_arg2) = m ((c.tc : Thread Cert.LatAttnIdeal.nD Cert.LatAttnIdeal.τ).loc Cert.LatAttnIdeal.main_arg2)
          ∧ r.2.mem ((c.tc : Thread Cert.LatAttnIdeal.nD Cert.LatAttnIdeal.τ).loc Cert.LatAttnIdeal.main_arg3) = m ((c.tc : Thread Cert.LatAttnIdeal.nD Cert.LatAttnIdeal.τ).loc Cert.LatAttnIdeal.main_arg3)
          ∧ r.2.mem ((c.tc : Thread Cert.LatAttnIdeal.nD Cert.LatAttnIdeal.τ).loc Cert.LatAttnIdeal.main_arg4) = m ((c.tc : Thread Cert.LatAttnIdeal.nD Cert.LatAttnIdeal.τ).loc Cert.LatAttnIdeal.main_arg4)
          ∧ r.2.mem ((c.tc : Thread Cert.LatAttnIdeal.nD Cert.LatAttnIdeal.τ).loc Cert.LatAttnIdeal.main_arg5) = m ((c.tc : Thread Cert.LatAttnIdeal.nD Cert.LatAttnIdeal.τ).loc Cert.LatAttnIdeal.main_arg5))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v110) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
          ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5))

def preserves_CtxAttn_CtxAttnIdeal : Prop :=
  True

def algebraic_CtxAttnIdeal_CtxRefIdeal_pre_ctx_finite [hCtxAttnIdeal : Cert.CtxAttnIdeal.Facts] [hCtxRefIdeal : Cert.CtxRefIdeal.Facts] [hPre_ctx_finite : Cert.Pre_ctx_finite.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxAttnIdeal_ctx_finite m →
    (∀ c : Dev Cert.CtxAttnIdeal.nD,
      m' ((c.tc : Thread Cert.CtxRefIdeal.nD Cert.CtxRefIdeal.τ).loc Cert.CtxRefIdeal.main_arg0) = m ((c.tc : Thread Cert.CtxAttnIdeal.nD Cert.CtxAttnIdeal.τ).loc Cert.CtxAttnIdeal.main_arg0)
      ∧ m' ((c.tc : Thread Cert.CtxRefIdeal.nD Cert.CtxRefIdeal.τ).loc Cert.CtxRefIdeal.main_arg1) = m ((c.tc : Thread Cert.CtxAttnIdeal.nD Cert.CtxAttnIdeal.τ).loc Cert.CtxAttnIdeal.main_arg1)
      ∧ m' ((c.tc : Thread Cert.CtxRefIdeal.nD Cert.CtxRefIdeal.τ).loc Cert.CtxRefIdeal.main_arg2) = m ((c.tc : Thread Cert.CtxAttnIdeal.nD Cert.CtxAttnIdeal.τ).loc Cert.CtxAttnIdeal.main_arg2)) →
    ∃ (v0 : (c : Dev Cert.CtxAttnIdeal.nD) → Buf (Elt Ideal) ((c.tc : Thread Cert.CtxAttnIdeal.nD Cert.CtxAttnIdeal.τ).loc Cert.CtxAttnIdeal.main_v0)),
      θ_run (Cert.CtxAttnIdeal.defs (F := Ideal)) (onTc (τ := Cert.CtxAttnIdeal.τ) (Cert.CtxAttnIdeal.main (F := Ideal))) ⟨m, fun _ => 0, g⟩ (fun r => ∀ c : Dev Cert.CtxAttnIdeal.nD,
          r.2.mem ((c.tc : Thread Cert.CtxAttnIdeal.nD Cert.CtxAttnIdeal.τ).loc Cert.CtxAttnIdeal.main_v0) = v0 c
          ∧ r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
          ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
          ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v24) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2))

def preserves_PostOdd_PostOddIdeal : Prop :=
  True

def algebraic_PostOddIdeal_PostOddRefIdeal [hPostOddIdeal : Cert.PostOddIdeal.Facts] [hPostOddRefIdeal : Cert.PostOddRefIdeal.Facts] : Prop :=
  ∀ (m : (ℓ : Loc Cert.PostOddIdeal.nD Cert.PostOddIdeal.τ Cert.PostOddIdeal.sig) → Buf (Elt Ideal) ℓ) (g : Dev Cert.PostOddIdeal.nD → PrngReg)
    (m' : (ℓ : Loc Cert.PostOddRefIdeal.nD Cert.PostOddRefIdeal.τ Cert.PostOddRefIdeal.sig) → Buf (Elt Ideal) ℓ) (g' : Dev Cert.PostOddRefIdeal.nD → PrngReg), Pre_PostOddIdeal m →
    (∀ c : Dev Cert.PostOddIdeal.nD,
      m' ((c.tc : Thread Cert.PostOddRefIdeal.nD Cert.PostOddRefIdeal.τ).loc Cert.PostOddRefIdeal.main_arg0) = m ((c.tc : Thread Cert.PostOddIdeal.nD Cert.PostOddIdeal.τ).loc Cert.PostOddIdeal.main_arg0)
      ∧ m' ((c.tc : Thread Cert.PostOddRefIdeal.nD Cert.PostOddRefIdeal.τ).loc Cert.PostOddRefIdeal.main_arg1) = m ((c.tc : Thread Cert.PostOddIdeal.nD Cert.PostOddIdeal.τ).loc Cert.PostOddIdeal.main_arg1)
      ∧ m' ((c.tc : Thread Cert.PostOddRefIdeal.nD Cert.PostOddRefIdeal.τ).loc Cert.PostOddRefIdeal.main_arg2) = m ((c.tc : Thread Cert.PostOddIdeal.nD Cert.PostOddIdeal.τ).loc Cert.PostOddIdeal.main_arg2)
      ∧ m' ((c.tc : Thread Cert.PostOddRefIdeal.nD Cert.PostOddRefIdeal.τ).loc Cert.PostOddRefIdeal.main_arg3) = m ((c.tc : Thread Cert.PostOddIdeal.nD Cert.PostOddIdeal.τ).loc Cert.PostOddIdeal.main_arg3)
      ∧ m' ((c.tc : Thread Cert.PostOddRefIdeal.nD Cert.PostOddRefIdeal.τ).loc Cert.PostOddRefIdeal.main_arg4) = m ((c.tc : Thread Cert.PostOddIdeal.nD Cert.PostOddIdeal.τ).loc Cert.PostOddIdeal.main_arg4)
      ∧ m' ((c.tc : Thread Cert.PostOddRefIdeal.nD Cert.PostOddRefIdeal.τ).loc Cert.PostOddRefIdeal.main_arg5) = m ((c.tc : Thread Cert.PostOddIdeal.nD Cert.PostOddIdeal.τ).loc Cert.PostOddIdeal.main_arg5)
      ∧ m' ((c.tc : Thread Cert.PostOddRefIdeal.nD Cert.PostOddRefIdeal.τ).loc Cert.PostOddRefIdeal.main_arg6) = m ((c.tc : Thread Cert.PostOddIdeal.nD Cert.PostOddIdeal.τ).loc Cert.PostOddIdeal.main_arg6)
      ∧ m' ((c.tc : Thread Cert.PostOddRefIdeal.nD Cert.PostOddRefIdeal.τ).loc Cert.PostOddRefIdeal.main_arg7) = m ((c.tc : Thread Cert.PostOddIdeal.nD Cert.PostOddIdeal.τ).loc Cert.PostOddIdeal.main_arg7)
      ∧ m' ((c.tc : Thread Cert.PostOddRefIdeal.nD Cert.PostOddRefIdeal.τ).loc Cert.PostOddRefIdeal.main_arg8) = m ((c.tc : Thread Cert.PostOddIdeal.nD Cert.PostOddIdeal.τ).loc Cert.PostOddIdeal.main_arg8)
      ∧ m' ((c.tc : Thread Cert.PostOddRefIdeal.nD Cert.PostOddRefIdeal.τ).loc Cert.PostOddRefIdeal.main_arg9) = m ((c.tc : Thread Cert.PostOddIdeal.nD Cert.PostOddIdeal.τ).loc Cert.PostOddIdeal.main_arg9)
      ∧ m' ((c.tc : Thread Cert.PostOddRefIdeal.nD Cert.PostOddRefIdeal.τ).loc Cert.PostOddRefIdeal.main_arg10) = m ((c.tc : Thread Cert.PostOddIdeal.nD Cert.PostOddIdeal.τ).loc Cert.PostOddIdeal.main_arg10)
      ∧ m' ((c.tc : Thread Cert.PostOddRefIdeal.nD Cert.PostOddRefIdeal.τ).loc Cert.PostOddRefIdeal.main_arg11) = m ((c.tc : Thread Cert.PostOddIdeal.nD Cert.PostOddIdeal.τ).loc Cert.PostOddIdeal.main_arg11)
      ∧ m' ((c.tc : Thread Cert.PostOddRefIdeal.nD Cert.PostOddRefIdeal.τ).loc Cert.PostOddRefIdeal.main_arg12) = m ((c.tc : Thread Cert.PostOddIdeal.nD Cert.PostOddIdeal.τ).loc Cert.PostOddIdeal.main_arg12)) →
    ∃ (v0 : (c : Dev Cert.PostOddIdeal.nD) → Buf (Elt Ideal) ((c.tc : Thread Cert.PostOddIdeal.nD Cert.PostOddIdeal.τ).loc Cert.PostOddIdeal.main_v29)),
      θ_run (Cert.PostOddIdeal.defs (F := Ideal)) (onTc (τ := Cert.PostOddIdeal.τ) (Cert.PostOddIdeal.main (F := Ideal))) ⟨m, fun _ => 0, g⟩ (fun r => ∀ c : Dev Cert.PostOddIdeal.nD,
          r.2.mem ((c.tc : Thread Cert.PostOddIdeal.nD Cert.PostOddIdeal.τ).loc Cert.PostOddIdeal.main_v29) = v0 c
          ∧ r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
          ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
          ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
          ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
          ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
          ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
          ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
          ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
          ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8)
          ∧ r.2.mem ((c.tc : Thread Cert.PostOddIdeal.nD Cert.PostOddIdeal.τ).loc Cert.PostOddIdeal.main_arg9) = m ((c.tc : Thread Cert.PostOddIdeal.nD Cert.PostOddIdeal.τ).loc Cert.PostOddIdeal.main_arg9)
          ∧ r.2.mem ((c.tc : Thread Cert.PostOddIdeal.nD Cert.PostOddIdeal.τ).loc Cert.PostOddIdeal.main_arg10) = m ((c.tc : Thread Cert.PostOddIdeal.nD Cert.PostOddIdeal.τ).loc Cert.PostOddIdeal.main_arg10)
          ∧ r.2.mem ((c.tc : Thread Cert.PostOddIdeal.nD Cert.PostOddIdeal.τ).loc Cert.PostOddIdeal.main_arg11) = m ((c.tc : Thread Cert.PostOddIdeal.nD Cert.PostOddIdeal.τ).loc Cert.PostOddIdeal.main_arg11)
          ∧ r.2.mem ((c.tc : Thread Cert.PostOddIdeal.nD Cert.PostOddIdeal.τ).loc Cert.PostOddIdeal.main_arg12) = m ((c.tc : Thread Cert.PostOddIdeal.nD Cert.PostOddIdeal.τ).loc Cert.PostOddIdeal.main_arg12))
      ∧ θ_run (Cert.PostOddRefIdeal.defs (F := Ideal)) (onTc (τ := Cert.PostOddRefIdeal.τ) (Cert.PostOddRefIdeal.main (F := Ideal))) ⟨m', fun _ => 0, g'⟩ (fun r => ∀ c : Dev Cert.PostOddRefIdeal.nD,
          r.2.mem ((c.tc : Thread Cert.PostOddRefIdeal.nD Cert.PostOddRefIdeal.τ).loc Cert.PostOddRefIdeal.main_v122) = v0 c
          ∧ r.2.mem ((c.tc : Thread Cert.PostOddRefIdeal.nD Cert.PostOddRefIdeal.τ).loc Cert.PostOddRefIdeal.main_arg0) = m' ((c.tc : Thread Cert.PostOddRefIdeal.nD Cert.PostOddRefIdeal.τ).loc Cert.PostOddRefIdeal.main_arg0)
          ∧ r.2.mem ((c.tc : Thread Cert.PostOddRefIdeal.nD Cert.PostOddRefIdeal.τ).loc Cert.PostOddRefIdeal.main_arg1) = m' ((c.tc : Thread Cert.PostOddRefIdeal.nD Cert.PostOddRefIdeal.τ).loc Cert.PostOddRefIdeal.main_arg1)
          ∧ r.2.mem ((c.tc : Thread Cert.PostOddRefIdeal.nD Cert.PostOddRefIdeal.τ).loc Cert.PostOddRefIdeal.main_arg2) = m' ((c.tc : Thread Cert.PostOddRefIdeal.nD Cert.PostOddRefIdeal.τ).loc Cert.PostOddRefIdeal.main_arg2)
          ∧ r.2.mem ((c.tc : Thread Cert.PostOddRefIdeal.nD Cert.PostOddRefIdeal.τ).loc Cert.PostOddRefIdeal.main_arg3) = m' ((c.tc : Thread Cert.PostOddRefIdeal.nD Cert.PostOddRefIdeal.τ).loc Cert.PostOddRefIdeal.main_arg3)
          ∧ r.2.mem ((c.tc : Thread Cert.PostOddRefIdeal.nD Cert.PostOddRefIdeal.τ).loc Cert.PostOddRefIdeal.main_arg4) = m' ((c.tc : Thread Cert.PostOddRefIdeal.nD Cert.PostOddRefIdeal.τ).loc Cert.PostOddRefIdeal.main_arg4)
          ∧ r.2.mem ((c.tc : Thread Cert.PostOddRefIdeal.nD Cert.PostOddRefIdeal.τ).loc Cert.PostOddRefIdeal.main_arg5) = m' ((c.tc : Thread Cert.PostOddRefIdeal.nD Cert.PostOddRefIdeal.τ).loc Cert.PostOddRefIdeal.main_arg5)
          ∧ r.2.mem ((c.tc : Thread Cert.PostOddRefIdeal.nD Cert.PostOddRefIdeal.τ).loc Cert.PostOddRefIdeal.main_arg6) = m' ((c.tc : Thread Cert.PostOddRefIdeal.nD Cert.PostOddRefIdeal.τ).loc Cert.PostOddRefIdeal.main_arg6)
          ∧ r.2.mem ((c.tc : Thread Cert.PostOddRefIdeal.nD Cert.PostOddRefIdeal.τ).loc Cert.PostOddRefIdeal.main_arg7) = m' ((c.tc : Thread Cert.PostOddRefIdeal.nD Cert.PostOddRefIdeal.τ).loc Cert.PostOddRefIdeal.main_arg7)
          ∧ r.2.mem ((c.tc : Thread Cert.PostOddRefIdeal.nD Cert.PostOddRefIdeal.τ).loc Cert.PostOddRefIdeal.main_arg8) = m' ((c.tc : Thread Cert.PostOddRefIdeal.nD Cert.PostOddRefIdeal.τ).loc Cert.PostOddRefIdeal.main_arg8)
          ∧ r.2.mem ((c.tc : Thread Cert.PostOddRefIdeal.nD Cert.PostOddRefIdeal.τ).loc Cert.PostOddRefIdeal.main_arg9) = m' ((c.tc : Thread Cert.PostOddRefIdeal.nD Cert.PostOddRefIdeal.τ).loc Cert.PostOddRefIdeal.main_arg9)
          ∧ r.2.mem ((c.tc : Thread Cert.PostOddRefIdeal.nD Cert.PostOddRefIdeal.τ).loc Cert.PostOddRefIdeal.main_arg10) = m' ((c.tc : Thread Cert.PostOddRefIdeal.nD Cert.PostOddRefIdeal.τ).loc Cert.PostOddRefIdeal.main_arg10)
          ∧ r.2.mem ((c.tc : Thread Cert.PostOddRefIdeal.nD Cert.PostOddRefIdeal.τ).loc Cert.PostOddRefIdeal.main_arg11) = m' ((c.tc : Thread Cert.PostOddRefIdeal.nD Cert.PostOddRefIdeal.τ).loc Cert.PostOddRefIdeal.main_arg11)
          ∧ r.2.mem ((c.tc : Thread Cert.PostOddRefIdeal.nD Cert.PostOddRefIdeal.τ).loc Cert.PostOddRefIdeal.main_arg12) = m' ((c.tc : Thread Cert.PostOddRefIdeal.nD Cert.PostOddRefIdeal.τ).loc Cert.PostOddRefIdeal.main_arg12))

def preserves_PostEven_PostEvenIdeal : Prop :=
  True

def algebraic_PostEvenIdeal_PostEvenRefIdeal [hPostEvenIdeal : Cert.PostEvenIdeal.Facts] [hPostEvenRefIdeal : Cert.PostEvenRefIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg)
    (m' : (ℓ : Loc Cert.PostEvenRefIdeal.nD Cert.PostEvenRefIdeal.τ Cert.PostEvenRefIdeal.sig) → Buf (Elt Ideal) ℓ) (g' : Dev Cert.PostEvenRefIdeal.nD → PrngReg), Pre_PostEvenIdeal m →
    (∀ c : Dev Cert.PostEvenIdeal.nD,
      m' ((c.tc : Thread Cert.PostEvenRefIdeal.nD Cert.PostEvenRefIdeal.τ).loc Cert.PostEvenRefIdeal.main_arg0) = m ((c.tc : Thread Cert.PostEvenIdeal.nD Cert.PostEvenIdeal.τ).loc Cert.PostEvenIdeal.main_arg0)
      ∧ m' ((c.tc : Thread Cert.PostEvenRefIdeal.nD Cert.PostEvenRefIdeal.τ).loc Cert.PostEvenRefIdeal.main_arg1) = m ((c.tc : Thread Cert.PostEvenIdeal.nD Cert.PostEvenIdeal.τ).loc Cert.PostEvenIdeal.main_arg1)
      ∧ m' ((c.tc : Thread Cert.PostEvenRefIdeal.nD Cert.PostEvenRefIdeal.τ).loc Cert.PostEvenRefIdeal.main_arg2) = m ((c.tc : Thread Cert.PostEvenIdeal.nD Cert.PostEvenIdeal.τ).loc Cert.PostEvenIdeal.main_arg2)
      ∧ m' ((c.tc : Thread Cert.PostEvenRefIdeal.nD Cert.PostEvenRefIdeal.τ).loc Cert.PostEvenRefIdeal.main_arg3) = m ((c.tc : Thread Cert.PostEvenIdeal.nD Cert.PostEvenIdeal.τ).loc Cert.PostEvenIdeal.main_arg3)
      ∧ m' ((c.tc : Thread Cert.PostEvenRefIdeal.nD Cert.PostEvenRefIdeal.τ).loc Cert.PostEvenRefIdeal.main_arg4) = m ((c.tc : Thread Cert.PostEvenIdeal.nD Cert.PostEvenIdeal.τ).loc Cert.PostEvenIdeal.main_arg4)
      ∧ m' ((c.tc : Thread Cert.PostEvenRefIdeal.nD Cert.PostEvenRefIdeal.τ).loc Cert.PostEvenRefIdeal.main_arg5) = m ((c.tc : Thread Cert.PostEvenIdeal.nD Cert.PostEvenIdeal.τ).loc Cert.PostEvenIdeal.main_arg5)
      ∧ m' ((c.tc : Thread Cert.PostEvenRefIdeal.nD Cert.PostEvenRefIdeal.τ).loc Cert.PostEvenRefIdeal.main_arg6) = m ((c.tc : Thread Cert.PostEvenIdeal.nD Cert.PostEvenIdeal.τ).loc Cert.PostEvenIdeal.main_arg6)
      ∧ m' ((c.tc : Thread Cert.PostEvenRefIdeal.nD Cert.PostEvenRefIdeal.τ).loc Cert.PostEvenRefIdeal.main_arg7) = m ((c.tc : Thread Cert.PostEvenIdeal.nD Cert.PostEvenIdeal.τ).loc Cert.PostEvenIdeal.main_arg7)
      ∧ m' ((c.tc : Thread Cert.PostEvenRefIdeal.nD Cert.PostEvenRefIdeal.τ).loc Cert.PostEvenRefIdeal.main_arg8) = m ((c.tc : Thread Cert.PostEvenIdeal.nD Cert.PostEvenIdeal.τ).loc Cert.PostEvenIdeal.main_arg8)
      ∧ m' ((c.tc : Thread Cert.PostEvenRefIdeal.nD Cert.PostEvenRefIdeal.τ).loc Cert.PostEvenRefIdeal.main_arg9) = m ((c.tc : Thread Cert.PostEvenIdeal.nD Cert.PostEvenIdeal.τ).loc Cert.PostEvenIdeal.main_arg9)
      ∧ m' ((c.tc : Thread Cert.PostEvenRefIdeal.nD Cert.PostEvenRefIdeal.τ).loc Cert.PostEvenRefIdeal.main_arg10) = m ((c.tc : Thread Cert.PostEvenIdeal.nD Cert.PostEvenIdeal.τ).loc Cert.PostEvenIdeal.main_arg10)
      ∧ m' ((c.tc : Thread Cert.PostEvenRefIdeal.nD Cert.PostEvenRefIdeal.τ).loc Cert.PostEvenRefIdeal.main_arg11) = m ((c.tc : Thread Cert.PostEvenIdeal.nD Cert.PostEvenIdeal.τ).loc Cert.PostEvenIdeal.main_arg11)
      ∧ m' ((c.tc : Thread Cert.PostEvenRefIdeal.nD Cert.PostEvenRefIdeal.τ).loc Cert.PostEvenRefIdeal.main_arg12) = m ((c.tc : Thread Cert.PostEvenIdeal.nD Cert.PostEvenIdeal.τ).loc Cert.PostEvenIdeal.main_arg12)
      ∧ m' ((c.tc : Thread Cert.PostEvenRefIdeal.nD Cert.PostEvenRefIdeal.τ).loc Cert.PostEvenRefIdeal.main_arg13) = m ((c.tc : Thread Cert.PostEvenIdeal.nD Cert.PostEvenIdeal.τ).loc Cert.PostEvenIdeal.main_arg13)
      ∧ m' ((c.tc : Thread Cert.PostEvenRefIdeal.nD Cert.PostEvenRefIdeal.τ).loc Cert.PostEvenRefIdeal.main_arg14) = m ((c.tc : Thread Cert.PostEvenIdeal.nD Cert.PostEvenIdeal.τ).loc Cert.PostEvenIdeal.main_arg14)
      ∧ m' ((c.tc : Thread Cert.PostEvenRefIdeal.nD Cert.PostEvenRefIdeal.τ).loc Cert.PostEvenRefIdeal.main_arg15) = m ((c.tc : Thread Cert.PostEvenIdeal.nD Cert.PostEvenIdeal.τ).loc Cert.PostEvenIdeal.main_arg15)) →
    ∃ (v0 : (c : Dev Cert.PostEvenIdeal.nD) → Buf (Elt Ideal) ((c.tc : Thread Cert.PostEvenIdeal.nD Cert.PostEvenIdeal.τ).loc Cert.PostEvenIdeal.main_v33)),
      θ_run (Cert.PostEvenIdeal.defs (F := Ideal)) (onTc (τ := Cert.PostEvenIdeal.τ) (Cert.PostEvenIdeal.main (F := Ideal))) ⟨m, fun _ => 0, g⟩ (fun r => ∀ c : Dev Cert.PostEvenIdeal.nD,
          r.2.mem ((c.tc : Thread Cert.PostEvenIdeal.nD Cert.PostEvenIdeal.τ).loc Cert.PostEvenIdeal.main_v33) = v0 c
          ∧ r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
          ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
          ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
          ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
          ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
          ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
          ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
          ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
          ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
          ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9)
          ∧ r.2.mem ((c.tc : Thread Cert.PostEvenIdeal.nD Cert.PostEvenIdeal.τ).loc Cert.PostEvenIdeal.main_arg10) = m ((c.tc : Thread Cert.PostEvenIdeal.nD Cert.PostEvenIdeal.τ).loc Cert.PostEvenIdeal.main_arg10)
          ∧ r.2.mem ((c.tc : Thread Cert.PostEvenIdeal.nD Cert.PostEvenIdeal.τ).loc Cert.PostEvenIdeal.main_arg11) = m ((c.tc : Thread Cert.PostEvenIdeal.nD Cert.PostEvenIdeal.τ).loc Cert.PostEvenIdeal.main_arg11)
          ∧ r.2.mem ((c.tc : Thread Cert.PostEvenIdeal.nD Cert.PostEvenIdeal.τ).loc Cert.PostEvenIdeal.main_arg12) = m ((c.tc : Thread Cert.PostEvenIdeal.nD Cert.PostEvenIdeal.τ).loc Cert.PostEvenIdeal.main_arg12)
          ∧ r.2.mem ((c.tc : Thread Cert.PostEvenIdeal.nD Cert.PostEvenIdeal.τ).loc Cert.PostEvenIdeal.main_arg13) = m ((c.tc : Thread Cert.PostEvenIdeal.nD Cert.PostEvenIdeal.τ).loc Cert.PostEvenIdeal.main_arg13)
          ∧ r.2.mem ((c.tc : Thread Cert.PostEvenIdeal.nD Cert.PostEvenIdeal.τ).loc Cert.PostEvenIdeal.main_arg14) = m ((c.tc : Thread Cert.PostEvenIdeal.nD Cert.PostEvenIdeal.τ).loc Cert.PostEvenIdeal.main_arg14)
          ∧ r.2.mem ((c.tc : Thread Cert.PostEvenIdeal.nD Cert.PostEvenIdeal.τ).loc Cert.PostEvenIdeal.main_arg15) = m ((c.tc : Thread Cert.PostEvenIdeal.nD Cert.PostEvenIdeal.τ).loc Cert.PostEvenIdeal.main_arg15))
      ∧ θ_run (Cert.PostEvenRefIdeal.defs (F := Ideal)) (onTc (τ := Cert.PostEvenRefIdeal.τ) (Cert.PostEvenRefIdeal.main (F := Ideal))) ⟨m', fun _ => 0, g'⟩ (fun r => ∀ c : Dev Cert.PostEvenRefIdeal.nD,
          r.2.mem ((c.tc : Thread Cert.PostEvenRefIdeal.nD Cert.PostEvenRefIdeal.τ).loc Cert.PostEvenRefIdeal.main_v140) = v0 c
          ∧ r.2.mem ((c.tc : Thread Cert.PostEvenRefIdeal.nD Cert.PostEvenRefIdeal.τ).loc Cert.PostEvenRefIdeal.main_arg0) = m' ((c.tc : Thread Cert.PostEvenRefIdeal.nD Cert.PostEvenRefIdeal.τ).loc Cert.PostEvenRefIdeal.main_arg0)
          ∧ r.2.mem ((c.tc : Thread Cert.PostEvenRefIdeal.nD Cert.PostEvenRefIdeal.τ).loc Cert.PostEvenRefIdeal.main_arg1) = m' ((c.tc : Thread Cert.PostEvenRefIdeal.nD Cert.PostEvenRefIdeal.τ).loc Cert.PostEvenRefIdeal.main_arg1)
          ∧ r.2.mem ((c.tc : Thread Cert.PostEvenRefIdeal.nD Cert.PostEvenRefIdeal.τ).loc Cert.PostEvenRefIdeal.main_arg2) = m' ((c.tc : Thread Cert.PostEvenRefIdeal.nD Cert.PostEvenRefIdeal.τ).loc Cert.PostEvenRefIdeal.main_arg2)
          ∧ r.2.mem ((c.tc : Thread Cert.PostEvenRefIdeal.nD Cert.PostEvenRefIdeal.τ).loc Cert.PostEvenRefIdeal.main_arg3) = m' ((c.tc : Thread Cert.PostEvenRefIdeal.nD Cert.PostEvenRefIdeal.τ).loc Cert.PostEvenRefIdeal.main_arg3)
          ∧ r.2.mem ((c.tc : Thread Cert.PostEvenRefIdeal.nD Cert.PostEvenRefIdeal.τ).loc Cert.PostEvenRefIdeal.main_arg4) = m' ((c.tc : Thread Cert.PostEvenRefIdeal.nD Cert.PostEvenRefIdeal.τ).loc Cert.PostEvenRefIdeal.main_arg4)
          ∧ r.2.mem ((c.tc : Thread Cert.PostEvenRefIdeal.nD Cert.PostEvenRefIdeal.τ).loc Cert.PostEvenRefIdeal.main_arg5) = m' ((c.tc : Thread Cert.PostEvenRefIdeal.nD Cert.PostEvenRefIdeal.τ).loc Cert.PostEvenRefIdeal.main_arg5)
          ∧ r.2.mem ((c.tc : Thread Cert.PostEvenRefIdeal.nD Cert.PostEvenRefIdeal.τ).loc Cert.PostEvenRefIdeal.main_arg6) = m' ((c.tc : Thread Cert.PostEvenRefIdeal.nD Cert.PostEvenRefIdeal.τ).loc Cert.PostEvenRefIdeal.main_arg6)
          ∧ r.2.mem ((c.tc : Thread Cert.PostEvenRefIdeal.nD Cert.PostEvenRefIdeal.τ).loc Cert.PostEvenRefIdeal.main_arg7) = m' ((c.tc : Thread Cert.PostEvenRefIdeal.nD Cert.PostEvenRefIdeal.τ).loc Cert.PostEvenRefIdeal.main_arg7)
          ∧ r.2.mem ((c.tc : Thread Cert.PostEvenRefIdeal.nD Cert.PostEvenRefIdeal.τ).loc Cert.PostEvenRefIdeal.main_arg8) = m' ((c.tc : Thread Cert.PostEvenRefIdeal.nD Cert.PostEvenRefIdeal.τ).loc Cert.PostEvenRefIdeal.main_arg8)
          ∧ r.2.mem ((c.tc : Thread Cert.PostEvenRefIdeal.nD Cert.PostEvenRefIdeal.τ).loc Cert.PostEvenRefIdeal.main_arg9) = m' ((c.tc : Thread Cert.PostEvenRefIdeal.nD Cert.PostEvenRefIdeal.τ).loc Cert.PostEvenRefIdeal.main_arg9)
          ∧ r.2.mem ((c.tc : Thread Cert.PostEvenRefIdeal.nD Cert.PostEvenRefIdeal.τ).loc Cert.PostEvenRefIdeal.main_arg10) = m' ((c.tc : Thread Cert.PostEvenRefIdeal.nD Cert.PostEvenRefIdeal.τ).loc Cert.PostEvenRefIdeal.main_arg10)
          ∧ r.2.mem ((c.tc : Thread Cert.PostEvenRefIdeal.nD Cert.PostEvenRefIdeal.τ).loc Cert.PostEvenRefIdeal.main_arg11) = m' ((c.tc : Thread Cert.PostEvenRefIdeal.nD Cert.PostEvenRefIdeal.τ).loc Cert.PostEvenRefIdeal.main_arg11)
          ∧ r.2.mem ((c.tc : Thread Cert.PostEvenRefIdeal.nD Cert.PostEvenRefIdeal.τ).loc Cert.PostEvenRefIdeal.main_arg12) = m' ((c.tc : Thread Cert.PostEvenRefIdeal.nD Cert.PostEvenRefIdeal.τ).loc Cert.PostEvenRefIdeal.main_arg12)
          ∧ r.2.mem ((c.tc : Thread Cert.PostEvenRefIdeal.nD Cert.PostEvenRefIdeal.τ).loc Cert.PostEvenRefIdeal.main_arg13) = m' ((c.tc : Thread Cert.PostEvenRefIdeal.nD Cert.PostEvenRefIdeal.τ).loc Cert.PostEvenRefIdeal.main_arg13)
          ∧ r.2.mem ((c.tc : Thread Cert.PostEvenRefIdeal.nD Cert.PostEvenRefIdeal.τ).loc Cert.PostEvenRefIdeal.main_arg14) = m' ((c.tc : Thread Cert.PostEvenRefIdeal.nD Cert.PostEvenRefIdeal.τ).loc Cert.PostEvenRefIdeal.main_arg14)
          ∧ r.2.mem ((c.tc : Thread Cert.PostEvenRefIdeal.nD Cert.PostEvenRefIdeal.τ).loc Cert.PostEvenRefIdeal.main_arg15) = m' ((c.tc : Thread Cert.PostEvenRefIdeal.nD Cert.PostEvenRefIdeal.τ).loc Cert.PostEvenRefIdeal.main_arg15))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v5)) (v1 : (c : Dev Cert.QkvIdeal.nD) → Buf (Elt Ideal) ((c.tc : Thread Cert.QkvIdeal.nD Cert.QkvIdeal.τ).loc Cert.QkvIdeal.main_v8)) (v2 : (c : Dev Cert.QkvIdeal.nD) → Buf (Elt Ideal) ((c.tc : Thread Cert.QkvIdeal.nD Cert.QkvIdeal.τ).loc Cert.QkvIdeal.main_v11)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5) = v0 c
          ∧ r.2.mem ((c.tc : Thread Cert.QkvIdeal.nD Cert.QkvIdeal.τ).loc Cert.QkvIdeal.main_v8) = v1 c
          ∧ r.2.mem ((c.tc : Thread Cert.QkvIdeal.nD Cert.QkvIdeal.τ).loc Cert.QkvIdeal.main_v11) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v40) = v0 c
          ∧ r.2.mem ((c.tc : Thread Cert.QkvRefIdeal.nD Cert.QkvRefIdeal.τ).loc Cert.QkvRefIdeal.main_v43) = v1 c
          ∧ r.2.mem ((c.tc : Thread Cert.QkvRefIdeal.nD Cert.QkvRefIdeal.τ).loc Cert.QkvRefIdeal.main_v46) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_PostOddPrompt_PostOddPromptIdeal : Prop :=
  True

def algebraic_PostOddPromptIdeal_PostOddPromptRefIdeal [hPostOddPromptIdeal : Cert.PostOddPromptIdeal.Facts] [hPostOddPromptRefIdeal : Cert.PostOddPromptRefIdeal.Facts] : Prop :=
  ∀ (m : (ℓ : Loc Cert.PostOddPromptIdeal.nD Cert.PostOddPromptIdeal.τ Cert.PostOddPromptIdeal.sig) → Buf (Elt Ideal) ℓ) (g : Dev Cert.PostOddPromptIdeal.nD → PrngReg)
    (m' : (ℓ : Loc Cert.PostOddPromptRefIdeal.nD Cert.PostOddPromptRefIdeal.τ Cert.PostOddPromptRefIdeal.sig) → Buf (Elt Ideal) ℓ) (g' : Dev Cert.PostOddPromptRefIdeal.nD → PrngReg), Pre_PostOddPromptIdeal m →
    (∀ c : Dev Cert.PostOddPromptIdeal.nD,
      m' ((c.tc : Thread Cert.PostOddPromptRefIdeal.nD Cert.PostOddPromptRefIdeal.τ).loc Cert.PostOddPromptRefIdeal.main_arg0) = m ((c.tc : Thread Cert.PostOddPromptIdeal.nD Cert.PostOddPromptIdeal.τ).loc Cert.PostOddPromptIdeal.main_arg0)
      ∧ m' ((c.tc : Thread Cert.PostOddPromptRefIdeal.nD Cert.PostOddPromptRefIdeal.τ).loc Cert.PostOddPromptRefIdeal.main_arg1) = m ((c.tc : Thread Cert.PostOddPromptIdeal.nD Cert.PostOddPromptIdeal.τ).loc Cert.PostOddPromptIdeal.main_arg1)
      ∧ m' ((c.tc : Thread Cert.PostOddPromptRefIdeal.nD Cert.PostOddPromptRefIdeal.τ).loc Cert.PostOddPromptRefIdeal.main_arg2) = m ((c.tc : Thread Cert.PostOddPromptIdeal.nD Cert.PostOddPromptIdeal.τ).loc Cert.PostOddPromptIdeal.main_arg2)
      ∧ m' ((c.tc : Thread Cert.PostOddPromptRefIdeal.nD Cert.PostOddPromptRefIdeal.τ).loc Cert.PostOddPromptRefIdeal.main_arg3) = m ((c.tc : Thread Cert.PostOddPromptIdeal.nD Cert.PostOddPromptIdeal.τ).loc Cert.PostOddPromptIdeal.main_arg3)
      ∧ m' ((c.tc : Thread Cert.PostOddPromptRefIdeal.nD Cert.PostOddPromptRefIdeal.τ).loc Cert.PostOddPromptRefIdeal.main_arg4) = m ((c.tc : Thread Cert.PostOddPromptIdeal.nD Cert.PostOddPromptIdeal.τ).loc Cert.PostOddPromptIdeal.main_arg4)
      ∧ m' ((c.tc : Thread Cert.PostOddPromptRefIdeal.nD Cert.PostOddPromptRefIdeal.τ).loc Cert.PostOddPromptRefIdeal.main_arg5) = m ((c.tc : Thread Cert.PostOddPromptIdeal.nD Cert.PostOddPromptIdeal.τ).loc Cert.PostOddPromptIdeal.main_arg5)
      ∧ m' ((c.tc : Thread Cert.PostOddPromptRefIdeal.nD Cert.PostOddPromptRefIdeal.τ).loc Cert.PostOddPromptRefIdeal.main_arg6) = m ((c.tc : Thread Cert.PostOddPromptIdeal.nD Cert.PostOddPromptIdeal.τ).loc Cert.PostOddPromptIdeal.main_arg6)
      ∧ m' ((c.tc : Thread Cert.PostOddPromptRefIdeal.nD Cert.PostOddPromptRefIdeal.τ).loc Cert.PostOddPromptRefIdeal.main_arg7) = m ((c.tc : Thread Cert.PostOddPromptIdeal.nD Cert.PostOddPromptIdeal.τ).loc Cert.PostOddPromptIdeal.main_arg7)
      ∧ m' ((c.tc : Thread Cert.PostOddPromptRefIdeal.nD Cert.PostOddPromptRefIdeal.τ).loc Cert.PostOddPromptRefIdeal.main_arg8) = m ((c.tc : Thread Cert.PostOddPromptIdeal.nD Cert.PostOddPromptIdeal.τ).loc Cert.PostOddPromptIdeal.main_arg8)
      ∧ m' ((c.tc : Thread Cert.PostOddPromptRefIdeal.nD Cert.PostOddPromptRefIdeal.τ).loc Cert.PostOddPromptRefIdeal.main_arg9) = m ((c.tc : Thread Cert.PostOddPromptIdeal.nD Cert.PostOddPromptIdeal.τ).loc Cert.PostOddPromptIdeal.main_arg9)
      ∧ m' ((c.tc : Thread Cert.PostOddPromptRefIdeal.nD Cert.PostOddPromptRefIdeal.τ).loc Cert.PostOddPromptRefIdeal.main_arg10) = m ((c.tc : Thread Cert.PostOddPromptIdeal.nD Cert.PostOddPromptIdeal.τ).loc Cert.PostOddPromptIdeal.main_arg10)
      ∧ m' ((c.tc : Thread Cert.PostOddPromptRefIdeal.nD Cert.PostOddPromptRefIdeal.τ).loc Cert.PostOddPromptRefIdeal.main_arg11) = m ((c.tc : Thread Cert.PostOddPromptIdeal.nD Cert.PostOddPromptIdeal.τ).loc Cert.PostOddPromptIdeal.main_arg11)
      ∧ m' ((c.tc : Thread Cert.PostOddPromptRefIdeal.nD Cert.PostOddPromptRefIdeal.τ).loc Cert.PostOddPromptRefIdeal.main_arg12) = m ((c.tc : Thread Cert.PostOddPromptIdeal.nD Cert.PostOddPromptIdeal.τ).loc Cert.PostOddPromptIdeal.main_arg12)) →
    ∃ (v0 : (c : Dev Cert.PostOddPromptIdeal.nD) → Buf (Elt Ideal) ((c.tc : Thread Cert.PostOddPromptIdeal.nD Cert.PostOddPromptIdeal.τ).loc Cert.PostOddPromptIdeal.main_v29)),
      θ_run (Cert.PostOddPromptIdeal.defs (F := Ideal)) (onTc (τ := Cert.PostOddPromptIdeal.τ) (Cert.PostOddPromptIdeal.main (F := Ideal))) ⟨m, fun _ => 0, g⟩ (fun r => ∀ c : Dev Cert.PostOddPromptIdeal.nD,
          r.2.mem ((c.tc : Thread Cert.PostOddPromptIdeal.nD Cert.PostOddPromptIdeal.τ).loc Cert.PostOddPromptIdeal.main_v29) = v0 c
          ∧ r.2.mem ((c.tc : Thread Cert.PostOddPromptIdeal.nD Cert.PostOddPromptIdeal.τ).loc Cert.PostOddPromptIdeal.main_arg0) = m ((c.tc : Thread Cert.PostOddPromptIdeal.nD Cert.PostOddPromptIdeal.τ).loc Cert.PostOddPromptIdeal.main_arg0)
          ∧ r.2.mem ((c.tc : Thread Cert.PostOddPromptIdeal.nD Cert.PostOddPromptIdeal.τ).loc Cert.PostOddPromptIdeal.main_arg1) = m ((c.tc : Thread Cert.PostOddPromptIdeal.nD Cert.PostOddPromptIdeal.τ).loc Cert.PostOddPromptIdeal.main_arg1)
          ∧ r.2.mem ((c.tc : Thread Cert.PostOddPromptIdeal.nD Cert.PostOddPromptIdeal.τ).loc Cert.PostOddPromptIdeal.main_arg2) = m ((c.tc : Thread Cert.PostOddPromptIdeal.nD Cert.PostOddPromptIdeal.τ).loc Cert.PostOddPromptIdeal.main_arg2)
          ∧ r.2.mem ((c.tc : Thread Cert.PostOddPromptIdeal.nD Cert.PostOddPromptIdeal.τ).loc Cert.PostOddPromptIdeal.main_arg3) = m ((c.tc : Thread Cert.PostOddPromptIdeal.nD Cert.PostOddPromptIdeal.τ).loc Cert.PostOddPromptIdeal.main_arg3)
          ∧ r.2.mem ((c.tc : Thread Cert.PostOddPromptIdeal.nD Cert.PostOddPromptIdeal.τ).loc Cert.PostOddPromptIdeal.main_arg4) = m ((c.tc : Thread Cert.PostOddPromptIdeal.nD Cert.PostOddPromptIdeal.τ).loc Cert.PostOddPromptIdeal.main_arg4)
          ∧ r.2.mem ((c.tc : Thread Cert.PostOddPromptIdeal.nD Cert.PostOddPromptIdeal.τ).loc Cert.PostOddPromptIdeal.main_arg5) = m ((c.tc : Thread Cert.PostOddPromptIdeal.nD Cert.PostOddPromptIdeal.τ).loc Cert.PostOddPromptIdeal.main_arg5)
          ∧ r.2.mem ((c.tc : Thread Cert.PostOddPromptIdeal.nD Cert.PostOddPromptIdeal.τ).loc Cert.PostOddPromptIdeal.main_arg6) = m ((c.tc : Thread Cert.PostOddPromptIdeal.nD Cert.PostOddPromptIdeal.τ).loc Cert.PostOddPromptIdeal.main_arg6)
          ∧ r.2.mem ((c.tc : Thread Cert.PostOddPromptIdeal.nD Cert.PostOddPromptIdeal.τ).loc Cert.PostOddPromptIdeal.main_arg7) = m ((c.tc : Thread Cert.PostOddPromptIdeal.nD Cert.PostOddPromptIdeal.τ).loc Cert.PostOddPromptIdeal.main_arg7)
          ∧ r.2.mem ((c.tc : Thread Cert.PostOddPromptIdeal.nD Cert.PostOddPromptIdeal.τ).loc Cert.PostOddPromptIdeal.main_arg8) = m ((c.tc : Thread Cert.PostOddPromptIdeal.nD Cert.PostOddPromptIdeal.τ).loc Cert.PostOddPromptIdeal.main_arg8)
          ∧ r.2.mem ((c.tc : Thread Cert.PostOddPromptIdeal.nD Cert.PostOddPromptIdeal.τ).loc Cert.PostOddPromptIdeal.main_arg9) = m ((c.tc : Thread Cert.PostOddPromptIdeal.nD Cert.PostOddPromptIdeal.τ).loc Cert.PostOddPromptIdeal.main_arg9)
          ∧ r.2.mem ((c.tc : Thread Cert.PostOddPromptIdeal.nD Cert.PostOddPromptIdeal.τ).loc Cert.PostOddPromptIdeal.main_arg10) = m ((c.tc : Thread Cert.PostOddPromptIdeal.nD Cert.PostOddPromptIdeal.τ).loc Cert.PostOddPromptIdeal.main_arg10)
          ∧ r.2.mem ((c.tc : Thread Cert.PostOddPromptIdeal.nD Cert.PostOddPromptIdeal.τ).loc Cert.PostOddPromptIdeal.main_arg11) = m ((c.tc : Thread Cert.PostOddPromptIdeal.nD Cert.PostOddPromptIdeal.τ).loc Cert.PostOddPromptIdeal.main_arg11)
          ∧ r.2.mem ((c.tc : Thread Cert.PostOddPromptIdeal.nD Cert.PostOddPromptIdeal.τ).loc Cert.PostOddPromptIdeal.main_arg12) = m ((c.tc : Thread Cert.PostOddPromptIdeal.nD Cert.PostOddPromptIdeal.τ).loc Cert.PostOddPromptIdeal.main_arg12))
      ∧ θ_run (Cert.PostOddPromptRefIdeal.defs (F := Ideal)) (onTc (τ := Cert.PostOddPromptRefIdeal.τ) (Cert.PostOddPromptRefIdeal.main (F := Ideal))) ⟨m', fun _ => 0, g'⟩ (fun r => ∀ c : Dev Cert.PostOddPromptRefIdeal.nD,
          r.2.mem ((c.tc : Thread Cert.PostOddPromptRefIdeal.nD Cert.PostOddPromptRefIdeal.τ).loc Cert.PostOddPromptRefIdeal.main_v127) = v0 c
          ∧ r.2.mem ((c.tc : Thread Cert.PostOddPromptRefIdeal.nD Cert.PostOddPromptRefIdeal.τ).loc Cert.PostOddPromptRefIdeal.main_arg0) = m' ((c.tc : Thread Cert.PostOddPromptRefIdeal.nD Cert.PostOddPromptRefIdeal.τ).loc Cert.PostOddPromptRefIdeal.main_arg0)
          ∧ r.2.mem ((c.tc : Thread Cert.PostOddPromptRefIdeal.nD Cert.PostOddPromptRefIdeal.τ).loc Cert.PostOddPromptRefIdeal.main_arg1) = m' ((c.tc : Thread Cert.PostOddPromptRefIdeal.nD Cert.PostOddPromptRefIdeal.τ).loc Cert.PostOddPromptRefIdeal.main_arg1)
          ∧ r.2.mem ((c.tc : Thread Cert.PostOddPromptRefIdeal.nD Cert.PostOddPromptRefIdeal.τ).loc Cert.PostOddPromptRefIdeal.main_arg2) = m' ((c.tc : Thread Cert.PostOddPromptRefIdeal.nD Cert.PostOddPromptRefIdeal.τ).loc Cert.PostOddPromptRefIdeal.main_arg2)
          ∧ r.2.mem ((c.tc : Thread Cert.PostOddPromptRefIdeal.nD Cert.PostOddPromptRefIdeal.τ).loc Cert.PostOddPromptRefIdeal.main_arg3) = m' ((c.tc : Thread Cert.PostOddPromptRefIdeal.nD Cert.PostOddPromptRefIdeal.τ).loc Cert.PostOddPromptRefIdeal.main_arg3)
          ∧ r.2.mem ((c.tc : Thread Cert.PostOddPromptRefIdeal.nD Cert.PostOddPromptRefIdeal.τ).loc Cert.PostOddPromptRefIdeal.main_arg4) = m' ((c.tc : Thread Cert.PostOddPromptRefIdeal.nD Cert.PostOddPromptRefIdeal.τ).loc Cert.PostOddPromptRefIdeal.main_arg4)
          ∧ r.2.mem ((c.tc : Thread Cert.PostOddPromptRefIdeal.nD Cert.PostOddPromptRefIdeal.τ).loc Cert.PostOddPromptRefIdeal.main_arg5) = m' ((c.tc : Thread Cert.PostOddPromptRefIdeal.nD Cert.PostOddPromptRefIdeal.τ).loc Cert.PostOddPromptRefIdeal.main_arg5)
          ∧ r.2.mem ((c.tc : Thread Cert.PostOddPromptRefIdeal.nD Cert.PostOddPromptRefIdeal.τ).loc Cert.PostOddPromptRefIdeal.main_arg6) = m' ((c.tc : Thread Cert.PostOddPromptRefIdeal.nD Cert.PostOddPromptRefIdeal.τ).loc Cert.PostOddPromptRefIdeal.main_arg6)
          ∧ r.2.mem ((c.tc : Thread Cert.PostOddPromptRefIdeal.nD Cert.PostOddPromptRefIdeal.τ).loc Cert.PostOddPromptRefIdeal.main_arg7) = m' ((c.tc : Thread Cert.PostOddPromptRefIdeal.nD Cert.PostOddPromptRefIdeal.τ).loc Cert.PostOddPromptRefIdeal.main_arg7)
          ∧ r.2.mem ((c.tc : Thread Cert.PostOddPromptRefIdeal.nD Cert.PostOddPromptRefIdeal.τ).loc Cert.PostOddPromptRefIdeal.main_arg8) = m' ((c.tc : Thread Cert.PostOddPromptRefIdeal.nD Cert.PostOddPromptRefIdeal.τ).loc Cert.PostOddPromptRefIdeal.main_arg8)
          ∧ r.2.mem ((c.tc : Thread Cert.PostOddPromptRefIdeal.nD Cert.PostOddPromptRefIdeal.τ).loc Cert.PostOddPromptRefIdeal.main_arg9) = m' ((c.tc : Thread Cert.PostOddPromptRefIdeal.nD Cert.PostOddPromptRefIdeal.τ).loc Cert.PostOddPromptRefIdeal.main_arg9)
          ∧ r.2.mem ((c.tc : Thread Cert.PostOddPromptRefIdeal.nD Cert.PostOddPromptRefIdeal.τ).loc Cert.PostOddPromptRefIdeal.main_arg10) = m' ((c.tc : Thread Cert.PostOddPromptRefIdeal.nD Cert.PostOddPromptRefIdeal.τ).loc Cert.PostOddPromptRefIdeal.main_arg10)
          ∧ r.2.mem ((c.tc : Thread Cert.PostOddPromptRefIdeal.nD Cert.PostOddPromptRefIdeal.τ).loc Cert.PostOddPromptRefIdeal.main_arg11) = m' ((c.tc : Thread Cert.PostOddPromptRefIdeal.nD Cert.PostOddPromptRefIdeal.τ).loc Cert.PostOddPromptRefIdeal.main_arg11)
          ∧ r.2.mem ((c.tc : Thread Cert.PostOddPromptRefIdeal.nD Cert.PostOddPromptRefIdeal.τ).loc Cert.PostOddPromptRefIdeal.main_arg12) = m' ((c.tc : Thread Cert.PostOddPromptRefIdeal.nD Cert.PostOddPromptRefIdeal.τ).loc Cert.PostOddPromptRefIdeal.main_arg12))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)
      ∧ m' ((c.tc : Thread Cert.EvenInRefIdeal.nD Cert.EvenInRefIdeal.τ).loc Cert.EvenInRefIdeal.main_arg5) = m ((c.tc : Thread Cert.EvenInIdeal.nD Cert.EvenInIdeal.τ).loc Cert.EvenInIdeal.main_arg5)) →
    ∃ (v0 : (c : Dev Cert.EvenInIdeal.nD) → Buf (Elt Ideal) ((c.tc : Thread Cert.EvenInIdeal.nD Cert.EvenInIdeal.τ).loc Cert.EvenInIdeal.main_v4_0)) (v1 : (c : Dev Cert.EvenInIdeal.nD) → Buf (Elt Ideal) ((c.tc : Thread Cert.EvenInIdeal.nD Cert.EvenInIdeal.τ).loc Cert.EvenInIdeal.main_v4_1)) (v2 : (c : Dev Cert.EvenInIdeal.nD) → Buf (Elt Ideal) ((c.tc : Thread Cert.EvenInIdeal.nD Cert.EvenInIdeal.τ).loc Cert.EvenInIdeal.main_v4_2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v4_0) = v0 c
          ∧ r.2.mem ((c.tc : Thread Cert.EvenInIdeal.nD Cert.EvenInIdeal.τ).loc Cert.EvenInIdeal.main_v4_1) = v1 c
          ∧ r.2.mem ((c.tc : Thread Cert.EvenInIdeal.nD Cert.EvenInIdeal.τ).loc Cert.EvenInIdeal.main_v4_2) = v2 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
          ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v39) = v0 c
          ∧ r.2.mem ((c.tc : Thread Cert.EvenInRefIdeal.nD Cert.EvenInRefIdeal.τ).loc Cert.EvenInRefIdeal.main_v42) = v1 c
          ∧ r.2.mem ((c.tc : Thread Cert.EvenInRefIdeal.nD Cert.EvenInRefIdeal.τ).loc Cert.EvenInRefIdeal.main_v45) = v2 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4)
          ∧ r.2.mem ((c.tc : Thread Cert.EvenInRefIdeal.nD Cert.EvenInRefIdeal.τ).loc Cert.EvenInRefIdeal.main_arg5) = m' ((c.tc : Thread Cert.EvenInRefIdeal.nD Cert.EvenInRefIdeal.τ).loc Cert.EvenInRefIdeal.main_arg5))

def Claim : Prop :=
  ∃ (hLatAttn : Cert.LatAttn.Facts) (hLatAttnIdeal : Cert.LatAttnIdeal.Facts) (hLatRefIdeal : Cert.LatRefIdeal.Facts) (hCtxAttn : Cert.CtxAttn.Facts) (hCtxAttnIdeal : Cert.CtxAttnIdeal.Facts) (hCtxRefIdeal : Cert.CtxRefIdeal.Facts) (hPostOdd : Cert.PostOdd.Facts) (hPostOddIdeal : Cert.PostOddIdeal.Facts) (hPostOddRefIdeal : Cert.PostOddRefIdeal.Facts) (hPostEven : Cert.PostEven.Facts) (hPostEvenIdeal : Cert.PostEvenIdeal.Facts) (hPostEvenRefIdeal : Cert.PostEvenRefIdeal.Facts) (hQkv : Cert.Qkv.Facts) (hQkvIdeal : Cert.QkvIdeal.Facts) (hQkvRefIdeal : Cert.QkvRefIdeal.Facts) (hPostOddPrompt : Cert.PostOddPrompt.Facts) (hPostOddPromptIdeal : Cert.PostOddPromptIdeal.Facts) (hPostOddPromptRefIdeal : Cert.PostOddPromptRefIdeal.Facts) (hEvenIn : Cert.EvenIn.Facts) (hEvenInIdeal : Cert.EvenInIdeal.Facts) (hEvenInRefIdeal : Cert.EvenInRefIdeal.Facts) (hPre_lat_inputs : Cert.Pre_lat_inputs.Facts) (hPre_ctx_finite : Cert.Pre_ctx_finite.Facts),
    quiescent_LatAttn (hLatAttn := hLatAttn)
    ∧ quiescent_LatAttnIdeal (hLatAttnIdeal := hLatAttnIdeal)
    ∧ quiescent_LatAttnIdeal_pre_lat_inputs (hLatAttnIdeal := hLatAttnIdeal) (hPre_lat_inputs := hPre_lat_inputs)
    ∧ quiescent_LatRefIdeal (hLatRefIdeal := hLatRefIdeal)
    ∧ quiescent_LatRefIdeal_pre_lat_inputs (hLatRefIdeal := hLatRefIdeal) (hPre_lat_inputs := hPre_lat_inputs)
    ∧ quiescent_CtxAttn (hCtxAttn := hCtxAttn)
    ∧ quiescent_CtxAttnIdeal (hCtxAttnIdeal := hCtxAttnIdeal)
    ∧ quiescent_CtxAttnIdeal_pre_ctx_finite (hCtxAttnIdeal := hCtxAttnIdeal) (hPre_ctx_finite := hPre_ctx_finite)
    ∧ quiescent_CtxRefIdeal (hCtxRefIdeal := hCtxRefIdeal)
    ∧ quiescent_CtxRefIdeal_pre_ctx_finite (hCtxRefIdeal := hCtxRefIdeal) (hPre_ctx_finite := hPre_ctx_finite)
    ∧ quiescent_PostOdd (hPostOdd := hPostOdd)
    ∧ quiescent_PostOddIdeal (hPostOddIdeal := hPostOddIdeal)
    ∧ quiescent_PostOddRefIdeal (hPostOddRefIdeal := hPostOddRefIdeal)
    ∧ quiescent_PostEven (hPostEven := hPostEven)
    ∧ quiescent_PostEvenIdeal (hPostEvenIdeal := hPostEvenIdeal)
    ∧ quiescent_PostEvenRefIdeal (hPostEvenRefIdeal := hPostEvenRefIdeal)
    ∧ quiescent_Qkv (hQkv := hQkv)
    ∧ quiescent_QkvIdeal (hQkvIdeal := hQkvIdeal)
    ∧ quiescent_QkvRefIdeal (hQkvRefIdeal := hQkvRefIdeal)
    ∧ quiescent_PostOddPrompt (hPostOddPrompt := hPostOddPrompt)
    ∧ quiescent_PostOddPromptIdeal (hPostOddPromptIdeal := hPostOddPromptIdeal)
    ∧ quiescent_PostOddPromptRefIdeal (hPostOddPromptRefIdeal := hPostOddPromptRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ preserves_LatAttn_LatAttnIdeal
    ∧ algebraic_LatAttnIdeal_LatRefIdeal_pre_lat_inputs (hLatAttnIdeal := hLatAttnIdeal) (hLatRefIdeal := hLatRefIdeal) (hPre_lat_inputs := hPre_lat_inputs)
    ∧ preserves_CtxAttn_CtxAttnIdeal
    ∧ algebraic_CtxAttnIdeal_CtxRefIdeal_pre_ctx_finite (hCtxAttnIdeal := hCtxAttnIdeal) (hCtxRefIdeal := hCtxRefIdeal) (hPre_ctx_finite := hPre_ctx_finite)
    ∧ preserves_PostOdd_PostOddIdeal
    ∧ algebraic_PostOddIdeal_PostOddRefIdeal (hPostOddIdeal := hPostOddIdeal) (hPostOddRefIdeal := hPostOddRefIdeal)
    ∧ preserves_PostEven_PostEvenIdeal
    ∧ algebraic_PostEvenIdeal_PostEvenRefIdeal (hPostEvenIdeal := hPostEvenIdeal) (hPostEvenRefIdeal := hPostEvenRefIdeal)
    ∧ preserves_Qkv_QkvIdeal
    ∧ algebraic_QkvIdeal_QkvRefIdeal (hQkvIdeal := hQkvIdeal) (hQkvRefIdeal := hQkvRefIdeal)
    ∧ preserves_PostOddPrompt_PostOddPromptIdeal
    ∧ algebraic_PostOddPromptIdeal_PostOddPromptRefIdeal (hPostOddPromptIdeal := hPostOddPromptIdeal) (hPostOddPromptRefIdeal := hPostOddPromptRefIdeal)
    ∧ preserves_EvenIn_EvenInIdeal
    ∧ algebraic_EvenInIdeal_EvenInRefIdeal (hEvenInIdeal := hEvenInIdeal) (hEvenInRefIdeal := hEvenInRefIdeal)
-- ==== Pre_ctx_finite.lean ====
abbrev S16x256x1024 : Shape := ⟨3, ![16, 256, 1024]⟩
abbrev S_ : Shape := ⟨0, ![]⟩

class Facts : Prop where
  bitsLt_bf16_f32 : FTy.bits .bf16 < FTy.bits .f32
  bcast_S_S16x256x1024 : S_.BroadcastsInDim S16x256x1024 (![] : Fin 0 → Fin S16x256x1024.rank)

variable [Facts]

def fn {F : FTy → Type} [FloatOps F] (main_arg0 : FVec F S16x256x1024 .bf16) (main_arg1 : FVec F S16x256x1024 .f32) (main_arg2 : FVec F S16x256x1024 .f32) : IVec S16x256x1024 1 × IVec S16x256x1024 1 :=
  let main_v0 : FVec F S16x256x1024 .f32 := (extf .f32 · bitsLt_bf16_f32) main_arg0
  let main_v1 : FVec F S16x256x1024 .f32 := Host.absf main_v0
  let main_cst : FVec F S_ .f32 := constant S_ .f32 0x7F800000#32
  let main_v2 : FVec F S16x256x1024 .f32 := broadcastInDim S16x256x1024 ![] bcast_S_S16x256x1024 main_cst
  let main_v3 : IVec S16x256x1024 1 := cmpf .olt main_v1 main_v2
  let main_v4 : FVec F S16x256x1024 .f32 := Host.absf main_arg1
  let main_cst_0 : FVec F S_ .f32 := constant S_ .f32 0x7F800000#32
  let main_v5 : FVec F S16x256x1024 .f32 := broadcastInDim S16x256x1024 ![] bcast_S_S16x256x1024 main_cst_0
  let main_v6 : IVec S16x256x1024 1 := cmpf .olt main_v4 main_v5
  (main_v3, main_v6)
-- ==== Pre_lat_inputs.lean ====
abbrev S4x4096x1024 : Shape := ⟨3, ![4, 4096, 1024]⟩
abbrev S4x1x16x512x64 : Shape := ⟨5, ![4, 1, 16, 512, 64]⟩
abbrev S16x14x64x128 : Shape := ⟨4, ![16, 14, 64, 128]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x128 : Shape := ⟨2, ![64, 128]⟩

class Facts : Prop where
  bcast_S_S64 : S_.BroadcastsInDim S64 (![] : Fin 0 → Fin S64.rank)
  bcast_S64_S1x64_1 : S64.BroadcastsInDim S1x64 (![1] : Fin 1 → Fin S1x64.rank)
  bcast_S64_S64x1_0 : S64.BroadcastsInDim S64x1 (![0] : Fin 1 → Fin S64x1.rank)
  bcast_S1x64_S64x64_0_1 : S1x64.BroadcastsInDim S64x64 (![0, 1] : Fin 2 → Fin S64x64.rank)
  bcast_S64x1_S64x64_0_1 : S64x1.BroadcastsInDim S64x64 (![0, 1] : Fin 2 → Fin S64x64.rank)
  bcast_S_S64x1 : S_.BroadcastsInDim S64x1 (![] : Fin 0 → Fin S64x1.rank)
  bitsLt_bf16_f32 : FTy.bits .bf16 < FTy.bits .f32
  bcast_S_S4x4096x1024 : S_.BroadcastsInDim S4x4096x1024 (![] : Fin 0 → Fin S4x4096x1024.rank)
  bcast_S_S4x1x16x512x64 : S_.BroadcastsInDim S4x1x16x512x64 (![] : Fin 0 → Fin S4x1x16x512x64.rank)
  concatenates_S64x64_S64x64_S64x128_d1 : Shape.Concatenates [S64x64, S64x64] S64x128 1
  bcast_S_S16x14x64x128 : S_.BroadcastsInDim S16x14x64x128 (![] : Fin 0 → Fin S16x14x64x128.rank)
  bcast_S64x128_S16x14x64x128_2_3 : S64x128.BroadcastsInDim S16x14x64x128 (![2, 3] : Fin 2 → Fin S16x14x64x128.rank)

variable [Facts]

def fn_clip {F : FTy → Type} [FloatOps F] (arg0 : IVec S64 32) (arg1 : IVec S_ 32) (arg2 : IVec S_ 32) : IVec S64 32 :=
  let v0 : IVec S_ 32 := id arg1
  let v1 : IVec S64 32 := broadcastInDim S64 ![] bcast_S_S64 v0
  let v2 : IVec S64 32 := maxsi v1 arg0
  let v3 : IVec S_ 32 := id arg2
  let v4 : IVec S64 32 := broadcastInDim S64 ![] bcast_S_S64 v3
  let v5 : IVec S64 32 := minsi v4 v2
  v5

def fn_where {F : FTy → Type} [FloatOps F] (arg0 : IVec S64x128 1) (arg1 : IVec S16x14x64x128 1) (arg2 : IVec S16x14x64x128 1) : IVec S16x14x64x128 1 :=
  let v0 : IVec S16x14x64x128 1 := broadcastInDim S16x14x64x128 ![2, 3] bcast_S64x128_S16x14x64x128_2_3 arg0
  let v1 : IVec S16x14x64x128 1 := select v0 arg1 arg2
  v1

def fn_part1 {F : FTy → Type} [FloatOps F] (main_arg1 : FVec F S4x4096x1024 .bf16) (main_arg3 : FVec F S4x1x16x512x64 .f32) (main_arg5 : FVec F S16x14x64x128 .f32) (main_v16 : IVec S64x64 1) (main_v18 : FVec F S4x4096x1024 .f32) (main_cst : FVec F S_ .f32) : IVec S4x4096x1024 1 × IVec S4x4096x1024 1 × IVec S4x1x16x512x64 1 × IVec S16x14x64x128 1 :=
  let main_v19 : FVec F S4x4096x1024 .f32 := broadcastInDim S4x4096x1024 ![] bcast_S_S4x4096x1024 main_cst
  let main_v20 : IVec S4x4096x1024 1 := cmpf .olt main_v18 main_v19
  let main_v21 : FVec F S4x4096x1024 .f32 := (extf .f32 · bitsLt_bf16_f32) main_arg1
  let main_v22 : FVec F S4x4096x1024 .f32 := Host.absf main_v21
  let main_cst_3 : FVec F S_ .f32 := constant S_ .f32 0x7F800000#32
  let main_v23 : FVec F S4x4096x1024 .f32 := broadcastInDim S4x4096x1024 ![] bcast_S_S4x4096x1024 main_cst_3
  let main_v24 : IVec S4x4096x1024 1 := cmpf .olt main_v22 main_v23
  let main_v25 : FVec F S4x1x16x512x64 .f32 := Host.absf main_arg3
  let main_cst_4 : FVec F S_ .f32 := constant S_ .f32 0x7F800000#32
  let main_v26 : FVec F S4x1x16x512x64 .f32 := broadcastInDim S4x1x16x512x64 ![] bcast_S_S4x1x16x512x64 main_cst_4
  let main_v27 : IVec S4x1x16x512x64 1 := cmpf .olt main_v25 main_v26
  let main_v28 : IVec S64x128 1 := (fun a b => concatenate S64x128 1 [⟨S64x64, a⟩, ⟨S64x64, b⟩] concatenates_S64x64_S64x64_S64x128_d1) main_v16 main_v16
  let main_cst_5 : FVec F S_ .f32 := constant S_ .f32 0x7F800000#32
  let main_v29 : FVec F S16x14x64x128 .f32 := broadcastInDim S16x14x64x128 ![] bcast_S_S16x14x64x128 main_cst_5
  let main_v30 : IVec S16x14x64x128 1 := cmpf .olt main_arg5 main_v29
  let main_cst_6 : FVec F S_ .f32 := constant S_ .f32 0xFF800000#32
  let main_v31 : FVec F S16x14x64x128 .f32 := broadcastInDim S16x14x64x128 ![] bcast_S_S16x14x64x128 main_cst_6
  let main_v32 : IVec S16x14x64x128 1 := cmpf .oeq main_arg5 main_v31
  let main_v33 : IVec S16x14x64x128 1 := fn_where (F := F) main_v28 main_v30 main_v32
  (main_v20, main_v24, main_v27, main_v33)

def fn {F : FTy → Type} [FloatOps F] (main_arg0 : FVec F S4x4096x1024 .bf16) (main_arg1 : FVec F S4x4096x1024 .bf16) (main_arg2 : FVec F S4x4096x1024 .bf16) (main_arg3 : FVec F S4x1x16x512x64 .f32) (main_arg4 : FVec F S4x1x16x512x64 .f32) (main_arg5 : FVec F S16x14x64x128 .f32) : IVec S4x4096x1024 1 × IVec S4x4096x1024 1 × IVec S4x1x16x512x64 1 × IVec S16x14x64x128 1 :=
  let main_v0 : IVec S64 32 := iotaInDim S64 32 0
  let main_c : IVec S_ 32 := constantI S_ 32 8#32
  let main_v1 : IVec S64 32 := broadcastInDim S64 ![] bcast_S_S64 main_c
  let main_v2 : IVec S64 32 := subi main_v0 main_v1
  let main_c_0 : IVec S_ 32 := constantI S_ 32 0#32
  let main_c_1 : IVec S_ 32 := constantI S_ 32 48#32
  let main_v3 : IVec S64 32 := fn_clip (F := F) main_v2 main_c_0 main_c_1
  let main_v4 : IVec S1x64 32 := broadcastInDim S1x64 ![1] bcast_S64_S1x64_1 main_v0
  let main_v5 : IVec S64x1 32 := broadcastInDim S64x1 ![0] bcast_S64_S64x1_0 main_v3
  let main_v6 : IVec S64x64 32 := broadcastInDim S64x64 ![0, 1] bcast_S1x64_S64x64_0_1 main_v4
  let main_v7 : IVec S64x64 32 := broadcastInDim S64x64 ![0, 1] bcast_S64x1_S64x64_0_1 main_v5
  let main_v8 : IVec S64x64 1 := cmpi .sge main_v6 main_v7
  let main_v9 : IVec S1x64 32 := broadcastInDim S1x64 ![1] bcast_S64_S1x64_1 main_v0
  let main_v10 : IVec S64x1 32 := broadcastInDim S64x1 ![0] bcast_S64_S64x1_0 main_v3
  let main_c_2 : IVec S_ 32 := constantI S_ 32 16#32
  let main_v11 : IVec S64x1 32 := broadcastInDim S64x1 ![] bcast_S_S64x1 main_c_2
  let main_v12 : IVec S64x1 32 := addi main_v10 main_v11
  let main_v13 : IVec S64x64 32 := broadcastInDim S64x64 ![0, 1] bcast_S1x64_S64x64_0_1 main_v9
  let main_v14 : IVec S64x64 32 := broadcastInDim S64x64 ![0, 1] bcast_S64x1_S64x64_0_1 main_v12
  let main_v15 : IVec S64x64 1 := cmpi .slt main_v13 main_v14
  let main_v16 : IVec S64x64 1 := andi main_v8 main_v15
  let main_v17 : FVec F S4x4096x1024 .f32 := (extf .f32 · bitsLt_bf16_f32) main_arg0
  let main_v18 : FVec F S4x4096x1024 .f32 := Host.absf main_v17
  let main_cst : FVec F S_ .f32 := constant S_ .f32 0x7F800000#32
  fn_part1 (F := F) main_arg1 main_arg3 main_arg5 main_v16 main_v18 main_cst
-- ==== LatAttn.lean ====
abbrev S4x4096x1024 : Shape := ⟨3, ![4, 4096, 1024]⟩
abbrev S4x1x16x512x64 : Shape := ⟨5, ![4, 1, 16, 512, 64]⟩
abbrev S16x14x64x128 : Shape := ⟨4, ![16, 14, 64, 128]⟩
abbrev S4x16x512x64 : Shape := ⟨4, ![4, 16, 512, 64]⟩
abbrev S4x8x2x512x64 : Shape := ⟨5, ![4, 8, 2, 512, 64]⟩
abbrev S4x8x512x2x64 : Shape := ⟨5, ![4, 8, 512, 2, 64]⟩
abbrev S4x8x512x128 : Shape := ⟨4, ![4, 8, 512, 128]⟩
abbrev S1x4096x128 : Shape := ⟨3, ![1, 4096, 128]⟩
abbrev S1x1x512x128 : Shape := ⟨4, ![1, 1, 512, 128]⟩
abbrev S2x14x64x128 : Shape := ⟨4, ![2, 14, 64, 128]⟩
abbrev S64x128 : Shape := ⟨2, ![64, 128]⟩
abbrev S512x128 : Shape := ⟨2, ![512, 128]⟩
abbrev S1x64x128 : Shape := ⟨3, ![1, 64, 128]⟩
abbrev S1x512x128 : Shape := ⟨3, ![1, 512, 128]⟩
abbrev S1x1x64x128 : Shape := ⟨4, ![1, 1, 64, 128]⟩
abbrev S64x512 : Shape := ⟨2, ![64, 512]⟩
abbrev S64 : Shape := ⟨1, ![64]⟩
abbrev S64x1 : Shape := ⟨2, ![64, 1]⟩

abbrev nBuf : Space → Nat
  | .hbm => 17
  | .vmem => 14
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .bf16⟩
  | .hbm, ⟨3, _⟩ => ⟨S4x1x16x512x64, .f32⟩
  | .hbm, ⟨4, _⟩ => ⟨S4x1x16x512x64, .f32⟩
  | .hbm, ⟨5, _⟩ => ⟨S16x14x64x128, .f32⟩
  | .hbm, ⟨6, _⟩ => ⟨S4x16x512x64, .f32⟩
  | .hbm, ⟨7, _⟩ => ⟨S4x8x2x512x64, .f32⟩
  | .hbm, ⟨8, _⟩ => ⟨S4x8x512x2x64, .f32⟩
  | .hbm, ⟨9, _⟩ => ⟨S4x8x512x128, .f32⟩
  | .hbm, ⟨10, _⟩ => ⟨S4x8x512x128, .bf16⟩
  | .hbm, ⟨11, _⟩ => ⟨S4x16x512x64, .f32⟩
  | .hbm, ⟨12, _⟩ => ⟨S4x8x2x512x64, .f32⟩
  | .hbm, ⟨13, _⟩ => ⟨S4x8x512x2x64, .f32⟩
  | .hbm, ⟨14, _⟩ => ⟨S4x8x512x128, .f32⟩
  | .hbm, ⟨15, _⟩ => ⟨S4x8x512x128, .bf16⟩
  | .hbm, ⟨16, _⟩ => ⟨S4x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x512x128, .bf16⟩
  | .local _ .vmem, ⟨7, _⟩ => ⟨S1x1x512x128, .bf16⟩
  | .local _ .vmem, ⟨8, _⟩ => ⟨S1x1x512x128, .bf16⟩
  | .local _ .vmem, ⟨9, _⟩ => ⟨S1x1x512x128, .bf16⟩
  | .local _ .vmem, ⟨10, _⟩ => ⟨S2x14x64x128, .f32⟩
  | .local _ .vmem, ⟨11, _⟩ => ⟨S2x14x64x128, .f32⟩
  | .local _ .vmem, ⟨12, _⟩ => ⟨S1x4096x128, .bf16⟩
  | .local _ .vmem, ⟨13, _⟩ => ⟨S1x4096x128, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c64_i32_7 : BitVec 32 := 64#32
  let v7 : BitVec 32 := Scalar.addi c0_i32 c64_i32_7
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c64_i32_10 : BitVec 32 := 64#32
  let v11 : BitVec 32 := Scalar.muli arg9 c64_i32_10
  v11
def k0_mult2 (k0_t1 : Fin k0_t1_loop.trips) : BitVec 32 :=
  let c56_i32 : BitVec 32 := 56#32
  let c0_i32_9 : BitVec 32 := 0#32
  let c0_i32 : BitVec 32 := 0#32
  let c1_i32 : BitVec 32 := 1#32
  let arg9 : BitVec 32 := Scf.iv c0_i32 c1_i32 k0_t1
  let c4_i32 : BitVec 32 := 4#32
  let v8 : BitVec 32 := Scalar.subi arg9 c4_i32
  let v9 : BitVec 32 := Scalar.maxsi c0_i32_9 v8
  let v10 : BitVec 32 := Scalar.minsi c56_i32 v9
  let c64_i32_11 : BitVec 32 := 64#32
  let v13 : BitVec 32 := Scalar.muli v10 c64_i32_11
  v13
def k0_off1 (k0_t1 : Fin k0_t1_loop.trips) : Fin 3 → Nat :=
  let c0_13 : Index := 0#32
  let c0_i32 : BitVec 32 := 0#32
  let c1_i32 : BitVec 32 := 1#32
  let arg9 : BitVec 32 := Scf.iv c0_i32 c1_i32 k0_t1
  let c64_i32_10 : BitVec 32 := 64#32
  let v11 : BitVec 32 := Scalar.muli arg9 c64_i32_10
  let v12 : BitVec 32 := v11
  let v18 : Index := Scalar.indexCast v12
  let c0_14 : Index := 0#32
  ![0, v18.toNat, 0]
def k0_off2 (k0_t1 : Fin k0_t1_loop.trips) : Fin 3 → Nat :=
  let c0_15 : Index := 0#32
  let c56_i32 : BitVec 32 := 56#32
  let c0_i32_9 : BitVec 32 := 0#32
  let c0_i32 : BitVec 32 := 0#32
  let c1_i32 : BitVec 32 := 1#32
  let arg9 : BitVec 32 := Scf.iv c0_i32 c1_i32 k0_t1
  let c4_i32 : BitVec 32 := 4#32
  let v8 : BitVec 32 := Scalar.subi arg9 c4_i32
  let v9 : BitVec 32 := Scalar.maxsi c0_i32_9 v8
  let v10 : BitVec 32 := Scalar.minsi c56_i32 v9
  let c64_i32_11 : BitVec 32 := 64#32
  let v13 : BitVec 32 := Scalar.muli v10 c64_i32_11
  let v14 : BitVec 32 := v13
  let v23 : Index := Scalar.indexCast v14
  let c0_16 : Index := 0#32
  ![0, v23.toNat, 0]
def k0_off3 (k0_t1 : Fin k0_t1_loop.trips) (c0_i32_21 : BitVec 32) : Fin 4 → Nat :=
  let c0_22 : Index := 0#32
  let c56_i32 : BitVec 32 := 56#32
  let c0_i32_9 : BitVec 32 := 0#32
  let c0_i32 : BitVec 32 := 0#32
  let c1_i32 : BitVec 32 := 1#32
  let arg9 : BitVec 32 := Scf.iv c0_i32 c1_i32 k0_t1
  let c4_i32 : BitVec 32 := 4#32
  let v8 : BitVec 32 := Scalar.subi arg9 c4_i32
  let v9 : BitVec 32 := Scalar.maxsi c0_i32_9 v8
  let v10 : BitVec 32 := Scalar.minsi c56_i32 v9
  let v15 : BitVec 32 := Scalar.subi v10 arg9
  let c8_i32 : BitVec 32 := 8#32
  let v16 : BitVec 32 := Scalar.addi v15 c8_i32
  let c1_i32_12 : BitVec 32 := 1#32
  let v17 : BitVec 32 := Scalar.subi v16 c1_i32_12
  let v33 : BitVec 32 := Scalar.addi v17 c0_i32_21
  let v34 : Index := Scalar.indexCast v33
  let c0_23 : Index := 0#32
  let c0_24 : Index := 0#32
  ![0, v34.toNat, 0, 0]
def k0_off4 (k0_t1 : Fin k0_t1_loop.trips) (c0_i32_44 : BitVec 32) : Fin 4 → Nat :=
  let c1 : Index := 1#32
  let c56_i32 : BitVec 32 := 56#32
  let c0_i32_9 : BitVec 32 := 0#32
  let c0_i32 : BitVec 32 := 0#32
  let c1_i32 : BitVec 32 := 1#32
  let arg9 : BitVec 32 := Scf.iv c0_i32 c1_i32 k0_t1
  let c4_i32 : BitVec 32 := 4#32
  let v8 : BitVec 32 := Scalar.subi arg9 c4_i32
  let v9 : BitVec 32 := Scalar.maxsi c0_i32_9 v8
  let v10 : BitVec 32 := Scalar.minsi c56_i32 v9
  let v15 : BitVec 32 := Scalar.subi v10 arg9
  let c8_i32 : BitVec 32 := 8#32
  let v16 : BitVec 32 := Scalar.addi v15 c8_i32
  let c1_i32_12 : BitVec 32 := 1#32
  let v17 : BitVec 32 := Scalar.subi v16 c1_i32_12
  let v79 : BitVec 32 := Scalar.addi v17 c0_i32_44
  let v80 : Index := Scalar.indexCast v79
  let c0_45 : Index := 0#32
  let c0_46 : Index := 0#32
  ![1, v80.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x14x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== LatRefIdeal.lean ====
abbrev S4x4096x1024 : Shape := ⟨3, ![4, 4096, 1024]⟩
abbrev S4x1x16x512x64 : Shape := ⟨5, ![4, 1, 16, 512, 64]⟩
abbrev S16x14x64x128 : Shape := ⟨4, ![16, 14, 64, 128]⟩
abbrev S4x4096x16x64 : Shape := ⟨4, ![4, 4096, 16, 64]⟩
abbrev S4x16x4096x64 : Shape := ⟨4, ![4, 16, 4096, 64]⟩
abbrev S4x16x64x64x64 : Shape := ⟨5, ![4, 16, 64, 64, 64]⟩
abbrev S4x16x512x64 : Shape := ⟨4, ![4, 16, 512, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S4x16x64x8x64x64 : Shape := ⟨6, ![4, 16, 64, 8, 64, 64]⟩
abbrev S4x16x64x64x8x64 : Shape := ⟨6, ![4, 16, 64, 64, 8, 64]⟩
abbrev S4 : Shape := ⟨1, ![4]⟩
abbrev S1x4 : Shape := ⟨2, ![1, 4]⟩
abbrev S64x4 : Shape := ⟨2, ![64, 4]⟩
abbrev S64x4x1 : Shape := ⟨3, ![64, 4, 1]⟩
abbrev S16x64x4x64x128 : Shape := ⟨5, ![16, 64, 4, 64, 128]⟩
abbrev S16x64x4x64x2x64 : Shape := ⟨6, ![16, 64, 4, 64, 2, 64]⟩
abbrev S16x64x64x4x2x64 : Shape := ⟨6, ![16, 64, 64, 4, 2, 64]⟩
abbrev S16x64x64x8x64 : Shape := ⟨5, ![16, 64, 64, 8, 64]⟩
abbrev S1x64 : Shape := ⟨2, ![1, 64]⟩
abbrev S64x64 : Shape := ⟨2, ![64, 64]⟩
abbrev S64x1x64 : Shape := ⟨3, ![64, 1, 64]⟩
abbrev S1x16x64x64x8x64 : Shape := ⟨6, ![1, 16, 64, 64, 8, 64]⟩
abbrev S4x16x64x64x512 : Shape := ⟨5, ![4, 16, 64, 64, 512]⟩
abbrev S4x16x64x64x1024 : Shape := ⟨5, ![4, 16, 64, 64, 1024]⟩
abbrev S4x16x64x64 : Shape := ⟨4, ![4, 16, 64, 64]⟩
abbrev S4x16x64x64x1 : Shape := ⟨5, ![4, 16, 64, 64, 1]⟩
abbrev S4x64x64x16x64 : Shape := ⟨5, ![4, 64, 64, 16, 64]⟩

abbrev nBuf : Space → Nat
  | .hbm => 152
  | .vmem => 0
  | .smem => 0
  | _ => 0

abbrev hbmTy0_0 (i : Nat) : BufTy := match i % 128 with
  | 0 => ⟨S4x4096x1024, .bf16⟩
  | 1 => ⟨S4x4096x1024, .bf16⟩
  | 2 => ⟨S4x4096x1024, .bf16⟩
  | 3 => ⟨S4x1x16x512x64, .f32⟩
  | 4 => ⟨S4x1x16x512x64, .f32⟩
  | 5 => ⟨S16x14x64x128, .f32⟩
  | 6 => ⟨S4x4096x1024, .f32⟩
  | 7 => ⟨S4x4096x16x64, .f32⟩
  | 8 => ⟨S4x16x4096x64, .f32⟩
  | 9 => ⟨S4x16x64x64x64, .f32⟩
  | 10 => ⟨S4x4096x1024, .f32⟩
  | 11 => ⟨S4x4096x16x64, .f32⟩
  | 12 => ⟨S4x16x4096x64, .f32⟩
  | 13 => ⟨S4x16x64x64x64, .f32⟩
  | 14 => ⟨S4x4096x1024, .f32⟩
  | 15 => ⟨S4x4096x16x64, .f32⟩
  | 16 => ⟨S4x16x4096x64, .f32⟩
  | 17 => ⟨S4x16x64x64x64, .f32⟩
  | 18 => ⟨S4x16x512x64, .f32⟩
  | 19 => ⟨S4x16x512x64, .f32⟩
  | 20 => ⟨S64, .i32⟩
  | 21 => ⟨S_, .i32⟩
  | 22 => ⟨S64, .i32⟩
  | 23 => ⟨S64, .i32⟩
  | 24 => ⟨S_, .i32⟩
  | 25 => ⟨S_, .i32⟩
  | 26 => ⟨S_, .i32⟩
  | 27 => ⟨S64, .i32⟩
  | 28 => ⟨S64, .i32⟩
  | 29 => ⟨S_, .i32⟩
  | 30 => ⟨S64, .i32⟩
  | 31 => ⟨S64, .i32⟩
  | 32 => ⟨S64x1, .i32⟩
  | 33 => ⟨S8, .i32⟩
  | 34 => ⟨S1x8, .i32⟩
  | 35 => ⟨S64x8, .i32⟩
  | 36 => ⟨S64x8, .i32⟩
  | 37 => ⟨S64x8, .i32⟩
  | 38 => ⟨S_, .i32⟩
  | 39 => ⟨S64x8, .i32⟩
  | 40 => ⟨S64x8, .i1⟩
  | 41 => ⟨S_, .i32⟩
  | 42 => ⟨S64x8, .i32⟩
  | 43 => ⟨S64x8, .i32⟩
  | 44 => ⟨S64x8, .i32⟩
  | 45 => ⟨S64x8x1, .i32⟩
  | 46 => ⟨S4x16x64x8x64x64, .f32⟩
  | 47 => ⟨S_, .i32⟩
  | 48 => ⟨S64x8, .i32⟩
  | 49 => ⟨S64x8, .i1⟩
  | 50 => ⟨S_, .i32⟩
  | 51 => ⟨S64x8, .i32⟩
  | 52 => ⟨S64x8, .i32⟩
  | 53 => ⟨S64x8, .i32⟩
  | 54 => ⟨S64x8x1, .i32⟩
  | 55 => ⟨S4x16x64x8x64x64, .f32⟩
  | 56 => ⟨S4x16x64x64x8x64, .f32⟩
  | 57 => ⟨S_, .f32⟩
  | 58 => ⟨S4x16x64x64x8x64, .f32⟩
  | 59 => ⟨S4x16x64x64x8x64, .f32⟩
  | 60 => ⟨S64, .i32⟩
  | 61 => ⟨S_, .i32⟩
  | 62 => ⟨S64, .i32⟩
  | 63 => ⟨S64, .i32⟩
  | 64 => ⟨S_, .i32⟩
  | 65 => ⟨S64, .i32⟩
  | 66 => ⟨S64, .i32⟩
  | 67 => ⟨S64x1, .i32⟩
  | 68 => ⟨S4, .i32⟩
  | 69 => ⟨S1x4, .i32⟩
  | 70 => ⟨S_, .i32⟩
  | 71 => ⟨S1x4, .i32⟩
  | 72 => ⟨S1x4, .i32⟩
  | 73 => ⟨S64x4, .i32⟩
  | 74 => ⟨S64x4, .i32⟩
  | 75 => ⟨S64x4, .i32⟩
  | 76 => ⟨S_, .i32⟩
  | 77 => ⟨S64x4, .i32⟩
  | 78 => ⟨S64x4, .i1⟩
  | 79 => ⟨S_, .i32⟩
  | 80 => ⟨S64x4, .i32⟩
  | 81 => ⟨S64x4, .i32⟩
  | 82 => ⟨S64x4, .i32⟩
  | 83 => ⟨S64x4x1, .i32⟩
  | 84 => ⟨S16x64x4x64x128, .f32⟩
  | 85 => ⟨S16x64x4x64x2x64, .f32⟩
  | 86 => ⟨S16x64x64x4x2x64, .f32⟩
  | 87 => ⟨S16x64x64x8x64, .f32⟩
  | 88 => ⟨S64, .i32⟩
  | 89 => ⟨S_, .i32⟩
  | 90 => ⟨S64, .i32⟩
  | 91 => ⟨S64, .i32⟩
  | 92 => ⟨S_, .i32⟩
  | 93 => ⟨S_, .i32⟩
  | 94 => ⟨S_, .i32⟩
  | 95 => ⟨S64, .i32⟩
  | 96 => ⟨S64, .i32⟩
  | 97 => ⟨S_, .i32⟩
  | 98 => ⟨S64, .i32⟩
  | 99 => ⟨S64, .i32⟩
  | 100 => ⟨S1x64, .i32⟩
  | 101 => ⟨S64x1, .i32⟩
  | 102 => ⟨S64x64, .i32⟩
  | 103 => ⟨S64x64, .i32⟩
  | 104 => ⟨S64x64, .i1⟩
  | 105 => ⟨S1x64, .i32⟩
  | 106 => ⟨S64x1, .i32⟩
  | 107 => ⟨S_, .i32⟩
  | 108 => ⟨S64x1, .i32⟩
  | 109 => ⟨S64x1, .i32⟩
  | 110 => ⟨S64x64, .i32⟩
  | 111 => ⟨S64x64, .i32⟩
  | 112 => ⟨S64x64, .i1⟩
  | 113 => ⟨S64x64, .i1⟩
  | 114 => ⟨S64x1x64, .i1⟩
  | 115 => ⟨S1x16x64x64x8x64, .f32⟩
  | 116 => ⟨S4x16x64x64x8x64, .f32⟩
  | 117 => ⟨S4x16x64x64x8x64, .f32⟩
  | 118 => ⟨S_, .f32⟩
  | 119 => ⟨S_, .f32⟩
  | 120 => ⟨S4x16x64x64x8x64, .i1⟩
  | 121 => ⟨S4x16x64x64x8x64, .f32⟩
  | 122 => ⟨S4x16x64x64x8x64, .f32⟩
  | 123 => ⟨S4x16x64x64x512, .f32⟩
  | 124 => ⟨S_, .f32⟩
  | 125 => ⟨S4x16x64x64x512, .f32⟩
  | 126 => ⟨S4x16x64x64x512, .f32⟩
  | 127 => ⟨S4x16x64x64x512, .f32⟩
  | _ => ⟨S4x4096x1024, .bf16⟩

abbrev hbmTy0_1 (i : Nat) : BufTy := match i % 128 with
  | 0 => ⟨S4x16x64x64x1024, .f32⟩
  | 1 => ⟨S_, .f32⟩
  | 2 => ⟨S4x16x64x64, .f32⟩
  | 3 => ⟨S_, .f32⟩
  | 4 => ⟨S4x16x64x64, .f32⟩
  | 5 => ⟨S4x16x64x64, .f32⟩
  | 6 => ⟨S4x16x64x64x1, .f32⟩
  | 7 => ⟨S4x16x64x64x1024, .f32⟩
  | 8 => ⟨S4x16x64x64x1024, .f32⟩
  | 9 => ⟨S4x16x64x64x1024, .f32⟩
  | 10 => ⟨S_, .f32⟩
  | 11 => ⟨S4x16x64x64, .f32⟩
  | 12 => ⟨S4x16x64x64x1, .f32⟩
  | 13 => ⟨S4x16x64x64x1024, .f32⟩
  | 14 => ⟨S4x16x64x64x1024, .f32⟩
  | 15 => ⟨S4x16x64x64x512, .f32⟩
  | 16 => ⟨S4x16x64x64x8x64, .f32⟩
  | 17 => ⟨S4x16x64x64x512, .f32⟩
  | 18 => ⟨S4x16x64x64x64, .f32⟩
  | 19 => ⟨S4x16x64x64x64, .f32⟩
  | 20 => ⟨S4x16x64x64x64, .f32⟩
  | 21 => ⟨S4x64x64x16x64, .f32⟩
  | 22 => ⟨S4x4096x1024, .f32⟩
  | 23 => ⟨S4x4096x1024, .bf16⟩
  | _ => ⟨S4x4096x1024, .bf16⟩

abbrev hbmTy (i : Nat) : BufTy := match i / 128 with
  | 0 => hbmTy0_0 i
  | 1 => hbmTy0_1 i
  | _ => ⟨S4x4096x1024, .bf16⟩

abbrev bufTy : (tb : Table) → Fin (tcTables nBuf tb) → BufTy
  | .hbm, ⟨i, _⟩ => hbmTy i
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_11 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_c_13 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_cst_18 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_19 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩

abbrev nD : Nat := 1
abbrev τ : Topo := Topo.v7x

variable {F : FTy → Type} [FloatOps F]
-- ==== CtxAttn.lean ====
abbrev S16x256x1024 : Shape := ⟨3, ![16, 256, 1024]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x256x1024, .bf16⟩
  | .hbm, ⟨1, _⟩ => ⟨S16x256x1024, .f32⟩
  | .hbm, ⟨2, _⟩ => ⟨S16x256x1024, .f32⟩
  | .hbm, ⟨3, _⟩ => ⟨S16x256x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .bf16⟩
  | .local _ .vmem, ⟨7, _⟩ => ⟨S1x256x128, .bf16⟩
  | _, _ => ⟨S16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxRefIdeal.lean ====
abbrev S16x256x1024 : Shape := ⟨3, ![16, 256, 1024]⟩
abbrev S16x256x16x64 : Shape := ⟨4, ![16, 256, 16, 64]⟩
abbrev S16x16x256x64 : Shape := ⟨4, ![16, 16, 256, 64]⟩
abbrev S16x16x256x256 : Shape := ⟨4, ![16, 16, 256, 256]⟩
abbrev S_ : Shape := ⟨0, ![]⟩
abbrev S16x16x256 : Shape := ⟨3, ![16, 16, 256]⟩
abbrev S16x16x256x1 : Shape := ⟨4, ![16, 16, 256, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x256x1024, .bf16⟩
  | .hbm, ⟨1, _⟩ => ⟨S16x256x1024, .f32⟩
  | .hbm, ⟨2, _⟩ => ⟨S16x256x1024, .f32⟩
  | .hbm, ⟨3, _⟩ => ⟨S16x256x1024, .f32⟩
  | .hbm, ⟨4, _⟩ => ⟨S16x256x16x64, .f32⟩
  | .hbm, ⟨5, _⟩ => ⟨S16x16x256x64, .f32⟩
  | .hbm, ⟨6, _⟩ => ⟨S16x256x16x64, .f32⟩
  | .hbm, ⟨7, _⟩ => ⟨S16x16x256x64, .f32⟩
  | .hbm, ⟨8, _⟩ => ⟨S16x256x16x64, .f32⟩
  | .hbm, ⟨9, _⟩ => ⟨S16x16x256x64, .f32⟩
  | .hbm, ⟨10, _⟩ => ⟨S16x16x256x256, .f32⟩
  | .hbm, ⟨11, _⟩ => ⟨S_, .f32⟩
  | .hbm, ⟨12, _⟩ => ⟨S16x16x256x256, .f32⟩
  | .hbm, ⟨13, _⟩ => ⟨S16x16x256x256, .f32⟩
  | .hbm, ⟨14, _⟩ => ⟨S_, .f32⟩
  | .hbm, ⟨15, _⟩ => ⟨S16x16x256, .f32⟩
  | .hbm, ⟨16, _⟩ => ⟨S_, .f32⟩
  | .hbm, ⟨17, _⟩ => ⟨S16x16x256, .f32⟩
  | .hbm, ⟨18, _⟩ => ⟨S16x16x256, .f32⟩
  | .hbm, ⟨19, _⟩ => ⟨S16x16x256x1, .f32⟩
  | .hbm, ⟨20, _⟩ => ⟨S16x16x256x256, .f32⟩
  | .hbm, ⟨21, _⟩ => ⟨S16x16x256x256, .f32⟩
  | .hbm, ⟨22, _⟩ => ⟨S16x16x256x256, .f32⟩
  | .hbm, ⟨23, _⟩ => ⟨S_, .f32⟩
  | .hbm, ⟨24, _⟩ => ⟨S16x16x256, .f32⟩
  | .hbm, ⟨25, _⟩ => ⟨S16x16x256x1, .f32⟩
  | .hbm, ⟨26, _⟩ => ⟨S16x16x256x256, .f32⟩
  | .hbm, ⟨27, _⟩ => ⟨S16x16x256x256, .f32⟩
  | .hbm, ⟨28, _⟩ => ⟨S16x16x256x64, .f32⟩
  | .hbm, ⟨29, _⟩ => ⟨S16x256x16x64, .f32⟩
  | .hbm, ⟨30, _⟩ => ⟨S16x256x1024, .f32⟩
  | .hbm, ⟨31, _⟩ => ⟨S16x256x1024, .bf16⟩
  | _, _ => ⟨S16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== PostOdd.lean ====
abbrev S16384x1024 : Shape := ⟨2, ![16384, 1024]⟩
abbrev S4x6x1024 : Shape := ⟨3, ![4, 6, 1024]⟩
abbrev S4x4096x1024 : Shape := ⟨3, ![4, 4096, 1024]⟩
abbrev S1x1024x1024 : Shape := ⟨3, ![1, 1024, 1024]⟩
abbrev S1x1024 : Shape := ⟨2, ![1, 1024]⟩
abbrev S2x1024 : Shape := ⟨2, ![2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S1024x1024 : Shape := ⟨2, ![1024, 1024]⟩
abbrev S1024 : Shape := ⟨1, ![1024]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 43
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S4x4096x1024, .bf16⟩
  | .hbm, ⟨3, _⟩ => ⟨S1x1024x1024, .f32⟩
  | .hbm, ⟨4, _⟩ => ⟨S1x1024, .f32⟩
  | .hbm, ⟨5, _⟩ => ⟨S2x1024, .f32⟩
  | .hbm, ⟨6, _⟩ => ⟨S2x1024, .f32⟩
  | .hbm, ⟨7, _⟩ => ⟨S2x1024x4096, .f32⟩
  | .hbm, ⟨8, _⟩ => ⟨S2x4096, .f32⟩
  | .hbm, ⟨9, _⟩ => ⟨S2x4096x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S16384x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024x4096, .f32⟩
  | .hbm, ⟨25, _⟩ => ⟨S1024x4096, .f32⟩
  | .hbm, ⟨26, _⟩ => ⟨S1024x4096, .bf16⟩
  | .hbm, ⟨27, _⟩ => ⟨S1x4096, .f32⟩
  | .hbm, ⟨28, _⟩ => ⟨S4096, .f32⟩
  | .hbm, ⟨29, _⟩ => ⟨S1x4096, .f32⟩
  | .hbm, ⟨30, _⟩ => ⟨S1x4096x1024, .f32⟩
  | .hbm, ⟨31, _⟩ => ⟨S4096x1024, .f32⟩
  | .hbm, ⟨32, _⟩ => ⟨S4096x1024, .bf16⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S1x4096, .f32⟩
  | .local _ .vmem, ⟨12, _⟩ => ⟨S4096x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PostOddRefIdeal.lean ====
abbrev S16384x1024 : Shape := ⟨2, ![16384, 1024]⟩
abbrev S4x6x1024 : Shape := ⟨3, ![4, 6, 1024]⟩
abbrev S4x4096x1024 : Shape := ⟨3, ![4, 4096, 1024]⟩
abbrev S1x1024x1024 : Shape := ⟨3, ![1, 1024, 1024]⟩
abbrev S1x1024 : Shape := ⟨2, ![1, 1024]⟩
abbrev S2x1024 : Shape := ⟨2, ![2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S4x1x1024 : Shape := ⟨3, ![4, 1, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S4x4096x4096 : Shape := ⟨3, ![4, 4096, 4096]⟩
abbrev S1x1x4096 : Shape := ⟨3, ![1, 1, 4096]⟩

abbrev nBuf : Space → Nat
  | .hbm => 156
  | .vmem => 0
  | .smem => 0
  | _ => 0

abbrev hbmTy0_0 (i : Nat) : BufTy := match i % 128 with
  | 0 => ⟨S16384x1024, .f32⟩
  | 1 => ⟨S4x6x1024, .f32⟩
  | 2 => ⟨S4x4096x1024, .bf16⟩
  | 3 => ⟨S1x1024x1024, .f32⟩
  | 4 => ⟨S1x1024, .f32⟩
  | 5 => ⟨S2x1024, .f32⟩
  | 6 => ⟨S2x1024, .f32⟩
  | 7 => ⟨S2x1024x4096, .f32⟩
  | 8 => ⟨S2x4096, .f32⟩
  | 9 => ⟨S2x4096x1024, .f32⟩
  | 10 => ⟨S2x1024, .f32⟩
  | 11 => ⟨S2x1024, .f32⟩
  | 12 => ⟨S2x1024, .f32⟩
  | 13 => ⟨S4x4096x1024, .f32⟩
  | 14 => ⟨S4x1x1024, .f32⟩
  | 15 => ⟨S4x1x1024, .f32⟩
  | 16 => ⟨S4x1x1024, .f32⟩
  | 17 => ⟨S4x1x1024, .f32⟩
  | 18 => ⟨S4x1x1024, .f32⟩
  | 19 => ⟨S4x1x1024, .f32⟩
  | 20 => ⟨S4x4096x1024, .f32⟩
  | 21 => ⟨S1024x1024, .f32⟩
  | 22 => ⟨S4x4096x1024, .f32⟩
  | 23 => ⟨S1024, .f32⟩
  | 24 => ⟨S1x1x1024, .f32⟩
  | 25 => ⟨S4x4096x1024, .f32⟩
  | 26 => ⟨S4x4096x1024, .f32⟩
  | 27 => ⟨S_, .f32⟩
  | 28 => ⟨S4x4096x1024, .f32⟩
  | 29 => ⟨S4x4096x1024, .f32⟩
  | 30 => ⟨S4x4096x1024, .f32⟩
  | 31 => ⟨S4x4096x1024, .f32⟩
  | 32 => ⟨S4x4096x1024, .f32⟩
  | 33 => ⟨S1x1024, .f32⟩
  | 34 => ⟨S1024, .f32⟩
  | 35 => ⟨S1x1024, .f32⟩
  | 36 => ⟨S1024, .f32⟩
  | 37 => ⟨S_, .f32⟩
  | 38 => ⟨S4x4096, .f32⟩
  | 39 => ⟨S4x4096x1, .f32⟩
  | 40 => ⟨S_, .f32⟩
  | 41 => ⟨S4x4096x1, .f32⟩
  | 42 => ⟨S4x4096x1, .f32⟩
  | 43 => ⟨S4x4096x1024, .f32⟩
  | 44 => ⟨S4x4096x1024, .f32⟩
  | 45 => ⟨S4x4096x1024, .f32⟩
  | 46 => ⟨S_, .f32⟩
  | 47 => ⟨S4x4096, .f32⟩
  | 48 => ⟨S4x4096x1, .f32⟩
  | 49 => ⟨S_, .f32⟩
  | 50 => ⟨S4x4096x1, .f32⟩
  | 51 => ⟨S4x4096x1, .f32⟩
  | 52 => ⟨S4x4096x1024, .f32⟩
  | 53 => ⟨S4x4096x1024, .f32⟩
  | 54 => ⟨S_, .f32⟩
  | 55 => ⟨S4x4096x1, .f32⟩
  | 56 => ⟨S4x4096x1, .f32⟩
  | 57 => ⟨S4x4096x1, .f32⟩
  | 58 => ⟨S4x4096x1024, .f32⟩
  | 59 => ⟨S4x4096x1024, .f32⟩
  | 60 => ⟨S1x1x1024, .f32⟩
  | 61 => ⟨S4x4096x1024, .f32⟩
  | 62 => ⟨S4x4096x1024, .f32⟩
  | 63 => ⟨S1x1x1024, .f32⟩
  | 64 => ⟨S4x4096x1024, .f32⟩
  | 65 => ⟨S4x4096x1024, .f32⟩
  | 66 => ⟨S_, .f32⟩
  | 67 => ⟨S4x4096, .f32⟩
  | 68 => ⟨S4x4096x1, .f32⟩
  | 69 => ⟨S_, .f32⟩
  | 70 => ⟨S4x4096x1, .f32⟩
  | 71 => ⟨S4x4096x1, .f32⟩
  | 72 => ⟨S4x4096x1024, .f32⟩
  | 73 => ⟨S4x4096x1024, .f32⟩
  | 74 => ⟨S4x4096x1024, .f32⟩
  | 75 => ⟨S_, .f32⟩
  | 76 => ⟨S4x4096, .f32⟩
  | 77 => ⟨S4x4096x1, .f32⟩
  | 78 => ⟨S_, .f32⟩
  | 79 => ⟨S4x4096x1, .f32⟩
  | 80 => ⟨S4x4096x1, .f32⟩
  | 81 => ⟨S4x4096x1024, .f32⟩
  | 82 => ⟨S4x4096x1024, .f32⟩
  | 83 => ⟨S_, .f32⟩
  | 84 => ⟨S4x4096x1, .f32⟩
  | 85 => ⟨S4x4096x1, .f32⟩
  | 86 => ⟨S4x4096x1, .f32⟩
  | 87 => ⟨S4x4096x1024, .f32⟩
  | 88 => ⟨S4x4096x1024, .f32⟩
  | 89 => ⟨S_, .f32⟩
  | 90 => ⟨S4x1x1024, .f32⟩
  | 91 => ⟨S4x1x1024, .f32⟩
  | 92 => ⟨S4x4096x1024, .f32⟩
  | 93 => ⟨S4x4096x1024, .f32⟩
  | 94 => ⟨S4x4096x1024, .f32⟩
  | 95 => ⟨S4x4096x1024, .f32⟩
  | 96 => ⟨S_, .f32⟩
  | 97 => ⟨S4x4096x1024, .f32⟩
  | 98 => ⟨S4x4096x1024, .f32⟩
  | 99 => ⟨S1x1024x4096, .f32⟩
  | 100 => ⟨S1024x4096, .f32⟩
  | 101 => ⟨S1x4096, .f32⟩
  | 102 => ⟨S4096, .f32⟩
  | 103 => ⟨S1x4096x1024, .f32⟩
  | 104 => ⟨S4096x1024, .f32⟩
  | 105 => ⟨S1x1024, .f32⟩
  | 106 => ⟨S1024, .f32⟩
  | 107 => ⟨S4x4096x4096, .f32⟩
  | 108 => ⟨S1x1x4096, .f32⟩
  | 109 => ⟨S4x4096x4096, .f32⟩
  | 110 => ⟨S4x4096x4096, .f32⟩
  | 111 => ⟨S_, .f32⟩
  | 112 => ⟨S4x4096x4096, .f32⟩
  | 113 => ⟨S4x4096x4096, .f32⟩
  | 114 => ⟨S4x4096x4096, .f32⟩
  | 115 => ⟨S4x4096x1024, .f32⟩
  | 116 => ⟨S1x1x1024, .f32⟩
  | 117 => ⟨S4x4096x1024, .f32⟩
  | 118 => ⟨S4x4096x1024, .f32⟩
  | 119 => ⟨S4x4096x1024, .f32⟩
  | 120 => ⟨S4x4096x1024, .f32⟩
  | 121 => ⟨S4x4096x1024, .f32⟩
  | 122 => ⟨S1x1024, .f32⟩
  | 123 => ⟨S1024, .f32⟩
  | 124 => ⟨S1x1024, .f32⟩
  | 125 => ⟨S1024, .f32⟩
  | 126 => ⟨S_, .f32⟩
  | 127 => ⟨S4x4096, .f32⟩
  | _ => ⟨S16384x1024, .f32⟩

abbrev hbmTy0_1 (i : Nat) : BufTy := match i % 128 with
  | 0 => ⟨S4x4096x1, .f32⟩
  | 1 => ⟨S_, .f32⟩
  | 2 => ⟨S4x4096x1, .f32⟩
  | 3 => ⟨S4x4096x1, .f32⟩
  | 4 => ⟨S4x4096x1024, .f32⟩
  | 5 => ⟨S4x4096x1024, .f32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S4x4096x1024, .f32⟩
  | 14 => ⟨S4x4096x1024, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S1x1x1024, .f32⟩
  | 25 => ⟨S4x4096x1024, .f32⟩
  | 26 => ⟨S4x4096x1024, .f32⟩
  | 27 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_call0_cst : Ref sig .tc := ⟨.hbm, 111, rfl⟩
abbrev main_call0_v0 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_12 : Ref sig .tc := ⟨.hbm, 126, rfl⟩
abbrev main_v98 : Ref sig .tc := ⟨.hbm, 127, rfl⟩
abbrev main_v99 : Ref sig .tc := ⟨.hbm, 128, rfl⟩
abbrev main_cst_13 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_14 : Ref sig .tc := ⟨.hbm, 135, rfl⟩
abbrev main_v105 : Ref sig .tc := ⟨.hbm, 136, rfl⟩
abbrev main_v106 : Ref sig .tc := ⟨.hbm, 137, rfl⟩
abbrev main_cst_15 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_16 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩

abbrev nD : Nat := 1
abbrev τ : Topo := Topo.v7x

variable {F : FTy → Type} [FloatOps F]
-- ==== PostEven.lean ====
abbrev S16384x1024 : Shape := ⟨2, ![16384, 1024]⟩
abbrev S4x6x1024 : Shape := ⟨3, ![4, 6, 1024]⟩
abbrev S4x4096x512 : Shape := ⟨3, ![4, 4096, 512]⟩
abbrev S1x1024x1024 : Shape := ⟨3, ![1, 1024, 1024]⟩
abbrev S1x1024 : Shape := ⟨2, ![1, 1024]⟩
abbrev S2x1024 : Shape := ⟨2, ![2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S1024x1024 : Shape := ⟨2, ![1024, 1024]⟩
abbrev S512x1024 : Shape := ⟨2, ![512, 1024]⟩
abbrev S1024 : Shape := ⟨1, ![1024]⟩
abbrev S16384x512 : Shape := ⟨2, ![16384, 512]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S1x6x1024 : Shape := ⟨3, ![1, 6, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 50
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S4x4096x512, .f32⟩
  | .hbm, ⟨3, _⟩ => ⟨S4x4096x512, .f32⟩
  | .hbm, ⟨4, _⟩ => ⟨S16384x1024, .f32⟩
  | .hbm, ⟨5, _⟩ => ⟨S4x4096x512, .bf16⟩
  | .hbm, ⟨6, _⟩ => ⟨S1x1024x1024, .f32⟩
  | .hbm, ⟨7, _⟩ => ⟨S1x1024, .f32⟩
  | .hbm, ⟨8, _⟩ => ⟨S2x1024, .f32⟩
  | .hbm, ⟨9, _⟩ => ⟨S2x1024, .f32⟩
  | .hbm, ⟨10, _⟩ => ⟨S2x1024x4096, .f32⟩
  | .hbm, ⟨11, _⟩ => ⟨S2x4096, .f32⟩
  | .hbm, ⟨12, _⟩ => ⟨S2x4096x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S1024x1024, .f32⟩
  | .hbm, ⟨17, _⟩ => ⟨S1024x1024, .bf16⟩
  | .hbm, ⟨18, _⟩ => ⟨S512x1024, .bf16⟩
  | .hbm, ⟨19, _⟩ => ⟨S512x1024, .bf16⟩
  | .hbm, ⟨20, _⟩ => ⟨S1024, .f32⟩
  | .hbm, ⟨21, _⟩ => ⟨S1x1024, .f32⟩
  | .hbm, ⟨22, _⟩ => ⟨S16384x512, .f32⟩
  | .hbm, ⟨23, _⟩ => ⟨S16384x512, .f32⟩
  | .hbm, ⟨24, _⟩ => ⟨S16384x512, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024x4096, .f32⟩
  | .hbm, ⟨32, _⟩ => ⟨S1024x4096, .f32⟩
  | .hbm, ⟨33, _⟩ => ⟨S1024x4096, .bf16⟩
  | .hbm, ⟨34, _⟩ => ⟨S1x4096, .f32⟩
  | .hbm, ⟨35, _⟩ => ⟨S4096, .f32⟩
  | .hbm, ⟨36, _⟩ => ⟨S1x4096, .f32⟩
  | .hbm, ⟨37, _⟩ => ⟨S1x4096x1024, .f32⟩
  | .hbm, ⟨38, _⟩ => ⟨S4096x1024, .f32⟩
  | .hbm, ⟨39, _⟩ => ⟨S4096x1024, .bf16⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x4096, .bf16⟩
  | .local _ .vmem, ⟨18, _⟩ => ⟨S1x4096, .f32⟩
  | .local _ .vmem, ⟨19, _⟩ => ⟨S4096x1024, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PostEvenRefIdeal.lean ====
abbrev S16384x1024 : Shape := ⟨2, ![16384, 1024]⟩
abbrev S4x6x1024 : Shape := ⟨3, ![4, 6, 1024]⟩
abbrev S4x4096x512 : Shape := ⟨3, ![4, 4096, 512]⟩
abbrev S1x1024x1024 : Shape := ⟨3, ![1, 1024, 1024]⟩
abbrev S1x1024 : Shape := ⟨2, ![1, 1024]⟩
abbrev S2x1024 : Shape := ⟨2, ![2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S4x4096x1024 : Shape := ⟨3, ![4, 4096, 1024]⟩
abbrev S4x1x1024 : Shape := ⟨3, ![4, 1, 1024]⟩
abbrev S_ : Shape := ⟨0, ![]⟩
abbrev S1024x1024 : Shape := ⟨2, ![1024, 1024]⟩
abbrev S1024 : Shape := ⟨1, ![1024]⟩
abbrev S1x1x1024 : Shape := ⟨3, ![1, 1, 1024]⟩
abbrev S4x4096 : Shape := ⟨2, ![4, 4096]⟩
abbrev S4x4096x1 : Shape := ⟨3, ![4, 4096, 1]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S4x4096x4096 : Shape := ⟨3, ![4, 4096, 4096]⟩
abbrev S1x1x4096 : Shape := ⟨3, ![1, 1, 4096]⟩

abbrev nBuf : Space → Nat
  | .hbm => 181
  | .vmem => 0
  | .smem => 0
  | _ => 0

abbrev hbmTy0_0 (i : Nat) : BufTy := match i % 128 with
  | 0 => ⟨S16384x1024, .f32⟩
  | 1 => ⟨S4x6x1024, .f32⟩
  | 2 => ⟨S4x4096x512, .f32⟩
  | 3 => ⟨S4x4096x512, .f32⟩
  | 4 => ⟨S16384x1024, .f32⟩
  | 5 => ⟨S4x4096x512, .bf16⟩
  | 6 => ⟨S1x1024x1024, .f32⟩
  | 7 => ⟨S1x1024, .f32⟩
  | 8 => ⟨S2x1024, .f32⟩
  | 9 => ⟨S2x1024, .f32⟩
  | 10 => ⟨S2x1024x4096, .f32⟩
  | 11 => ⟨S2x4096, .f32⟩
  | 12 => ⟨S2x4096x1024, .f32⟩
  | 13 => ⟨S2x1024, .f32⟩
  | 14 => ⟨S2x1024, .f32⟩
  | 15 => ⟨S2x1024, .f32⟩
  | 16 => ⟨S4x4096x1024, .f32⟩
  | 17 => ⟨S4x1x1024, .f32⟩
  | 18 => ⟨S4x1x1024, .f32⟩
  | 19 => ⟨S4x1x1024, .f32⟩
  | 20 => ⟨S4x1x1024, .f32⟩
  | 21 => ⟨S4x1x1024, .f32⟩
  | 22 => ⟨S4x1x1024, .f32⟩
  | 23 => ⟨S4x4096x1024, .f32⟩
  | 24 => ⟨S4x4096x512, .f32⟩
  | 25 => ⟨S4x4096x512, .f32⟩
  | 26 => ⟨S4x4096x512, .f32⟩
  | 27 => ⟨S4x4096x512, .f32⟩
  | 28 => ⟨S_, .f32⟩
  | 29 => ⟨S4x4096x512, .f32⟩
  | 30 => ⟨S4x4096x512, .f32⟩
  | 31 => ⟨S4x4096x512, .f32⟩
  | 32 => ⟨S_, .f32⟩
  | 33 => ⟨S4x4096x512, .f32⟩
  | 34 => ⟨S4x4096x512, .f32⟩
  | 35 => ⟨S4x4096x512, .f32⟩
  | 36 => ⟨S_, .f32⟩
  | 37 => ⟨S4x4096x512, .f32⟩
  | 38 => ⟨S4x4096x512, .f32⟩
  | 39 => ⟨S_, .f32⟩
  | 40 => ⟨S4x4096x512, .f32⟩
  | 41 => ⟨S4x4096x512, .f32⟩
  | 42 => ⟨S4x4096x512, .f32⟩
  | 43 => ⟨S4x4096x512, .f32⟩
  | 44 => ⟨S4x4096x512, .f32⟩
  | 45 => ⟨S4x4096x1024, .f32⟩
  | 46 => ⟨S1024x1024, .f32⟩
  | 47 => ⟨S4x4096x1024, .f32⟩
  | 48 => ⟨S1024, .f32⟩
  | 49 => ⟨S1x1x1024, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S4x4096x1024, .f32⟩
  | 56 => ⟨S4x4096x1024, .f32⟩
  | 57 => ⟨S4x4096x1024, .f32⟩
  | 58 => ⟨S1x1024, .f32⟩
  | 59 => ⟨S1024, .f32⟩
  | 60 => ⟨S1x1024, .f32⟩
  | 61 => ⟨S1024, .f32⟩
  | 62 => ⟨S_, .f32⟩
  | 63 => ⟨S4x4096, .f32⟩
  | 64 => ⟨S4x4096x1, .f32⟩
  | 65 => ⟨S_, .f32⟩
  | 66 => ⟨S4x4096x1, .f32⟩
  | 67 => ⟨S4x4096x1, .f32⟩
  | 68 => ⟨S4x4096x1024, .f32⟩
  | 69 => ⟨S4x4096x1024, .f32⟩
  | 70 => ⟨S4x4096x1024, .f32⟩
  | 71 => ⟨S_, .f32⟩
  | 72 => ⟨S4x4096, .f32⟩
  | 73 => ⟨S4x4096x1, .f32⟩
  | 74 => ⟨S_, .f32⟩
  | 75 => ⟨S4x4096x1, .f32⟩
  | 76 => ⟨S4x4096x1, .f32⟩
  | 77 => ⟨S4x4096x1024, .f32⟩
  | 78 => ⟨S4x4096x1024, .f32⟩
  | 79 => ⟨S_, .f32⟩
  | 80 => ⟨S4x4096x1, .f32⟩
  | 81 => ⟨S4x4096x1, .f32⟩
  | 82 => ⟨S4x4096x1, .f32⟩
  | 83 => ⟨S4x4096x1024, .f32⟩
  | 84 => ⟨S4x4096x1024, .f32⟩
  | 85 => ⟨S1x1x1024, .f32⟩
  | 86 => ⟨S4x4096x1024, .f32⟩
  | 87 => ⟨S4x4096x1024, .f32⟩
  | 88 => ⟨S1x1x1024, .f32⟩
  | 89 => ⟨S4x4096x1024, .f32⟩
  | 90 => ⟨S4x4096x1024, .f32⟩
  | 91 => ⟨S_, .f32⟩
  | 92 => ⟨S4x4096, .f32⟩
  | 93 => ⟨S4x4096x1, .f32⟩
  | 94 => ⟨S_, .f32⟩
  | 95 => ⟨S4x4096x1, .f32⟩
  | 96 => ⟨S4x4096x1, .f32⟩
  | 97 => ⟨S4x4096x1024, .f32⟩
  | 98 => ⟨S4x4096x1024, .f32⟩
  | 99 => ⟨S4x4096x1024, .f32⟩
  | 100 => ⟨S_, .f32⟩
  | 101 => ⟨S4x4096, .f32⟩
  | 102 => ⟨S4x4096x1, .f32⟩
  | 103 => ⟨S_, .f32⟩
  | 104 => ⟨S4x4096x1, .f32⟩
  | 105 => ⟨S4x4096x1, .f32⟩
  | 106 => ⟨S4x4096x1024, .f32⟩
  | 107 => ⟨S4x4096x1024, .f32⟩
  | 108 => ⟨S_, .f32⟩
  | 109 => ⟨S4x4096x1, .f32⟩
  | 110 => ⟨S4x4096x1, .f32⟩
  | 111 => ⟨S4x4096x1, .f32⟩
  | 112 => ⟨S4x4096x1024, .f32⟩
  | 113 => ⟨S4x4096x1024, .f32⟩
  | 114 => ⟨S_, .f32⟩
  | 115 => ⟨S4x1x1024, .f32⟩
  | 116 => ⟨S4x1x1024, .f32⟩
  | 117 => ⟨S4x4096x1024, .f32⟩
  | 118 => ⟨S4x4096x1024, .f32⟩
  | 119 => ⟨S4x4096x1024, .f32⟩
  | 120 => ⟨S4x4096x1024, .f32⟩
  | 121 => ⟨S_, .f32⟩
  | 122 => ⟨S4x4096x1024, .f32⟩
  | 123 => ⟨S4x4096x1024, .f32⟩
  | 124 => ⟨S1x1024x4096, .f32⟩
  | 125 => ⟨S1024x4096, .f32⟩
  | 126 => ⟨S1x4096, .f32⟩
  | 127 => ⟨S4096, .f32⟩
  | _ => ⟨S16384x1024, .f32⟩

abbrev hbmTy0_1 (i : Nat) : BufTy := match i % 128 with
  | 0 => ⟨S1x4096x1024, .f32⟩
  | 1 => ⟨S4096x1024, .f32⟩
  | 2 => ⟨S1x1024, .f32⟩
  | 3 => ⟨S1024, .f32⟩
  | 4 => ⟨S4x4096x4096, .f32⟩
  | 5 => ⟨S1x1x4096, .f32⟩
  | 6 => ⟨S4x4096x4096, .f32⟩
  | 7 => ⟨S4x4096x4096, .f32⟩
  | 8 => ⟨S_, .f32⟩
  | 9 => ⟨S4x4096x4096, .f32⟩
  | 10 => ⟨S4x4096x4096, .f32⟩
  | 11 => ⟨S4x4096x4096, .f32⟩
  | 12 => ⟨S4x4096x1024, .f32⟩
  | 13 => ⟨S1x1x1024, .f32⟩
  | 14 => ⟨S4x4096x1024, .f32⟩
  | 15 => ⟨S4x4096x1024, .f32⟩
  | 16 => ⟨S4x4096x1024, .f32⟩
  | 17 => ⟨S4x4096x1024, .f32⟩
  | 18 => ⟨S4x4096x1024, .f32⟩
  | 19 => ⟨S1x1024, .f32⟩
  | 20 => ⟨S1024, .f32⟩
  | 21 => ⟨S1x1024, .f32⟩
  | 22 => ⟨S1024, .f32⟩
  | 23 => ⟨S_, .f32⟩
  | 24 => ⟨S4x4096, .f32⟩
  | 25 => ⟨S4x4096x1, .f32⟩
  | 26 => ⟨S_, .f32⟩
  | 27 => ⟨S4x4096x1, .f32⟩
  | 28 => ⟨S4x4096x1, .f32⟩
  | 29 => ⟨S4x4096x1024, .f32⟩
  | 30 => ⟨S4x4096x1024, .f32⟩
  | 31 => ⟨S4x4096x1024, .f32⟩
  | 32 => ⟨S_, .f32⟩
  | 33 => ⟨S4x4096, .f32⟩
  | 34 => ⟨S4x4096x1, .f32⟩
  | 35 => ⟨S_, .f32⟩
  | 36 => ⟨S4x4096x1, .f32⟩
  | 37 => ⟨S4x4096x1, .f32⟩
  | 38 => ⟨S4x4096x1024, .f32⟩
  | 39 => ⟨S4x4096x1024, .f32⟩
  | 40 => ⟨S_, .f32⟩
  | 41 => ⟨S4x4096x1, .f32⟩
  | 42 => ⟨S4x4096x1, .f32⟩
  | 43 => ⟨S4x4096x1, .f32⟩
  | 44 => ⟨S4x4096x1024, .f32⟩
  | 45 => ⟨S4x4096x1024, .f32⟩
  | 46 => ⟨S1x1x1024, .f32⟩
  | 47 => ⟨S4x4096x1024, .f32⟩
  | 48 => ⟨S4x4096x1024, .f32⟩
  | 49 => ⟨S1x1x1024, .f32⟩
  | 50 => ⟨S4x4096x1024, .f32⟩
  | 51 => ⟨S4x4096x1024, .f32⟩
  | 52 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_9 : Ref sig .tc := ⟨.hbm, 91, rfl⟩
abbrev main_v65 : Ref sig .tc := ⟨.hbm, 92, rfl⟩
abbrev main_v66 : Ref sig .tc := ⟨.hbm, 93, rfl⟩
abbrev main_cst_10 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_15 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_call0_cst : Ref sig .tc := ⟨.hbm, 136, rfl⟩
abbrev main_call0_v0 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_16 : Ref sig .tc := ⟨.hbm, 151, rfl⟩
abbrev main_v116 : Ref sig .tc := ⟨.hbm, 152, rfl⟩
abbrev main_v117 : Ref sig .tc := ⟨.hbm, 153, rfl⟩
abbrev main_cst_17 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_18 : Ref sig .tc := ⟨.hbm, 160, rfl⟩
abbrev main_v123 : Ref sig .tc := ⟨.hbm, 161, rfl⟩
abbrev main_v124 : Ref sig .tc := ⟨.hbm, 162, rfl⟩
abbrev main_cst_19 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_20 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩

abbrev nD : Nat := 1
abbrev τ : Topo := Topo.v7x

variable {F : FTy → Type} [FloatOps F]
-- ==== Qkv.lean ====
abbrev S4096x1024 : Shape := ⟨2, ![4096, 1024]⟩
abbrev S1x6x1024 : Shape := ⟨3, ![1, 6, 1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩
abbrev S512x3072 : Shape := ⟨2, ![512, 3072]⟩
abbrev S16x256x1024 : Shape := ⟨3, ![16, 256, 1024]⟩
abbrev S16x256x16x64 : Shape := ⟨4, ![16, 256, 16, 64]⟩
abbrev S16x16x256x64 : Shape := ⟨4, ![16, 16, 256, 64]⟩
abbrev S16x1x16x256x64 : Shape := ⟨5, ![16, 1, 16, 256, 64]⟩

abbrev nBuf : Space → Nat
  | .hbm => 18
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x6x1024, .f32⟩
  | .hbm, ⟨2, _⟩ => ⟨S1x1024x3072, .f32⟩
  | .hbm, ⟨3, _⟩ => ⟨S1x3072, .f32⟩
  | .hbm, ⟨4, _⟩ => ⟨S1024x3072, .f32⟩
  | .hbm, ⟨5, _⟩ => ⟨S1024x3072, .bf16⟩
  | .hbm, ⟨6, _⟩ => ⟨S3072, .f32⟩
  | .hbm, ⟨7, _⟩ => ⟨S1x3072, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S16x256x1024, .bf16⟩
  | .hbm, ⟨12, _⟩ => ⟨S16x256x16x64, .f32⟩
  | .hbm, ⟨13, _⟩ => ⟨S16x16x256x64, .f32⟩
  | .hbm, ⟨14, _⟩ => ⟨S16x1x16x256x64, .f32⟩
  | .hbm, ⟨15, _⟩ => ⟨S16x256x16x64, .f32⟩
  | .hbm, ⟨16, _⟩ => ⟨S16x16x256x64, .f32⟩
  | .hbm, ⟨17, _⟩ => ⟨S16x1x16x256x64, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1024x3072, .bf16⟩
  | .local _ .vmem, ⟨4, _⟩ => ⟨S1x3072, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvRefIdeal.lean ====
abbrev S4096x1024 : Shape := ⟨2, ![4096, 1024]⟩
abbrev S1x6x1024 : Shape := ⟨3, ![1, 6, 1024]⟩
abbrev S1x1024x3072 : Shape := ⟨3, ![1, 1024, 3072]⟩
abbrev S1x3072 : Shape := ⟨2, ![1, 3072]⟩
abbrev S16x256x1024 : Shape := ⟨3, ![16, 256, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S1024x3072 : Shape := ⟨2, ![1024, 3072]⟩
abbrev S16x256x3072 : Shape := ⟨3, ![16, 256, 3072]⟩
abbrev S3072 : Shape := ⟨1, ![3072]⟩
abbrev S1x1x3072 : Shape := ⟨3, ![1, 1, 3072]⟩
abbrev S16x256x16x64 : Shape := ⟨4, ![16, 256, 16, 64]⟩
abbrev S16x16x256x64 : Shape := ⟨4, ![16, 16, 256, 64]⟩
abbrev S16x1x16x256x64 : Shape := ⟨5, ![16, 1, 16, 256, 64]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x6x1024, .f32⟩
  | .hbm, ⟨2, _⟩ => ⟨S1x1024x3072, .f32⟩
  | .hbm, ⟨3, _⟩ => ⟨S1x3072, .f32⟩
  | .hbm, ⟨4, _⟩ => ⟨S16x256x1024, .f32⟩
  | .hbm, ⟨5, _⟩ => ⟨S1x1x1024, .f32⟩
  | .hbm, ⟨6, _⟩ => ⟨S1x1024, .f32⟩
  | .hbm, ⟨7, _⟩ => ⟨S1x1x1024, .f32⟩
  | .hbm, ⟨8, _⟩ => ⟨S1x1024, .f32⟩
  | .hbm, ⟨9, _⟩ => ⟨S_, .f32⟩
  | .hbm, ⟨10, _⟩ => ⟨S16x256, .f32⟩
  | .hbm, ⟨11, _⟩ => ⟨S16x256x1, .f32⟩
  | .hbm, ⟨12, _⟩ => ⟨S_, .f32⟩
  | .hbm, ⟨13, _⟩ => ⟨S16x256x1, .f32⟩
  | .hbm, ⟨14, _⟩ => ⟨S16x256x1, .f32⟩
  | .hbm, ⟨15, _⟩ => ⟨S16x256x1024, .f32⟩
  | .hbm, ⟨16, _⟩ => ⟨S16x256x1024, .f32⟩
  | .hbm, ⟨17, _⟩ => ⟨S16x256x1024, .f32⟩
  | .hbm, ⟨18, _⟩ => ⟨S_, .f32⟩
  | .hbm, ⟨19, _⟩ => ⟨S16x256, .f32⟩
  | .hbm, ⟨20, _⟩ => ⟨S16x256x1, .f32⟩
  | .hbm, ⟨21, _⟩ => ⟨S_, .f32⟩
  | .hbm, ⟨22, _⟩ => ⟨S16x256x1, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S_, .f32⟩
  | .hbm, ⟨27, _⟩ => ⟨S16x256x1, .f32⟩
  | .hbm, ⟨28, _⟩ => ⟨S16x256x1, .f32⟩
  | .hbm, ⟨29, _⟩ => ⟨S16x256x1, .f32⟩
  | .hbm, ⟨30, _⟩ => ⟨S16x256x1024, .f32⟩
  | .hbm, ⟨31, _⟩ => ⟨S16x256x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1x1024, .f32⟩
  | .hbm, ⟨36, _⟩ => ⟨S16x256x1024, .f32⟩
  | .hbm, ⟨37, _⟩ => ⟨S16x256x1024, .f32⟩
  | .hbm, ⟨38, _⟩ => ⟨S1x1x1024, .f32⟩
  | .hbm, ⟨39, _⟩ => ⟨S16x256x1024, .f32⟩
  | .hbm, ⟨40, _⟩ => ⟨S16x256x1024, .f32⟩
  | .hbm, ⟨41, _⟩ => ⟨S1024x3072, .f32⟩
  | .hbm, ⟨42, _⟩ => ⟨S16x256x3072, .f32⟩
  | .hbm, ⟨43, _⟩ => ⟨S3072, .f32⟩
  | .hbm, ⟨44, _⟩ => ⟨S1x1x3072, .f32⟩
  | .hbm, ⟨45, _⟩ => ⟨S16x256x3072, .f32⟩
  | .hbm, ⟨46, _⟩ => ⟨S16x256x3072, .f32⟩
  | .hbm, ⟨47, _⟩ => ⟨S16x256x1024, .f32⟩
  | .hbm, ⟨48, _⟩ => ⟨S16x256x1024, .f32⟩
  | .hbm, ⟨49, _⟩ => ⟨S16x256x1024, .f32⟩
  | .hbm, ⟨50, _⟩ => ⟨S16x256x1024, .bf16⟩
  | .hbm, ⟨51, _⟩ => ⟨S16x256x16x64, .f32⟩
  | .hbm, ⟨52, _⟩ => ⟨S16x16x256x64, .f32⟩
  | .hbm, ⟨53, _⟩ => ⟨S16x1x16x256x64, .f32⟩
  | .hbm, ⟨54, _⟩ => ⟨S16x256x16x64, .f32⟩
  | .hbm, ⟨55, _⟩ => ⟨S16x16x256x64, .f32⟩
  | .hbm, ⟨56, _⟩ => ⟨S16x1x16x256x64, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== PostOddPrompt.lean ====
abbrev S4096x1024 : Shape := ⟨2, ![4096, 1024]⟩
abbrev S1x6x1024 : Shape := ⟨3, ![1, 6, 1024]⟩
abbrev S16x256x1024 : Shape := ⟨3, ![16, 256, 1024]⟩
abbrev S1x1024x1024 : Shape := ⟨3, ![1, 1024, 1024]⟩
abbrev S1x1024 : Shape := ⟨2, ![1, 1024]⟩
abbrev S2x1024 : Shape := ⟨2, ![2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S1024x1024 : Shape := ⟨2, ![1024, 1024]⟩
abbrev S1024 : Shape := ⟨1, ![1024]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 43
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x6x1024, .f32⟩
  | .hbm, ⟨2, _⟩ => ⟨S16x256x1024, .bf16⟩
  | .hbm, ⟨3, _⟩ => ⟨S1x1024x1024, .f32⟩
  | .hbm, ⟨4, _⟩ => ⟨S1x1024, .f32⟩
  | .hbm, ⟨5, _⟩ => ⟨S2x1024, .f32⟩
  | .hbm, ⟨6, _⟩ => ⟨S2x1024, .f32⟩
  | .hbm, ⟨7, _⟩ => ⟨S2x1024x4096, .f32⟩
  | .hbm, ⟨8, _⟩ => ⟨S2x4096, .f32⟩
  | .hbm, ⟨9, _⟩ => ⟨S2x4096x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S4096x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024x4096, .f32⟩
  | .hbm, ⟨25, _⟩ => ⟨S1024x4096, .f32⟩
  | .hbm, ⟨26, _⟩ => ⟨S1024x4096, .bf16⟩
  | .hbm, ⟨27, _⟩ => ⟨S1x4096, .f32⟩
  | .hbm, ⟨28, _⟩ => ⟨S4096, .f32⟩
  | .hbm, ⟨29, _⟩ => ⟨S1x4096, .f32⟩
  | .hbm, ⟨30, _⟩ => ⟨S1x4096x1024, .f32⟩
  | .hbm, ⟨31, _⟩ => ⟨S4096x1024, .f32⟩
  | .hbm, ⟨32, _⟩ => ⟨S4096x1024, .bf16⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S1x4096, .f32⟩
  | .local _ .vmem, ⟨11, _⟩ => ⟨S4096x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PostOddPromptRefIdeal.lean ====
abbrev S4096x1024 : Shape := ⟨2, ![4096, 1024]⟩
abbrev S1x6x1024 : Shape := ⟨3, ![1, 6, 1024]⟩
abbrev S16x256x1024 : Shape := ⟨3, ![16, 256, 1024]⟩
abbrev S1x1024x1024 : Shape := ⟨3, ![1, 1024, 1024]⟩
abbrev S1x1024 : Shape := ⟨2, ![1, 1024]⟩
abbrev S2x1024 : Shape := ⟨2, ![2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S6x1024 : Shape := ⟨2, ![6, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S16x256x4096 : Shape := ⟨3, ![16, 256, 4096]⟩
abbrev S1x1x4096 : Shape := ⟨3, ![1, 1, 4096]⟩

abbrev nBuf : Space → Nat
  | .hbm => 161
  | .vmem => 0
  | .smem => 0
  | _ => 0

abbrev hbmTy0_0 (i : Nat) : BufTy := match i % 128 with
  | 0 => ⟨S4096x1024, .f32⟩
  | 1 => ⟨S1x6x1024, .f32⟩
  | 2 => ⟨S16x256x1024, .bf16⟩
  | 3 => ⟨S1x1024x1024, .f32⟩
  | 4 => ⟨S1x1024, .f32⟩
  | 5 => ⟨S2x1024, .f32⟩
  | 6 => ⟨S2x1024, .f32⟩
  | 7 => ⟨S2x1024x4096, .f32⟩
  | 8 => ⟨S2x4096, .f32⟩
  | 9 => ⟨S2x4096x1024, .f32⟩
  | 10 => ⟨S2x1024, .f32⟩
  | 11 => ⟨S2x1024, .f32⟩
  | 12 => ⟨S2x1024, .f32⟩
  | 13 => ⟨S16x256x1024, .f32⟩
  | 14 => ⟨S6x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S16x256x1024, .f32⟩
  | 22 => ⟨S1024x1024, .f32⟩
  | 23 => ⟨S16x256x1024, .f32⟩
  | 24 => ⟨S1024, .f32⟩
  | 25 => ⟨S1x1x1024, .f32⟩
  | 26 => ⟨S16x256x1024, .f32⟩
  | 27 => ⟨S16x256x1024, .f32⟩
  | 28 => ⟨S_, .f32⟩
  | 29 => ⟨S16x256x1024, .f32⟩
  | 30 => ⟨S16x256x1024, .f32⟩
  | 31 => ⟨S1x1x1024, .f32⟩
  | 32 => ⟨S16x256x1024, .f32⟩
  | 33 => ⟨S16x256x1024, .f32⟩
  | 34 => ⟨S16x256x1024, .f32⟩
  | 35 => ⟨S1x1024, .f32⟩
  | 36 => ⟨S1024, .f32⟩
  | 37 => ⟨S1x1024, .f32⟩
  | 38 => ⟨S1024, .f32⟩
  | 39 => ⟨S_, .f32⟩
  | 40 => ⟨S16x256, .f32⟩
  | 41 => ⟨S16x256x1, .f32⟩
  | 42 => ⟨S_, .f32⟩
  | 43 => ⟨S16x256x1, .f32⟩
  | 44 => ⟨S16x256x1, .f32⟩
  | 45 => ⟨S16x256x1024, .f32⟩
  | 46 => ⟨S16x256x1024, .f32⟩
  | 47 => ⟨S16x256x1024, .f32⟩
  | 48 => ⟨S_, .f32⟩
  | 49 => ⟨S16x256, .f32⟩
  | 50 => ⟨S16x256x1, .f32⟩
  | 51 => ⟨S_, .f32⟩
  | 52 => ⟨S16x256x1, .f32⟩
  | 53 => ⟨S16x256x1, .f32⟩
  | 54 => ⟨S16x256x1024, .f32⟩
  | 55 => ⟨S16x256x1024, .f32⟩
  | 56 => ⟨S_, .f32⟩
  | 57 => ⟨S16x256x1, .f32⟩
  | 58 => ⟨S16x256x1, .f32⟩
  | 59 => ⟨S16x256x1, .f32⟩
  | 60 => ⟨S16x256x1024, .f32⟩
  | 61 => ⟨S16x256x1024, .f32⟩
  | 62 => ⟨S1x1x1024, .f32⟩
  | 63 => ⟨S16x256x1024, .f32⟩
  | 64 => ⟨S16x256x1024, .f32⟩
  | 65 => ⟨S1x1x1024, .f32⟩
  | 66 => ⟨S16x256x1024, .f32⟩
  | 67 => ⟨S16x256x1024, .f32⟩
  | 68 => ⟨S_, .f32⟩
  | 69 => ⟨S16x256, .f32⟩
  | 70 => ⟨S16x256x1, .f32⟩
  | 71 => ⟨S_, .f32⟩
  | 72 => ⟨S16x256x1, .f32⟩
  | 73 => ⟨S16x256x1, .f32⟩
  | 74 => ⟨S16x256x1024, .f32⟩
  | 75 => ⟨S16x256x1024, .f32⟩
  | 76 => ⟨S16x256x1024, .f32⟩
  | 77 => ⟨S_, .f32⟩
  | 78 => ⟨S16x256, .f32⟩
  | 79 => ⟨S16x256x1, .f32⟩
  | 80 => ⟨S_, .f32⟩
  | 81 => ⟨S16x256x1, .f32⟩
  | 82 => ⟨S16x256x1, .f32⟩
  | 83 => ⟨S16x256x1024, .f32⟩
  | 84 => ⟨S16x256x1024, .f32⟩
  | 85 => ⟨S_, .f32⟩
  | 86 => ⟨S16x256x1, .f32⟩
  | 87 => ⟨S16x256x1, .f32⟩
  | 88 => ⟨S16x256x1, .f32⟩
  | 89 => ⟨S16x256x1024, .f32⟩
  | 90 => ⟨S16x256x1024, .f32⟩
  | 91 => ⟨S_, .f32⟩
  | 92 => ⟨S1x1024, .f32⟩
  | 93 => ⟨S1x1024, .f32⟩
  | 94 => ⟨S1x1x1024, .f32⟩
  | 95 => ⟨S16x256x1024, .f32⟩
  | 96 => ⟨S16x256x1024, .f32⟩
  | 97 => ⟨S1x1x1024, .f32⟩
  | 98 => ⟨S16x256x1024, .f32⟩
  | 99 => ⟨S16x256x1024, .f32⟩
  | 100 => ⟨S_, .f32⟩
  | 101 => ⟨S16x256x1024, .f32⟩
  | 102 => ⟨S16x256x1024, .f32⟩
  | 103 => ⟨S1x1024x4096, .f32⟩
  | 104 => ⟨S1024x4096, .f32⟩
  | 105 => ⟨S1x4096, .f32⟩
  | 106 => ⟨S4096, .f32⟩
  | 107 => ⟨S1x4096x1024, .f32⟩
  | 108 => ⟨S4096x1024, .f32⟩
  | 109 => ⟨S1x1024, .f32⟩
  | 110 => ⟨S1024, .f32⟩
  | 111 => ⟨S16x256x4096, .f32⟩
  | 112 => ⟨S1x1x4096, .f32⟩
  | 113 => ⟨S16x256x4096, .f32⟩
  | 114 => ⟨S16x256x4096, .f32⟩
  | 115 => ⟨S_, .f32⟩
  | 116 => ⟨S16x256x4096, .f32⟩
  | 117 => ⟨S16x256x4096, .f32⟩
  | 118 => ⟨S16x256x4096, .f32⟩
  | 119 => ⟨S16x256x1024, .f32⟩
  | 120 => ⟨S1x1x1024, .f32⟩
  | 121 => ⟨S16x256x1024, .f32⟩
  | 122 => ⟨S16x256x1024, .f32⟩
  | 123 => ⟨S1x1x1024, .f32⟩
  | 124 => ⟨S16x256x1024, .f32⟩
  | 125 => ⟨S16x256x1024, .f32⟩
  | 126 => ⟨S16x256x1024, .f32⟩
  | 127 => ⟨S1x1024, .f32⟩
  | _ => ⟨S4096x1024, .f32⟩

abbrev hbmTy0_1 (i : Nat) : BufTy := match i % 128 with
  | 0 => ⟨S1024, .f32⟩
  | 1 => ⟨S1x1024, .f32⟩
  | 2 => ⟨S1024, .f32⟩
  | 3 => ⟨S_, .f32⟩
  | 4 => ⟨S16x256, .f32⟩
  | 5 => ⟨S16x256x1, .f32⟩
  | 6 => ⟨S_, .f32⟩
  | 7 => ⟨S16x256x1, .f32⟩
  | 8 => ⟨S16x256x1, .f32⟩
  | 9 => ⟨S16x256x1024, .f32⟩
  | 10 => ⟨S16x256x1024, .f32⟩
  | 11 => ⟨S16x256x1024, .f32⟩
  | 12 => ⟨S_, .f32⟩
  | 13 => ⟨S16x256, .f32⟩
  | 14 => ⟨S16x256x1, .f32⟩
  | 15 => ⟨S_, .f32⟩
  | 16 => ⟨S16x256x1, .f32⟩
  | 17 => ⟨S16x256x1, .f32⟩
  | 18 => ⟨S16x256x1024, .f32⟩
  | 19 => ⟨S16x256x1024, .f32⟩
  | 20 => ⟨S_, .f32⟩
  | 21 => ⟨S16x256x1, .f32⟩
  | 22 => ⟨S16x256x1, .f32⟩
  | 23 => ⟨S16x256x1, .f32⟩
  | 24 => ⟨S16x256x1024, .f32⟩
  | 25 => ⟨S16x256x1024, .f32⟩
  | 26 => ⟨S1x1x1024, .f32⟩
  | 27 => ⟨S16x256x1024, .f32⟩
  | 28 => ⟨S16x256x1024, .f32⟩
  | 29 => ⟨S1x1x1024, .f32⟩
  | 30 => ⟨S16x256x1024, .f32⟩
  | 31 => ⟨S16x256x1024, .f32⟩
  | 32 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_call0_cst : Ref sig .tc := ⟨.hbm, 115, rfl⟩
abbrev main_call0_v0 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_12 : Ref sig .tc := ⟨.hbm, 131, rfl⟩
abbrev main_v103 : Ref sig .tc := ⟨.hbm, 132, rfl⟩
abbrev main_v104 : Ref sig .tc := ⟨.hbm, 133, rfl⟩
abbrev main_cst_13 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_14 : Ref sig .tc := ⟨.hbm, 140, rfl⟩
abbrev main_v110 : Ref sig .tc := ⟨.hbm, 141, rfl⟩
abbrev main_v111 : Ref sig .tc := ⟨.hbm, 142, rfl⟩
abbrev main_cst_15 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_16 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩

abbrev nD : Nat := 1
abbrev τ : Topo := Topo.v7x

variable {F : FTy → Type} [FloatOps F]
-- ==== EvenIn.lean ====
abbrev S16384x1024 : Shape := ⟨2, ![16384, 1024]⟩
abbrev S4x6x1024 : Shape := ⟨3, ![4, 6, 1024]⟩
abbrev S1x1024x1536 : Shape := ⟨3, ![1, 1024, 1536]⟩
abbrev S1x1536 : Shape := ⟨2, ![1, 1536]⟩
abbrev S512x512 : Shape := ⟨2, ![512, 512]⟩
abbrev S1024x1536 : Shape := ⟨2, ![1024, 1536]⟩
abbrev S1536 : Shape := ⟨1, ![1536]⟩
abbrev S16384x512 : Shape := ⟨2, ![16384, 512]⟩
abbrev S512x1024 : Shape := ⟨2, ![512, 1024]⟩
abbrev S1x6x1024 : Shape := ⟨3, ![1, 6, 1024]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩
abbrev S512x1536 : Shape := ⟨2, ![512, 1536]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1x1024x1536, .f32⟩
  | .hbm, ⟨3, _⟩ => ⟨S1x1536, .f32⟩
  | .hbm, ⟨4, _⟩ => ⟨S512x512, .f32⟩
  | .hbm, ⟨5, _⟩ => ⟨S512x512, .f32⟩
  | .hbm, ⟨6, _⟩ => ⟨S1024x1536, .f32⟩
  | .hbm, ⟨7, _⟩ => ⟨S1024x1536, .bf16⟩
  | .hbm, ⟨8, _⟩ => ⟨S1536, .f32⟩
  | .hbm, ⟨9, _⟩ => ⟨S1x1536, .f32⟩
  | .hbm, ⟨10, _⟩ => ⟨S16384x1024, .f32⟩
  | .hbm, ⟨11, _⟩ => ⟨S16384x512, .bf16⟩
  | .hbm, ⟨12, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x1536, .bf16⟩
  | .local _ .vmem, ⟨5, _⟩ => ⟨S1x1536, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvenInRefIdeal.lean ====
abbrev S16384x1024 : Shape := ⟨2, ![16384, 1024]⟩
abbrev S4x6x1024 : Shape := ⟨3, ![4, 6, 1024]⟩
abbrev S1x1024x1536 : Shape := ⟨3, ![1, 1024, 1536]⟩
abbrev S1x1536 : Shape := ⟨2, ![1, 1536]⟩
abbrev S512x512 : Shape := ⟨2, ![512, 512]⟩
abbrev S4x4096x1024 : Shape := ⟨3, ![4, 4096, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1024x1536 : Shape := ⟨2, ![1024, 1536]⟩
abbrev S4x4096x1536 : Shape := ⟨3, ![4, 4096, 1536]⟩
abbrev S1536 : Shape := ⟨1, ![1536]⟩
abbrev S1x1x1536 : Shape := ⟨3, ![1, 1, 1536]⟩
abbrev S4x4096x512 : Shape := ⟨3, ![4, 4096, 512]⟩
abbrev S16384x512 : Shape := ⟨2, ![16384, 512]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1x1024x1536, .f32⟩
  | .hbm, ⟨3, _⟩ => ⟨S1x1536, .f32⟩
  | .hbm, ⟨4, _⟩ => ⟨S512x512, .f32⟩
  | .hbm, ⟨5, _⟩ => ⟨S512x512, .f32⟩
  | .hbm, ⟨6, _⟩ => ⟨S4x4096x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x1x1024, .f32⟩
  | .hbm, ⟨38, _⟩ => ⟨S4x1x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S1024x1536, .f32⟩
  | .hbm, ⟨44, _⟩ => ⟨S4x4096x1536, .f32⟩
  | .hbm, ⟨45, _⟩ => ⟨S1536, .f32⟩
  | .hbm, ⟨46, _⟩ => ⟨S1x1x1536, .f32⟩
  | .hbm, ⟨47, _⟩ => ⟨S4x4096x1536, .f32⟩
  | .hbm, ⟨48, _⟩ => ⟨S4x4096x1536, .f32⟩
  | .hbm, ⟨49, _⟩ => ⟨S4x4096x512, .f32⟩
  | .hbm, ⟨50, _⟩ => ⟨S4x4096x1024, .f32⟩
  | .hbm, ⟨51, _⟩ => ⟨S16384x1024, .f32⟩
  | .hbm, ⟨52, _⟩ => ⟨S4x4096x512, .f32⟩
  | .hbm, ⟨53, _⟩ => ⟨S16384x512, .f32⟩
  | .hbm, ⟨54, _⟩ => ⟨S16384x512, .bf16⟩
  | .hbm, ⟨55, _⟩ => ⟨S4x4096x512, .f32⟩
  | .hbm, ⟨56, _⟩ => ⟨S16384x512, .f32⟩
  | .hbm, ⟨57, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Proof.Soft.lean ====
/- Facts about the extended reals that an attention needs: sums scaled by a constant, the softmax
   denominator, lanes that a mask has set to zero. -/
module

public import Idealize.ShloMosaic.Lib.Pointwise
public import Idealize.ShloMosaic.Lib.IdealHost

@[expose] public section

set_option maxRecDepth 16384

noncomputable section

namespace Cert.Soft
open Idealize.ShloMosaic

/-! ## Constants -/

/-- The bf16 word of one eighth. -/
theorem eighth_bf16 : Ideal.ofBits .bf16 0x3E00#16 = (((1 : ℝ) / 8 : ℝ) : EReal) := by
  simp [Ideal.ofBits, Ideal.ieee, -EReal.coe_mul]; norm_num

/-- The f32 word of one eighth. -/
theorem eighth_f32 : Ideal.ofBits .f32 0x3E000000#32 = (((1 : ℝ) / 8 : ℝ) : EReal) := by
  simp [Ideal.ofBits, Ideal.ieee, -EReal.coe_mul]; norm_num

/-- The f32 word of minus infinity. -/
theorem neg_inf_f32 : Ideal.ofBits .f32 0xFF800000#32 = ⊥ := by
  simp [Ideal.ofBits, Ideal.ieee]

/-- The f32 word of infinity. -/
theorem inf_f32 : Ideal.ofBits .f32 0x7F800000#32 = ⊤ := by
  simp [Ideal.ofBits, Ideal.ieee]

/-! ## Real values -/

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, by norm_cast⟩

theorem IsReal.add {x y : EReal} (hx : IsReal x) (hy : IsReal y) : IsReal (x + y) := by
  obtain ⟨a, rfl⟩ := hx; obtain ⟨b, rfl⟩ := hy
  exact ⟨a + b, by norm_cast⟩

theorem IsReal.sum {ι : Type*} (S : Finset ι) {f : ι → EReal} (h : ∀ k, IsReal (f k)) : IsReal (∑ k ∈ S, f k) := by
  classical
  refine Finset.induction_on S ⟨0, by simp⟩ fun a S ha ih => ?_
  rw [Finset.sum_insert ha]; exact (h a).add ih

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem isReal_of_ne {x : EReal} (h₁ : x ≠ ⊤) (h₂ : x ≠ ⊥) : IsReal x := ⟨x.toReal, (EReal.coe_toReal h₁ h₂).symm⟩

/-- A value whose magnitude tests below infinity is real. -/
theorem isReal_of_test {x : EReal} (h : Ideal.cmp .olt (max x (-x)) ⊤ = 1#1) : IsReal x := by
  refine isReal_of_ne ?_ ?_ <;> rintro rfl <;> simp [Ideal.cmp] at h

/-! ## Sums scaled by a constant -/

/-- A nonnegative finite factor distributes over a sum. -/
theorem sum_mul_const {ι : Type*} (S : Finset ι) (f : ι → EReal) {c : EReal} (h0 : 0 ≤ c) (ht : c ≠ ⊤) :
    (∑ k ∈ S, f k) * c = ∑ k ∈ S, f k * c := by
  classical
  refine Finset.induction_on S (by simp) fun a S ha ih => ?_
  rw [Finset.sum_insert ha, Finset.sum_insert ha, EReal.right_distrib_of_nonneg_of_ne_top h0 ht, ih]

/-- A quotient by a nonzero divisor is a product with its inverse. -/
theorem div_eq {L : EReal} (hL : L ≠ 0) (x : EReal) : Ideal.div x L = x * L⁻¹ := by
  simp [Ideal.div, hL]

/-- A quotient by a positive divisor distributes over a sum. -/
theorem sum_div {ι : Type*} (S : Finset ι) (f : ι → EReal) {L : EReal} (hL : 0 < L) :
    Ideal.div (∑ k ∈ S, f k) L = ∑ k ∈ S, Ideal.div (f k) L := by
  simp only [div_eq hL.ne']
  exact sum_mul_const S f (EReal.inv_nonneg_of_nonneg hL.le) (EReal.inv_lt_top L).ne

/-- A quotient by a positive divisor distributes over two summands. -/
theorem add_div {x y L : EReal} (hL : 0 < L) : Ideal.div (x + y) L = Ideal.div x L + Ideal.div y L := by
  simp only [div_eq hL.ne']
  exact EReal.right_distrib_of_nonneg_of_ne_top (EReal.inv_nonneg_of_nonneg hL.le) (EReal.inv_lt_top L).ne x y

/-- A product over a divisor: the divisor may be moved to the first factor. -/
theorem mul_div {a v L : EReal} (hL : 0 < L) : Ideal.div (a * v) L = Ideal.div a L * v := by
  simp only [div_eq hL.ne']; rw [mul_assoc, mul_comm v, ← mul_assoc]

/-- A weighted sum over a positive divisor is the sum weighted by the quotients. -/
theorem sum_mul_div {ι : Type*} (S : Finset ι) (a v : ι → EReal) {L : EReal} (hL : 0 < L) :
    Ideal.div (∑ k ∈ S, a k * v k) L = ∑ k ∈ S, Ideal.div (a k) L * v k := by
  rw [sum_div S _ hL]; exact Finset.sum_congr rfl fun k _ => mul_div hL

/-- One eighth applied to the left factor of a dot product comes out of it. -/
theorem dot_scale {ι : Type*} (S : Finset ι) (q k : ι → EReal) :
    ∑ d ∈ S, q d * (((1 : ℝ) / 8 : ℝ) : EReal) * k d = (∑ d ∈ S, q d * k d) * (((1 : ℝ) / 8 : ℝ) : EReal) := by
  rw [sum_mul_const S _ (EReal.coe_nonneg.mpr (by norm_num)) (EReal.coe_ne_top _)]
  exact Finset.sum_congr rfl fun d _ => by rw [mul_assoc, mul_comm _ (k d), ← mul_assoc]

/-! ## The maximum and the denominator -/

theorem exp_nonneg (x : EReal) : 0 ≤ Ideal.exp x := by
  induction x with
  | bot => simp
  | top => simp
  | coe r => rw [Ideal.exp_coe]; exact EReal.coe_nonneg.mpr (Real.exp_pos r).le

/-- The running maximum from minus infinity is the supremum. -/
theorem fold_max_eq {ι : Type*} (S : Finset ι) (s : ι → EReal) : S.fold max ⊥ s = S.sup s := rfl

/-- The supremum of a nonempty row is one of its entries. -/
theorem sup_mem {ι : Type*} [Fintype ι] [Nonempty ι] (s : ι → EReal) : ∃ k, Finset.univ.sup s = s k := by
  obtain ⟨k, -, h⟩ := Finset.exists_mem_eq_sup Finset.univ Finset.univ_nonempty s
  exact ⟨k, h⟩

/-- Where the row's maximum is real, the sum of the exponentials is positive. -/
theorem sum_exp_pos {ι : Type*} [Fintype ι] (s : ι → EReal) {M : EReal} (hM : IsReal M) (k : ι) (hk : s k = M) :
    0 < ∑ j, Ideal.exp (s j - M) := by
  refine lt_of_lt_of_le ?_ (Finset.single_le_sum (fun j _ => exp_nonneg _) (Finset.mem_univ k))
  obtain ⟨r, rfl⟩ := hM
  rw [hk, ← EReal.coe_sub, sub_self, Ideal.exp_coe]
  exact EReal.coe_pos.mpr (Real.exp_pos 0)

/-- The same for a row of real entries and its own supremum. -/
theorem sum_exp_pos_of_real {ι : Type*} [Fintype ι] [Nonempty ι] (s : ι → EReal) (h : ∀ k, IsReal (s k)) :
    0 < ∑ j, Ideal.exp (s j - Finset.univ.sup s) := by
  obtain ⟨k, hk⟩ := sup_mem s
  exact sum_exp_pos s (hk ▸ h k) k hk.symm

/-- THE SOFTMAX-WEIGHTED SUM of a row `s` of scores and a row `v` of values, divided once at the end. -/
def wsum {n : ℕ} (s v : Fin n → EReal) : EReal :=
  Ideal.div (∑ k, Ideal.exp (s k - Finset.univ.fold max ⊥ s) * v k) (∑ k, Ideal.exp (s k - Finset.univ.fold max ⊥ s))

/-- For real scores it is the sum weighted by the softmax. -/
theorem wsum_eq {n : ℕ} [NeZero n] (s v : Fin n → EReal) (h : ∀ k, IsReal (s k)) :
    wsum s v = ∑ k, Ideal.div (Ideal.exp (s k - Finset.univ.fold max ⊥ s)) (∑ j, Ideal.exp (s j - Finset.univ.fold max ⊥ s)) * v k := by
  have hL := sum_exp_pos_of_real s h
  exact sum_mul_div Finset.univ _ v hL

/-! ## A host's maximum along the last axis -/

/-- A maximum over the last of four axes, read at an index: the running maximum along that axis. -/
theorem hostMax_last4 {n0 n1 n2 n3 : ℕ} (v : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu : 0 < (⟨0, ![]⟩ : Shape).numel)
    (a : Fin n0) (b : Fin n1) (d : Fin n2) :
    Host.reduce FloatOps.maximumf v c h hu (ix3 a b d) = Finset.univ.fold max (c (Shape.Idx.first hu)) (fun k : Fin n3 => v (ix4 a b d k)) := by
  rw [Host.reduce_eq_fold, Shape.ReducesTo.fold_fiber_r4_a3]
  rfl

/-- The same over the last of five axes. -/
theorem hostMax_last5 {n0 n1 n2 n3 n4 : ℕ} (v : FVec Ideal ⟨5, ![n0, n1, n2, n3, n4]⟩ .f32) (c : FVec Ideal ⟨0, ![]⟩ .f32)
    (h : (⟨5, ![n0, n1, n2, n3, n4]⟩ : Shape).ReducesTo [4] ⟨4, ![n0, n1, n2, n3]⟩) (hu : 0 < (⟨0, ![]⟩ : Shape).numel)
    (a : Fin n0) (b : Fin n1) (d : Fin n2) (e : Fin n3) :
    Host.reduce FloatOps.maximumf v c h hu (ix4 a b d e) = Finset.univ.fold max (c (Shape.Idx.first hu)) (fun k : Fin n4 => v (ix5 a b d e k)) := by
  rw [Host.reduce_eq_fold, Shape.ReducesTo.fold_fiber_r5_a4]
  rfl

/-! ## Lanes a mask sets to zero -/

/-- A sum over 128 lanes that keeps the upper 64. -/
theorem sum_hi (a : Fin 128 → EReal) :
    ∑ x : Fin 128, Scalar.select (IntOp.cmpi CmpIPredicate.sge (BitVec.ofNat 32 ↑x) 64#32) (a x) 0 = ∑ d : Fin 64, a ⟨64 + d.val, by omega⟩ := by
  have h : ∀ x : Fin 128, IntOp.cmpi CmpIPredicate.sge (BitVec.ofNat 32 ↑x) 64#32 = if 64 ≤ x.val then 1#1 else 0#1 := by decide
  simp only [h]
  rw [Fin.sum_univ_two_halves 64 64 rfl]
  simp [Scalar.select]

/-- A sum over 128 lanes that keeps the lower 64. -/
theorem sum_lo (a : Fin 128 → EReal) :
    ∑ x : Fin 128, Scalar.select (IntOp.xori (IntOp.cmpi CmpIPredicate.sge (BitVec.ofNat 32 ↑x) 64#32) 1#1) (a x) 0 = ∑ d : Fin 64, a ⟨d.val, by omega⟩ := by
  have h : ∀ x : Fin 128, IntOp.xori (IntOp.cmpi CmpIPredicate.sge (BitVec.ofNat 32 ↑x) 64#32) 1#1 = if 64 ≤ x.val then 0#1 else 1#1 := by decide
  simp only [h]
  rw [Fin.sum_univ_two_halves 64 64 rfl]
  simp [Scalar.select]

end Cert.Soft
end
-- ==== Proof.LatBlock.lean ====
/- The latent attention, one head of one window: what the kernel's arithmetic computes. -/
module

public import proofs.«01_k».proof.Proof.Gen.LatAttnIdeal.Value
public import proofs.«01_k».proof.Proof.Soft
public import Idealize.ShloMosaic.Lib.Pipeline.ValueKit

@[expose] public section

set_option maxRecDepth 16384

noncomputable section

namespace Cert.Lat
open Idealize.ShloMosaic Idealize.ShloMosaic.TcCoe Idealize.SL.Sem
open Cert.LatAttnIdeal Cert.LatAttnIdeal.Gen Cert.Soft

/-- ONE ROW OF ATTENTION over two lists of 512 keys: the scores `s` and `s'`, the values `v` and `v'`, one softmax over both. -/
def two (s s' v v' : Fin 512 → EReal) : EReal :=
  Ideal.div
    (∑ j, Ideal.exp (s j - max (Finset.univ.fold max ⊥ s) (Finset.univ.fold max ⊥ s')) * v j
      + ∑ j, Ideal.exp (s' j - max (Finset.univ.fold max ⊥ s) (Finset.univ.fold max ⊥ s')) * v' j)
    (∑ j, Ideal.exp (s j - max (Finset.univ.fold max ⊥ s) (Finset.univ.fold max ⊥ s'))
      + ∑ j, Ideal.exp (s' j - max (Finset.univ.fold max ⊥ s) (Finset.univ.fold max ⊥ s')))

/-- The four bias rows of a head side by side. -/
def bias4 (b0 b1 b2 b3 : FVec Ideal S1x1x64x128 .f32) : FVec Ideal S64x512 .f32 := fun i =>
  (if (i 1).val < 128 then b0 else if (i 1).val < 256 then b1 else if (i 1).val < 384 then b2 else b3)
    (ix4 0 0 (i 0) ⟨(i 1).val % 128, Nat.mod_lt _ (by decide)⟩)

theorem bias_cat (b0 b1 b2 b3 : FVec Ideal S1x1x64x128 .f32) :
    concatenate S64x512 1 [⟨S64x128, shapeCast S64x128 b0 shapeCasts_S1x1x64x128_S64x128⟩, ⟨S64x128, shapeCast S64x128 b1 shapeCasts_S1x1x64x128_S64x128⟩,
        ⟨S64x128, shapeCast S64x128 b2 shapeCasts_S1x1x64x128_S64x128⟩, ⟨S64x128, shapeCast S64x128 b3 shapeCasts_S1x1x64x128_S64x128⟩]
        concatenates_S64x128_S64x128_S64x128_S64x128_S64x512_d1
      = bias4 b0 b1 b2 b3 := by
  funext i
  obtain ⟨r, l, rfl⟩ : ∃ r l, i = ix2 r l := ⟨i 0, i 1, eq_ix2 i⟩
  pointwise [bias4]
  by_cases h0 : l.val < 128
  · rw [dif_pos h0, if_pos h0]
    exact congrArg b0 (congrArg (ix4 0 0 r) (Fin.ext (by show l.val = l.val % 128; omega)))
  rw [dif_neg h0, if_neg h0]
  by_cases h1 : l.val < 256
  · rw [dif_pos (show l.val - 128 < 128 by omega), if_pos h1]
    exact congrArg b1 (congrArg (ix4 0 0 r) (Fin.ext (by show l.val - 128 = l.val % 128; omega)))
  rw [dif_neg (show ¬ l.val - 128 < 128 by omega), if_neg h1]
  by_cases h2 : l.val < 384
  · rw [dif_pos (show l.val - 128 - 128 < 128 by omega)]
    exact (congrArg b2 (congrArg (ix4 0 0 r) (Fin.ext (by show l.val - 128 - 128 = l.val % 128; omega)))).trans (congrFun (if_pos h2).symm _)
  rw [dif_neg (show ¬ l.val - 128 - 128 < 128 by omega)]
  exact (congrArg b3 (congrArg (ix4 0 0 r) (Fin.ext (by show l.val - 128 - 128 - 128 = l.val % 128; omega)))).trans (congrFun (if_neg h2).symm _)

/-- ONE HEAD of the kernel's arithmetic, at row `r` and lane `l`. -/
theorem head (kc vc k v : FVec Ideal S512x128 .bf16) (q : FVec Ideal S64x128 .bf16) (b0 b1 b2 b3 : FVec Ideal S1x1x64x128 .f32) (r : Fin 64) (l : Fin 128) :
    k0_pay11 (F := Ideal) kc vc k v q (k0_pay9 b0) (k0_pay10 b1) b2 b3 (ix2 r l)
      = two (fun j => ∑ d : Fin 128, q (ix2 r d) * k (ix2 j d) + bias4 b0 b1 b2 b3 (ix2 r j)) (fun j => ∑ d : Fin 128, q (ix2 r d) * kc (ix2 j d))
          (fun j => v (ix2 j l)) (fun j => vc (ix2 j l)) := by
  unfold k0_pay11 k0_pay9 k0_pay10
  dsimp only
  rw [bias_cat]
  generalize bias4 b0 b1 b2 b3 = B
  pointwise [two]
  simp only [neg_inf_f32]

theorem pay13_eq (kc vc k v : FVec Ideal S512x128 .bf16) (q : FVec Ideal S64x128 .bf16) (b0 b1 b2 b3 : FVec Ideal S1x1x64x128 .f32) :
    k0_pay13 (F := Ideal) kc vc k v q b0 b1 b2 b3 = k0_pay11 (F := Ideal) kc vc k v q (k0_pay9 b0) (k0_pay10 b1) b2 b3 := rfl

/-! ## The queries of one head -/

/-- A factor goes inside a lane mask. -/
theorem select_mul (c : BitVec 1) (a b : EReal) : Scalar.select c a 0 * b = Scalar.select c (a * b) 0 := by
  unfold Scalar.select; split <;> simp

/-- The first head's queries: the lower 64 lanes, scaled by one eighth. -/
theorem query_lo (x : FVec Ideal S1x64x128 .bf16) (r : Fin 64) (d : Fin 128) :
    k0_pay8 (F := Ideal) k0_pay1 x (ix2 r d)
      = Scalar.select (IntOp.xori (IntOp.cmpi CmpIPredicate.sge (BitVec.ofNat 32 ↑d) 64#32) 1#1) (x (ix3 0 r d) * (((1 : ℝ) / 8 : ℝ) : EReal)) 0 := by
  pointwise [k0_pay8, k0_pay5, k0_pay1]
  simp only [eighth_bf16]

/-- The second head's queries: the upper 64 lanes, scaled by one eighth. -/
theorem query_hi (x : FVec Ideal S1x64x128 .bf16) (r : Fin 64) (d : Fin 128) :
    k0_pay12 (F := Ideal) k0_pay1 (k0_pay5 x) (ix2 r d)
      = Scalar.select (IntOp.cmpi CmpIPredicate.sge (BitVec.ofNat 32 ↑d) 64#32) (x (ix3 0 r d) * (((1 : ℝ) / 8 : ℝ) : EReal)) 0 := by
  pointwise [k0_pay12, k0_pay5, k0_pay1]
  simp only [eighth_bf16]

/-- The two heads' results put together: lane `l` takes its head's. -/
theorem joined (a b : FVec Ideal S64x128 .f32) (r : Fin 64) (l : Fin 128) :
    k0_pay4 (F := Ideal) a b (ix3 0 r l) = if 64 ≤ l.val then b (ix2 r l) else a (ix2 r l) := by
  pointwise [k0_pay4, k0_pay1]
  have h : ∀ x : Fin 128, IntOp.cmpi CmpIPredicate.sge (BitVec.ofNat 32 ↑x) 64#32 = if 64 ≤ x.val then 1#1 else 0#1 := by decide
  rw [h]
  by_cases hl : 64 ≤ l.val
  · rw [if_pos hl, if_pos hl]; rfl
  · rw [if_neg hl, if_neg hl]; rfl

/-- A dot product with the first head's queries. -/
theorem dot_lo (x : FVec Ideal S1x64x128 .bf16) (r : Fin 64) (k : Fin 128 → EReal) :
    ∑ d : Fin 128, k0_pay8 (F := Ideal) k0_pay1 x (ix2 r d) * k d
      = (∑ d : Fin 64, x (ix3 0 r ⟨d.val, by omega⟩) * k ⟨d.val, by omega⟩) * (((1 : ℝ) / 8 : ℝ) : EReal) := by
  simp only [query_lo, select_mul]
  rw [sum_lo, dot_scale]

/-- A dot product with the second head's queries. -/
theorem dot_hi (x : FVec Ideal S1x64x128 .bf16) (r : Fin 64) (k : Fin 128 → EReal) :
    ∑ d : Fin 128, k0_pay12 (F := Ideal) k0_pay1 (k0_pay5 x) (ix2 r d) * k d
      = (∑ d : Fin 64, x (ix3 0 r ⟨64 + d.val, by omega⟩) * k ⟨64 + d.val, by omega⟩) * (((1 : ℝ) / 8 : ℝ) : EReal) := by
  simp only [query_hi, select_mul]
  rw [sum_hi, dot_scale]

/-! ## One window -/

/-- The first row of window `i`: `i - 4` kept between 0 and 56. -/
def first (i : ℕ) : ℕ := min 56 (i - 4)

theorem first_lt (i : Fin 64) (j : Fin 512) : 64 * first i.val + j.val < 4096 := by unfold first; omega

/-- Window `i`'s first bias table is `first i + 7 - i`; its key `j` has table `j / 128` after that. -/
theorem table_lt (i : Fin 64) (a : ℕ) (ha : a < 4) : first i.val + 7 - i.val + 2 * a < 14 := by unfold first; omega

/-- The part of the keys or values that window `i` reads. -/
def part (x : FVec Ideal S1x4096x128 .bf16) (i : Fin 64) : FVec Ideal S1x512x128 .bf16 := fun y => x (ix3 0 ⟨64 * first i.val + (y 1).val, first_lt i (y 1)⟩ (y 2))

/-- The queries of window `i`. -/
def rowsOf (x : FVec Ideal S1x4096x128 .bf16) (i : Fin 64) : FVec Ideal S1x64x128 .bf16 :=
  fun y => x (ix3 0 ⟨64 * i.val + (y 1).val, by have : (y 1).val < 64 := (y 1).isLt; omega⟩ (y 2))

/-- The bias rows `a` of head `h` for window `i`. -/
def table (x : FVec Ideal S2x14x64x128 .f32) (i : Fin 64) (h : Fin 2) (a : Fin 4) : FVec Ideal S1x1x64x128 .f32 :=
  fun y => x (ix4 h ⟨first i.val + 7 - i.val + 2 * a.val, table_lt i a.val a.isLt⟩ (y 2) (y 3))

theorem bias4_table (x : FVec Ideal S2x14x64x128 .f32) (i : Fin 64) (h : Fin 2) (r : Fin 64) (j : Fin 512) :
    bias4 (table x i h 0) (table x i h 1) (table x i h 2) (table x i h 3) (ix2 r j)
      = x (ix4 h ⟨first i.val + 7 - i.val + 2 * (j.val / 128), table_lt i _ (by omega)⟩ r ⟨j.val % 128, Nat.mod_lt _ (by decide)⟩) := by
  unfold bias4
  have hj := j.isLt
  have key : ∀ (a : Fin 4), j.val / 128 = a.val → table x i h a (ix4 0 0 r ⟨j.val % 128, Nat.mod_lt _ (by decide)⟩)
      = x (ix4 h ⟨first i.val + 7 - i.val + 2 * (j.val / 128), table_lt i _ (by omega)⟩ r ⟨j.val % 128, Nat.mod_lt _ (by decide)⟩) := by
    intro a ha
    simp only [ha]
    rfl
  by_cases h0 : j.val < 128
  · rw [if_pos (show ((ix2 r j : S64x512.Idx) 1).val < 128 from h0)]; exact key 0 (by show _ = 0; omega)
  rw [if_neg (show ¬ ((ix2 r j : S64x512.Idx) 1).val < 128 from h0)]
  by_cases h1 : j.val < 256
  · rw [if_pos (show ((ix2 r j : S64x512.Idx) 1).val < 256 from h1)]; exact key 1 (by show _ = 1; omega)
  rw [if_neg (show ¬ ((ix2 r j : S64x512.Idx) 1).val < 256 from h1)]
  by_cases h2 : j.val < 384
  · rw [if_pos (show ((ix2 r j : S64x512.Idx) 1).val < 384 from h2)]; exact key 2 (by show _ = 2; omega)
  rw [if_neg (show ¬ ((ix2 r j : S64x512.Idx) 1).val < 384 from h2)]; exact key 3 (by show _ = 3; omega)

/-- WHAT ONE WINDOW STORES. -/
def stored (q k v : FVec Ideal S1x4096x128 .bf16) (kc vc : FVec Ideal S1x1x512x128 .bf16) (b : FVec Ideal S2x14x64x128 .f32) (i : Fin 64) : FVec Ideal S1x64x128 .bf16 :=
  k0_pay4 (F := Ideal)
    (k0_pay11 (k0_pay2 kc) (k0_pay3 vc) (k0_pay6 (part k i)) (k0_pay7 (part v i)) (k0_pay8 k0_pay1 (rowsOf q i)) (k0_pay9 (table b i 0 0)) (k0_pay10 (table b i 0 1)) (table b i 0 2) (table b i 0 3))
    (k0_pay13 (k0_pay2 kc) (k0_pay3 vc) (k0_pay6 (part k i)) (k0_pay7 (part v i)) (k0_pay12 k0_pay1 (k0_pay5 (rowsOf q i))) (table b i 1 0) (table b i 1 1) (table b i 1 2) (table b i 1 3))

/-- The score of window `i`'s row `r` against the window's key `j`, in the head of lane `l`. -/
def blockLocal (q k : FVec Ideal S1x4096x128 .bf16) (b : FVec Ideal S2x14x64x128 .f32) (i r : Fin 64) (l : Fin 128) (j : Fin 512) : EReal :=
  (∑ d : Fin 64, q (ix3 0 ⟨64 * i.val + r.val, by omega⟩ ⟨64 * (l.val / 64) + d.val, by omega⟩) * k (ix3 0 ⟨64 * first i.val + j.val, first_lt i j⟩ ⟨64 * (l.val / 64) + d.val, by omega⟩)) * (((1 : ℝ) / 8 : ℝ) : EReal)
    + b (ix4 ⟨l.val / 64, by omega⟩ ⟨first i.val + 7 - i.val + 2 * (j.val / 128), table_lt i _ (by omega)⟩ r ⟨j.val % 128, Nat.mod_lt _ (by decide)⟩)

/-- The same row's score against the cached key `j`. -/
def blockCached (q : FVec Ideal S1x4096x128 .bf16) (kc : FVec Ideal S1x1x512x128 .bf16) (i r : Fin 64) (l : Fin 128) (j : Fin 512) : EReal :=
  (∑ d : Fin 64, q (ix3 0 ⟨64 * i.val + r.val, by omega⟩ ⟨64 * (l.val / 64) + d.val, by omega⟩) * kc (ix4 0 0 j ⟨64 * (l.val / 64) + d.val, by omega⟩)) * (((1 : ℝ) / 8 : ℝ) : EReal)

theorem stored_eq (q k v : FVec Ideal S1x4096x128 .bf16) (kc vc : FVec Ideal S1x1x512x128 .bf16) (b : FVec Ideal S2x14x64x128 .f32) (i r : Fin 64) (l : Fin 128) :
    stored q k v kc vc b i (ix3 0 r l)
      = two (blockLocal q k b i r l) (blockCached q kc i r l) (fun j => v (ix3 0 ⟨64 * first i.val + j.val, first_lt i j⟩ l)) (fun j => vc (ix4 0 0 j l)) := by
  have e2 : ∀ (x : FVec Ideal S1x1x512x128 .bf16) (j : Fin 512) (d : Fin 128), k0_pay2 (F := Ideal) x (ix2 j d) = x (ix4 0 0 j d) := fun x j d => by pointwise [k0_pay2]
  have e3 : ∀ (x : FVec Ideal S1x1x512x128 .bf16) (j : Fin 512) (d : Fin 128), k0_pay3 (F := Ideal) x (ix2 j d) = x (ix4 0 0 j d) := fun x j d => by pointwise [k0_pay3]
  have e6 : ∀ (x : FVec Ideal S1x512x128 .bf16) (j : Fin 512) (d : Fin 128), k0_pay6 (F := Ideal) x (ix2 j d) = x (ix3 0 j d) := fun x j d => by pointwise [k0_pay6]
  have e7 : ∀ (x : FVec Ideal S1x512x128 .bf16) (j : Fin 512) (d : Fin 128), k0_pay7 (F := Ideal) x (ix2 j d) = x (ix3 0 j d) := fun x j d => by pointwise [k0_pay7]
  unfold stored
  rw [joined, pay13_eq, head, head]
  simp only [dot_lo, dot_hi, e2, e3, e6, e7, bias4_table]
  by_cases hl : 64 ≤ l.val
  · have e : l.val / 64 = 1 := by omega
    rw [if_pos hl]
    unfold blockLocal blockCached
    simp only [e, Nat.mul_one]
    rfl
  · have e : l.val / 64 = 0 := by omega
    rw [if_neg hl]
    unfold blockLocal blockCached
    simp only [e, Nat.mul_zero, Nat.zero_add]
    rfl

end Cert.Lat
end
-- ==== Proof.LatTrip.lean ====
/- The latent attention's loop: the piece each trip stores. -/
module

public import proofs.«01_k».proof.Proof.LatBlock

@[expose] public section

set_option maxRecDepth 16384

noncomputable section

namespace Cert.Lat
open Idealize.ShloMosaic Idealize.ShloMosaic.TcCoe Idealize.SL.Sem
open Cert.LatAttnIdeal Cert.LatAttnIdeal.Gen Cert.Soft

/-! ## Where a trip reads and writes -/

theorem trips_eq : k0_t1_loop.trips = 64 := by decide +kernel

/-- A trip's number among the 64 windows. -/
def win (k : Fin k0_t1_loop.trips) : Fin 64 := ⟨k.val, lt_of_lt_of_eq k.isLt trips_eq⟩

theorem off1_eq : ∀ k : Fin k0_t1_loop.trips, k0_off1 k = ![0, 64 * (win k).val, 0] := by decide +kernel
theorem off2_eq : ∀ k : Fin k0_t1_loop.trips, k0_off2 k = ![0, 64 * first (win k).val, 0] := by decide +kernel
theorem off3_eq : ∀ (a : Fin 4) (k : Fin k0_t1_loop.trips), k0_off3 k (BitVec.ofNat 32 (2 * a.val)) = ![0, first (win k).val + 7 - (win k).val + 2 * a.val, 0, 0] := by decide +kernel
theorem off4_eq : ∀ (a : Fin 4) (k : Fin k0_t1_loop.trips), k0_off4 k (BitVec.ofNat 32 (2 * a.val)) = ![1, first (win k).val + 7 - (win k).val + 2 * a.val, 0, 0] := by decide +kernel

theorem ld_rows (x : FVec Ideal S1x4096x128 .bf16) (k : Fin k0_t1_loop.trips) (h) :
    View.ld (Val := Elt Ideal) (e' := EltTy.bf16) x (Rect.unit (k0_off1 k) S1x64x128.size h) = (rowsOf x (win k) : FVec Ideal S1x64x128 .bf16) := by
  refine @funext _ _ _ _ fun i : S1x64x128.Idx => ?_
  obtain ⟨a, r, l, rfl⟩ : ∃ a r l, i = ix3 a r l := ⟨i 0, i 1, i 2, eq_ix3 i⟩
  refine congrArg x ?_
  funext b
  refine Fin.ext ?_
  have e := congrFun (off1_eq k) b
  match b with
  | ⟨0, _⟩ => rw [Rect.idx_unit_val, e]; show 0 + a.val = 0; omega
  | ⟨1, _⟩ => rw [Rect.idx_unit_val, e]; rfl
  | ⟨2, _⟩ => rw [Rect.idx_unit_val, e]; exact Nat.zero_add _

theorem ld_part (x : FVec Ideal S1x4096x128 .bf16) (k : Fin k0_t1_loop.trips) (h) :
    View.ld (Val := Elt Ideal) (e' := EltTy.bf16) x (Rect.unit (k0_off2 k) S1x512x128.size h) = (part x (win k) : FVec Ideal S1x512x128 .bf16) := by
  refine @funext _ _ _ _ fun i : S1x512x128.Idx => ?_
  obtain ⟨a, r, l, rfl⟩ : ∃ a r l, i = ix3 a r l := ⟨i 0, i 1, i 2, eq_ix3 i⟩
  refine congrArg x ?_
  funext b
  refine Fin.ext ?_
  have e := congrFun (off2_eq k) b
  match b with
  | ⟨0, _⟩ => rw [Rect.idx_unit_val, e]; show 0 + a.val = 0; omega
  | ⟨1, _⟩ => rw [Rect.idx_unit_val, e]; rfl
  | ⟨2, _⟩ => rw [Rect.idx_unit_val, e]; exact Nat.zero_add _

theorem ld_table (x : FVec Ideal S2x14x64x128 .f32) (k : Fin k0_t1_loop.trips) (h : Fin 2) (a : Fin 4) (off : Fin 4 → ℕ) (hh)
    (e : off = ![h.val, first (win k).val + 7 - (win k).val + 2 * a.val, 0, 0]) :
    View.ld (Val := Elt Ideal) (e' := EltTy.f32) x (Rect.unit off S1x1x64x128.size hh) = (table x (win k) h a : FVec Ideal S1x1x64x128 .f32) := by
  refine @funext _ _ _ _ fun i : S1x1x64x128.Idx => ?_
  obtain ⟨z, w, r, l, rfl⟩ : ∃ z w r l, i = ix4 z w r l := ⟨i 0, i 1, i 2, i 3, eq_ix4 i⟩
  refine congrArg x ?_
  funext b
  refine Fin.ext ?_
  have e := congrFun e b
  match b with
  | ⟨0, _⟩ => rw [Rect.idx_unit_val, e]; show h.val + z.val = h.val; omega
  | ⟨1, _⟩ => rw [Rect.idx_unit_val, e]; show _ + w.val = _; have := w.isLt; have : w.val = 0 := by omega
              rw [this]; rfl
  | ⟨2, _⟩ => rw [Rect.idx_unit_val, e]; exact Nat.zero_add _
  | ⟨3, _⟩ => rw [Rect.idx_unit_val, e]; exact Nat.zero_add _

/-- The arithmetic of one trip respects equality of what it loads. -/
theorem arith_congr (kc vc : FVec Ideal S1x1x512x128 .bf16) {k k' v v' : FVec Ideal S1x512x128 .bf16} {q q' : FVec Ideal S1x64x128 .bf16}
    {a0 a1 a2 a3 b0 b1 b2 b3 a0' a1' a2' a3' b0' b1' b2' b3' : FVec Ideal S1x1x64x128 .f32} (hk : k = k') (hv : v = v') (hq : q = q')
    (h0 : a0 = a0') (h1 : a1 = a1') (h2 : a2 = a2') (h3 : a3 = a3') (g0 : b0 = b0') (g1 : b1 = b1') (g2 : b2 = b2') (g3 : b3 = b3') :
    k0_pay4 (F := Ideal) (k0_pay11 (k0_pay2 kc) (k0_pay3 vc) (k0_pay6 k) (k0_pay7 v) (k0_pay8 k0_pay1 q) (k0_pay9 a0) (k0_pay10 a1) a2 a3)
        (k0_pay13 (k0_pay2 kc) (k0_pay3 vc) (k0_pay6 k) (k0_pay7 v) (k0_pay12 k0_pay1 (k0_pay5 q)) b0 b1 b2 b3)
      = k0_pay4 (k0_pay11 (k0_pay2 kc) (k0_pay3 vc) (k0_pay6 k') (k0_pay7 v') (k0_pay8 k0_pay1 q') (k0_pay9 a0') (k0_pay10 a1') a2' a3')
        (k0_pay13 (k0_pay2 kc) (k0_pay3 vc) (k0_pay6 k') (k0_pay7 v') (k0_pay12 k0_pay1 (k0_pay5 q')) b0' b1' b2' b3') := by
  subst hk hv hq h0 h1 h2 h3 g0 g1 g2 g3; rfl

section
variable (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S2x14x64x128 .f32) (harg7 : arg7.IsWhole) (arg8 : Memref sig .tc .vmem S1x4096x128 .bf16) (harg8 : arg8.IsWhole)
variable (x0 x1 x2 : Vec Ideal S1x4096x128 .bf16) (x3 x4 : Vec Ideal S1x1x512x128 .bf16) (x5 : Vec Ideal S2x14x64x128 .f32)

/-- THE PIECE OF ONE TRIP: the window's stored rows. -/
theorem trip (k : Fin k0_t1_loop.trips) :
    tripL_k0_t1 (F := Ideal) Variants.none c none i arg2 harg2 arg3 harg3 arg4 harg4 arg5 harg5 arg6 harg6 arg7 harg7 arg8 harg8 x3 x4
        (harg2.unread x0) (harg3.unread x1) (harg4.unread x2) (harg7.unread x5) k
      = [⟨Rect.unit (k0_off1 k) S1x64x128.size (k0_off1_inb k), stored x0 x1 x2 x3 x4 x5 (win k)⟩] := by
  unfold tripL_k0_t1 trip_k0_t1
  dsimp only
  unfold trip_k0_t1.sl.r_6 trip_k0_t1.sl.r_9 trip_k0_t1.sl.r_1 trip_k0_t1.sl.r_2 trip_k0_t1.sl.r_3 trip_k0_t1.sl.r_4 trip_k0_t1.sl.r_5 trip_k0_t1.sl.r_7 trip_k0_t1.sl.r_8
  try unfold trip_k0_t1.sl.r
  refine congrArg (fun z : FVec Ideal S1x64x128 .bf16 => [(⟨Rect.unit (s := S1x4096x128) (k0_off1 k) S1x64x128.size (k0_off1_inb k), z⟩ : View.Piece (Elt Ideal) S1x4096x128 .bf16)]) ?_
  unfold stored
  simp only [View.readAt_eq_ld, Memref.IsWhole.read_unread]
  exact arith_congr x3 x4 (ld_part x1 k _) (ld_part x2 k _) (ld_rows x0 k _) (ld_table x5 k 0 0 _ _ (off3_eq 0 k)) (ld_table x5 k 0 1 _ _ (off3_eq 1 k))
    (ld_table x5 k 0 2 _ _ (off3_eq 2 k)) (ld_table x5 k 0 3 _ _ (off3_eq 3 k)) (ld_table x5 k 1 0 _ _ (off4_eq 0 k)) (ld_table x5 k 1 1 _ _ (off4_eq 1 k))
    (ld_table x5 k 1 2 _ _ (off4_eq 2 k)) (ld_table x5 k 1 3 _ _ (off4_eq 3 k))

/-- Every piece of the trips before `n` is some trip's. -/
theorem pieces (n : ℕ) (hn : n ≤ k0_t1_loop.trips) : ∀ p ∈ pb_k0_t1 (F := Ideal) Variants.none c none i arg2 harg2 arg3 harg3 arg4 harg4 arg5 harg5 arg6 harg6 arg7 harg7 arg8 harg8 x3 x4
        (harg2.unread x0) (harg3.unread x1) (harg4.unread x2) (harg7.unread x5) n,
      ∃ k : Fin k0_t1_loop.trips, p = (⟨Rect.unit (s := S1x4096x128) (k0_off1 k) S1x64x128.size (k0_off1_inb k), stored x0 x1 x2 x3 x4 x5 (win k)⟩ : View.Piece (Elt Ideal) S1x4096x128 .bf16) := by
  induction n with
  | zero => intro p hp; rw [pb_k0_t1.eq_1] at hp; exact absurd hp List.not_mem_nil
  | succ n ih =>
    intro p hp
    have e := pb_k0_t1_succ (F := Ideal) Variants.none c none i arg2 harg2 arg3 harg3 arg4 harg4 arg5 harg5 arg6 harg6 arg7 harg7 arg8 harg8 x3 x4
        (harg2.unread x0) (harg3.unread x1) (harg4.unread x2) (harg7.unread x5) ⟨n, hn⟩
    rw [show n + 1 = (⟨n, hn⟩ : Fin k0_t1_loop.trips).val + 1 from rfl, e, trip] at hp
    rcases List.mem_append.mp hp with h | h
    · exact ⟨⟨n, hn⟩, List.mem_singleton.mp h⟩
    · exact ih (Nat.le_of_succ_le hn) p h

/-- WHAT THE LOOP LEAVES in the block, at any index: the value its window stored. -/
def block (x0 x1 x2 : FVec Ideal S1x4096x128 .bf16) (x3 x4 : FVec Ideal S1x1x512x128 .bf16) (x5 : FVec Ideal S2x14x64x128 .f32) : FVec Ideal S1x4096x128 .bf16 := fun y =>
  stored x0 x1 x2 x3 x4 x5 ⟨(y 1).val / 64, by have : (y 1).val < 4096 := (y 1).isLt; omega⟩ (ix3 0 ⟨(y 1).val % 64, Nat.mod_lt _ (by decide)⟩ (y 2))

theorem out_eq : out0_A_6 (F := Ideal) c i arg2 harg2 arg3 harg3 arg4 harg4 arg5 harg5 arg6 harg6 arg7 harg7 arg8 harg8 x0 x1 x2 x3 x4 x5 = block x0 x1 x2 x3 x4 x5 := by
  funext y
  unfold out0_A_6
  refine View.read_writes_apply_of_pieces _ _ (block x0 x1 x2 x3 x4 x5) _ ?_ y (cover0_A_6 c i arg2 harg2 arg3 harg3 arg4 harg4 arg5 harg5 arg6 harg6 arg7 harg7 arg8 harg8 x0 x1 x2 x3 x4 x5 y)
  unfold kernelRun0_A
  dsimp only
  simp (disch := decide) only [View.readAt_eq_ld, Memref.IsWhole.read_unread, View.ld_unit_lit']
  intro p hp x
  obtain ⟨k, rfl⟩ := pieces c i arg2 harg2 arg3 harg3 arg4 harg4 arg5 harg5 arg6 harg6 arg7 harg7 arg8 harg8 x0 x1 x2 x3 x4 x5 _ (by decide) p hp
  have h0 : ((Rect.unit (s := S1x4096x128) (k0_off1 k) S1x64x128.size (k0_off1_inb k)).emb x 1).val = 64 * (win k).val + (x 1).val := by
    show ((Rect.unit (s := S1x4096x128) (k0_off1 k) S1x64x128.size (k0_off1_inb k)).idx x 1).val = _
    rw [Rect.idx_unit_val]; exact congrArg (· + (x 1).val) (congrFun (off1_eq k) 1)
  have h2 : ((Rect.unit (s := S1x4096x128) (k0_off1 k) S1x64x128.size (k0_off1_inb k)).emb x 2).val = (x 2).val := by
    show ((Rect.unit (s := S1x4096x128) (k0_off1 k) S1x64x128.size (k0_off1_inb k)).idx x 2).val = _
    rw [Rect.idx_unit_val]; exact (congrArg (· + (x 2).val) (congrFun (off1_eq k) 2)).trans (Nat.zero_add _)
  have hx : (x 1).val < 64 := (x 1).isLt
  show stored x0 x1 x2 x3 x4 x5 (win k) x = block x0 x1 x2 x3 x4 x5 _
  unfold block
  have ew : (⟨((Rect.unit (s := S1x4096x128) (k0_off1 k) S1x64x128.size (k0_off1_inb k)).emb x 1).val / 64, by have : ((Rect.unit (s := S1x4096x128) (k0_off1 k) S1x64x128.size (k0_off1_inb k)).emb x 1).val < 4096 := (((Rect.unit (s := S1x4096x128) (k0_off1 k) S1x64x128.size (k0_off1_inb k)).emb x 1)).isLt; omega⟩ : Fin 64) = win k := Fin.ext (by show _ / 64 = _; rw [h0]; omega)
  rw [ew]
  refine congrArg _ ?_
  funext b
  refine Fin.ext ?_
  match b with
  | ⟨0, _⟩ => show (x 0).val = 0; have : (x 0).val < 1 := (x 0).isLt; omega
  | ⟨1, _⟩ => show (x 1).val = _ % 64; rw [h0]; omega
  | ⟨2, _⟩ => exact h2.symm

end

end Cert.Lat
end
-- ==== Proof.LatSoft.lean ====
/- The latent attention's specification: one softmax over a window's keys and the cached keys. -/
module

public import proofs.«01_k».proof.Proof.LatBlock

@[expose] public section

set_option maxRecDepth 16384

noncomputable section

namespace Cert.Lat
open Idealize.ShloMosaic
open Cert.LatAttnIdeal Cert.LatAttnIdeal.Gen Cert.Soft

/-! ## The softmax over two lists -/

/-- The joint maximum of two lists. -/
def top (s s' : Fin 512 → EReal) : EReal := max (Finset.univ.fold max ⊥ s) (Finset.univ.fold max ⊥ s')

/-- The joint denominator of two lists. -/
def den (s s' : Fin 512 → EReal) : EReal := ∑ j, Ideal.exp (s j - top s s') + ∑ j, Ideal.exp (s' j - top s s')

/-- Where the first list has no infinity and the second is real, the denominator is positive. -/
theorem den_pos (s s' : Fin 512 → EReal) (h : ∀ j, s j ≠ ⊤) (h' : ∀ j, IsReal (s' j)) : 0 < den s s' := by
  have e : top s s' = max (Finset.univ.sup s) (Finset.univ.sup s') := rfl
  obtain ⟨a, ha⟩ := sup_mem s
  obtain ⟨b, hb⟩ := sup_mem s'
  have n0 : 0 ≤ ∑ j, Ideal.exp (s j - top s s') := Finset.sum_nonneg fun j _ => exp_nonneg _
  have n1 : 0 ≤ ∑ j, Ideal.exp (s' j - top s s') := Finset.sum_nonneg fun j _ => exp_nonneg _
  unfold den
  rcases le_total (Finset.univ.sup s) (Finset.univ.sup s') with hle | hle
  · have et : top s s' = s' b := by rw [e, max_eq_right hle, hb]
    have hp : 0 < ∑ j, Ideal.exp (s' j - top s s') := sum_exp_pos s' (et ▸ h' b) b et.symm
    exact lt_of_lt_of_le hp (le_add_of_nonneg_left n0)
  · have et : top s s' = s a := by rw [e, max_eq_left hle, ha]
    have hr : IsReal (top s s') := by
      refine isReal_of_ne (et ▸ h a) fun hbot => ?_
      have : s' b ≤ top s s' := by rw [e, ← hb]; exact le_max_right _ _
      rw [hbot] at this
      exact (h' b).ne_bot (le_bot_iff.mp this)
    have hp : 0 < ∑ j, Ideal.exp (s j - top s s') := sum_exp_pos s hr a et.symm
    exact lt_of_lt_of_le hp (le_add_of_nonneg_right n1)

/-- There the row is the sum of both lists' values weighted by the softmax. -/
theorem two_eq (s s' v v' : Fin 512 → EReal) (h : ∀ j, s j ≠ ⊤) (h' : ∀ j, IsReal (s' j)) :
    two s s' v v' = ∑ j, Ideal.div (Ideal.exp (s j - top s s')) (den s s') * v j + ∑ j, Ideal.div (Ideal.exp (s' j - top s s')) (den s s') * v' j := by
  have hL := den_pos s s' h h'
  show Ideal.div (∑ j, Ideal.exp (s j - top s s') * v j + ∑ j, Ideal.exp (s' j - top s s') * v' j) (den s s') = _
  rw [add_div hL, sum_mul_div _ _ _ hL, sum_mul_div _ _ _ hL]

/-! ## The array -/

/-- The score of query row `r` of window `i` against the window's key `j`, bias added, for the head that column `c` belongs to. -/
def winScore (q k : FVec Ideal S4x4096x1024 .bf16) (b : FVec Ideal S16x14x64x128 .f32) (s : Fin 4) (i r : Fin 64) (c : Fin 1024) (j : Fin 512) : EReal :=
  (∑ d : Fin 64, q (ix3 s ⟨64 * i.val + r.val, by omega⟩ ⟨64 * (c.val / 64) + d.val, by omega⟩) * k (ix3 s ⟨64 * first i.val + j.val, first_lt i j⟩ ⟨64 * (c.val / 64) + d.val, by omega⟩)) * (((1 : ℝ) / 8 : ℝ) : EReal)
    + b (ix4 ⟨c.val / 64, by omega⟩ ⟨first i.val + 7 - i.val + 2 * (j.val / 128), table_lt i _ (by omega)⟩ r ⟨j.val % 128, Nat.mod_lt _ (by decide)⟩)

/-- The same row's score against the cached key `j`. -/
def cacheScore (q : FVec Ideal S4x4096x1024 .bf16) (kc : FVec Ideal S4x1x16x512x64 .f32) (s : Fin 4) (i r : Fin 64) (c : Fin 1024) (j : Fin 512) : EReal :=
  (∑ d : Fin 64, q (ix3 s ⟨64 * i.val + r.val, by omega⟩ ⟨64 * (c.val / 64) + d.val, by omega⟩) * kc (ix5 s 0 ⟨c.val / 64, by omega⟩ j d)) * (((1 : ℝ) / 8 : ℝ) : EReal)

/-- One row of one column of the attention. -/
def rowOf (q k v : FVec Ideal S4x4096x1024 .bf16) (kc vc : FVec Ideal S4x1x16x512x64 .f32) (b : FVec Ideal S16x14x64x128 .f32) (s : Fin 4) (i r : Fin 64) (c : Fin 1024) : EReal :=
  two (winScore q k b s i r c) (cacheScore q kc s i r c) (fun j => v (ix3 s ⟨64 * first i.val + j.val, first_lt i j⟩ c))
    (fun j => vc (ix5 s 0 ⟨c.val / 64, by omega⟩ j ⟨c.val % 64, Nat.mod_lt _ (by decide)⟩))

/-- The attention of every sequence, row and column. -/
def lat (q k v : FVec Ideal S4x4096x1024 .bf16) (kc vc : FVec Ideal S4x1x16x512x64 .f32) (b : FVec Ideal S16x14x64x128 .f32) : FVec Ideal S4x4096x1024 .bf16 :=
  fun y => rowOf q k v kc vc b (y 0) ⟨(y 1).val / 64, by have : (y 1).val < 4096 := (y 1).isLt; omega⟩ ⟨(y 1).val % 64, Nat.mod_lt _ (by decide)⟩ (y 2)

end Cert.Lat
end
-- ==== Proof.LatKernel.lean ====
/- The latent attention's kernel: the array it ends with. -/
module

public import proofs.«01_k».proof.Proof.LatTrip
public import proofs.«01_k».proof.Proof.LatSoft

@[expose] public section

set_option maxRecDepth 16384

noncomputable section

namespace Cert.Lat
open Idealize.ShloMosaic Idealize.ShloMosaic.TcCoe Idealize.SL.Sem
open Idealize.ShloMosaic.Pipeline (Dat)
open Cert.LatAttnIdeal Cert.LatAttnIdeal.Gen Cert.Soft

variable (m : (ℓ : Loc nD τ sig) → Buf (Elt Ideal) ℓ) (c : Dev nD)

/-- The launch's queries. -/
abbrev Q : FVec Ideal S4x4096x1024 .bf16 := m ((c.tc : Thread nD τ).loc main_arg0)
/-- The launch's keys. -/
abbrev K : FVec Ideal S4x4096x1024 .bf16 := m ((c.tc : Thread nD τ).loc main_arg1)
/-- The launch's values. -/
abbrev W : FVec Ideal S4x4096x1024 .bf16 := m ((c.tc : Thread nD τ).loc main_arg2)
/-- The launch's cached keys. -/
abbrev KC : FVec Ideal S4x1x16x512x64 .f32 := m ((c.tc : Thread nD τ).loc main_arg3)
/-- The launch's cached values. -/
abbrev WC : FVec Ideal S4x1x16x512x64 .f32 := m ((c.tc : Thread nD τ).loc main_arg4)
/-- The launch's bias tables. -/
abbrev B : FVec Ideal S16x14x64x128 .f32 := m ((c.tc : Thread nD τ).loc main_arg5)

theorem idx : ∀ t : Fin cfg0.N, win0_0.index t = ![t.val / 8, 0, t.val % 8] ∧ win0_1.index t = ![t.val / 8, 0, t.val % 8]
    ∧ win0_2.index t = ![t.val / 8, 0, t.val % 8] ∧ win0_3.index t = ![t.val / 8, t.val % 8, 0, 0] ∧ win0_4.index t = ![t.val / 8, t.val % 8, 0, 0]
    ∧ win0_5.index t = ![t.val % 8, 0, 0, 0] ∧ win0_6.index t = ![t.val / 8, 0, t.val % 8] :=
  (by decide +kernel : ∀ t : Fin grid0.N, win0_0.index t = ![t.val / 8, 0, t.val % 8] ∧ win0_1.index t = ![t.val / 8, 0, t.val % 8]
    ∧ win0_2.index t = ![t.val / 8, 0, t.val % 8] ∧ win0_3.index t = ![t.val / 8, t.val % 8, 0, 0] ∧ win0_4.index t = ![t.val / 8, t.val % 8, 0, 0]
    ∧ win0_5.index t = ![t.val % 8, 0, 0, 0] ∧ win0_6.index t = ![t.val / 8, 0, t.val % 8])

theorem pt_lt (t : Fin cfg0.N) : t.val < 32 := lt_of_lt_of_eq t.isLt (by decide)

theorem q_block (t : Fin cfg0.N) (r : Fin 4096) (l : Fin 128) :
    (iblk m c 0 t : FVec Ideal S1x4096x128 .bf16) (ix3 0 r l) = Q m c (ix3 ⟨t.val / 8, by have := pt_lt t; omega⟩ r ⟨128 * (t.val % 8) + l.val, by omega⟩) := by
  blk_point [iblk, V, idx t]

theorem k_block (t : Fin cfg0.N) (r : Fin 4096) (l : Fin 128) :
    (iblk m c 1 t : FVec Ideal S1x4096x128 .bf16) (ix3 0 r l) = K m c (ix3 ⟨t.val / 8, by have := pt_lt t; omega⟩ r ⟨128 * (t.val % 8) + l.val, by omega⟩) := by
  blk_point [iblk, V, idx t]

theorem v_block (t : Fin cfg0.N) (r : Fin 4096) (l : Fin 128) :
    (iblk m c 2 t : FVec Ideal S1x4096x128 .bf16) (ix3 0 r l) = W m c (ix3 ⟨t.val / 8, by have := pt_lt t; omega⟩ r ⟨128 * (t.val % 8) + l.val, by omega⟩) := by
  blk_point [iblk, V, idx t]

theorem kc_block (t : Fin cfg0.N) (j : Fin 512) (l : Fin 128) :
    (iblk m c 3 t : FVec Ideal S1x1x512x128 .bf16) (ix4 0 0 j l) = KC m c (ix5 ⟨t.val / 8, by have := pt_lt t; omega⟩ 0 ⟨2 * (t.val % 8) + l.val / 64, by omega⟩ j ⟨l.val % 64, Nat.mod_lt _ (by decide)⟩) := by
  blk_point [iblk, V, idx t]

theorem vc_block (t : Fin cfg0.N) (j : Fin 512) (l : Fin 128) :
    (iblk m c 4 t : FVec Ideal S1x1x512x128 .bf16) (ix4 0 0 j l) = WC m c (ix5 ⟨t.val / 8, by have := pt_lt t; omega⟩ 0 ⟨2 * (t.val % 8) + l.val / 64, by omega⟩ j ⟨l.val % 64, Nat.mod_lt _ (by decide)⟩) := by
  blk_point [iblk, V, idx t]

theorem b_block (t : Fin cfg0.N) (h : Fin 2) (R : Fin 14) (r : Fin 64) (l : Fin 128) :
    (iblk m c 5 t : FVec Ideal S2x14x64x128 .f32) (ix4 h R r l) = B m c (ix4 ⟨2 * (t.val % 8) + h.val, by omega⟩ R r l) := by
  blk_point [iblk, V, idx t]

theorem two_congr {s s' v v' t t' w w' : Fin 512 → EReal} (h : s = t) (h' : s' = t') (g : v = w) (g' : v' = w') : two s s' v v' = two t t' w w' := by
  subst h h' g g'; rfl

/-- What point `t` leaves at row `n`, lane `l` is the attention at the lane's place in the array. -/
theorem point (t : Fin cfg0.N) (n : Fin 4096) (l : Fin 128) :
    block (iblk m c 0 t) (iblk m c 1 t) (iblk m c 2 t) (iblk m c 3 t) (iblk m c 4 t) (iblk m c 5 t) (ix3 0 n l)
      = lat (Q m c) (K m c) (W m c) (KC m c) (WC m c) (B m c) (ix3 ⟨t.val / 8, by have := pt_lt t; omega⟩ n ⟨128 * (t.val % 8) + l.val, by omega⟩) := by
  have e' : 64 * (2 * (t.val % 8) + l.val / 64) = 128 * (t.val % 8) + 64 * (l.val / 64) := by omega
  have e1 : (128 * (t.val % 8) + l.val) / 64 = 2 * (t.val % 8) + l.val / 64 := by omega
  have e2 : (128 * (t.val % 8) + l.val) % 64 = l.val % 64 := by omega
  have e3 : ∀ d : Fin 64, (64 * (l.val / 64) + d.val) / 64 = l.val / 64 := fun d => by omega
  have e4 : ∀ d : Fin 64, (64 * (l.val / 64) + d.val) % 64 = d.val := fun d => by omega
  refine (stored_eq _ _ _ _ _ _ _ _ _).trans ?_
  show two _ _ _ _ = rowOf _ _ _ _ _ _ _ _ _ _
  have hs : blockLocal (iblk m c 0 t) (iblk m c 1 t) (iblk m c 5 t) ⟨n.val / 64, by omega⟩ ⟨n.val % 64, Nat.mod_lt _ (by decide)⟩ l
      = winScore (Q m c) (K m c) (B m c) ⟨t.val / 8, by have := pt_lt t; omega⟩ ⟨n.val / 64, by omega⟩ ⟨n.val % 64, Nat.mod_lt _ (by decide)⟩ ⟨128 * (t.val % 8) + l.val, by omega⟩ := by
    funext j
    simp only [blockLocal, winScore, q_block, k_block, b_block, e1, e', Nat.add_assoc]
  have hc : blockCached (iblk m c 0 t) (iblk m c 3 t) ⟨n.val / 64, by omega⟩ ⟨n.val % 64, Nat.mod_lt _ (by decide)⟩ l
      = cacheScore (Q m c) (KC m c) ⟨t.val / 8, by have := pt_lt t; omega⟩ ⟨n.val / 64, by omega⟩ ⟨n.val % 64, Nat.mod_lt _ (by decide)⟩ ⟨128 * (t.val % 8) + l.val, by omega⟩ := by
    funext j
    simp only [blockCached, cacheScore, q_block, kc_block, e1, e', e3, e4, Nat.add_assoc]
  exact two_congr hs hc (funext fun j => v_block m c t _ l) (funext fun j => (vc_block m c t j l).trans (congrArg₂ (fun a b => WC m c (ix5 (⟨t.val / 8, by have := pt_lt t; omega⟩ : Fin 4) (0 : Fin 1) a j b)) (Fin.ext e1.symm) (Fin.ext e2.symm)))

/-- The same at the block's own index. -/
theorem point_at (t : Fin cfg0.N) (y : S1x4096x128.Idx) :
    block (iblk m c 0 t) (iblk m c 1 t) (iblk m c 2 t) (iblk m c 3 t) (iblk m c 4 t) (iblk m c 5 t) y
      = lat (Q m c) (K m c) (W m c) (KC m c) (WC m c) (B m c) (((View.whole main_v10).slice (win0_6.rect t)).emb y) := by
  obtain ⟨z, r, l, rfl⟩ : ∃ z r l, y = ix3 z r l := ⟨y 0, y 1, y 2, eq_ix3 y⟩
  obtain rfl : z = 0 := Subsingleton.elim _ _
  rw [point m c t r l]
  refine congrArg _ ?_
  blk_ext [idx t]

/-- THE KERNEL'S ARRAY is the attention. -/
theorem final : (dats m 0 c).arrAt 6 cfg0.N = lat (Q m c) (K m c) (W m c) (KC m c) (WC m c) (B m c) := by
  refine (dats m 0 c).arrAt_eq_of_covers 6 _ (by decide +kernel) fun t _ y => ?_
  blk_simp
  rw [after0_6]
  have h : outsAt0 m c t = block (iblk m c 0 t) (iblk m c 1 t) (iblk m c 2 t) (iblk m c 3 t) (iblk m c 4 t) (iblk m c 5 t) := out_eq _ _ _ _ _ _ _ _ _ _ _ _ _ _ _ _ _ _ _ _ _ _
  exact (congrFun h y).trans (point_at m c t y)

end Cert.Lat
end
-- ==== Proof.LatGather.lean ====
/- The latent attention's reference: its gathers of rows, read at an index. -/
module

public import proofs.«01_k».proof.Proof.Gen.LatRefIdeal.Read
public import proofs.«01_k».proof.Proof.LatBlock

@[expose] public section

set_option maxRecDepth 16384

noncomputable section

namespace Cert.Lat
open Idealize.ShloMosaic Idealize.ShloMosaic.TcCoe Idealize.SL.Sem
open Cert.LatRefIdeal

/-- The gather of window rows: place `(i, a)` holds the row its index names. -/
theorem gather_rows (x : FVec Ideal S4x16x64x64x64 .f32) (idx : IVec S64x8x1 32) (s : Fin 4) (h : Fin 16) (i : Fin 64) (a : Fin 8) (k d : Fin 64)
    (R : Fin 64) (hR : (idx (ix3 i a 0)).toInt = R.val) :
    Host.gather gather_S4x16x64x64x64_S64x8x1_S4x16x64x8x64x64_0145_2_n_n_2_2_41616464 x idx (ix6 s h i a k d) = x (ix5 s h R k d) := by
  unfold Host.gather
  refine congrArg x (funext fun b => Fin.ext ?_)
  match b with
  | ⟨0, _⟩ =>
    show GatherDims.start gather_S4x16x64x64x64_S64x8x1_S4x16x64x8x64x64_0145_2_n_n_2_2_41616464 _ idx 0 + GatherDims.batchCoord gather_S4x16x64x64x64_S64x8x1_S4x16x64x8x64x64_0145_2_n_n_2_2_41616464 _ 0 + GatherDims.offCoord gather_S4x16x64x64x64_S64x8x1_S4x16x64x8x64x64_0145_2_n_n_2_2_41616464 _ 0 = _
    rw [GatherDims.batchCoord_eq_zero _ _ _ List.not_mem_nil]
    unfold GatherDims.start GatherDims.offCoord
    rw [dif_neg (show ¬ (0 : Fin 5) ∈ gather_S4x16x64x64x64_S64x8x1_S4x16x64x8x64x64_0145_2_n_n_2_2_41616464.startIndexMap by decide +revert), dif_pos (show (0 : Fin 5) ∈ gather_S4x16x64x64x64_S64x8x1_S4x16x64x8x64x64_0145_2_n_n_2_2_41616464.sKept by decide)]
    simp only [Nat.zero_add, Nat.add_zero]
    rfl
  | ⟨1, _⟩ =>
    show GatherDims.start gather_S4x16x64x64x64_S64x8x1_S4x16x64x8x64x64_0145_2_n_n_2_2_41616464 _ idx 1 + GatherDims.batchCoord gather_S4x16x64x64x64_S64x8x1_S4x16x64x8x64x64_0145_2_n_n_2_2_41616464 _ 1 + GatherDims.offCoord gather_S4x16x64x64x64_S64x8x1_S4x16x64x8x64x64_0145_2_n_n_2_2_41616464 _ 1 = _
    rw [GatherDims.batchCoord_eq_zero _ _ _ List.not_mem_nil]
    unfold GatherDims.start GatherDims.offCoord
    rw [dif_neg (show ¬ (1 : Fin 5) ∈ gather_S4x16x64x64x64_S64x8x1_S4x16x64x8x64x64_0145_2_n_n_2_2_41616464.startIndexMap by decide +revert), dif_pos (show (1 : Fin 5) ∈ gather_S4x16x64x64x64_S64x8x1_S4x16x64x8x64x64_0145_2_n_n_2_2_41616464.sKept by decide)]
    simp only [Nat.zero_add, Nat.add_zero]
    rfl
  | ⟨2, _⟩ =>
    show GatherDims.start _ _ idx 2 + GatherDims.batchCoord _ _ 2 + GatherDims.offCoord _ _ 2 = R.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 5) ∈ gather_S4x16x64x64x64_S64x8x1_S4x16x64x8x64x64_0145_2_n_n_2_2_41616464.startIndexMap from List.mem_singleton.mpr rfl)]
    have hsi : gather_S4x16x64x64x64_S64x8x1_S4x16x64x8x64x64_0145_2_n_n_2_2_41616464.siIdx (ix6 s h i a k d) ⟨List.idxOf (2 : Fin 5) gather_S4x16x64x64x64_S64x8x1_S4x16x64x8x64x64_0145_2_n_n_2_2_41616464.startIndexMap,
        List.idxOf_lt_length_iff.2 (List.mem_singleton.mpr rfl)⟩ = ix3 i a 0 := by
      funext b; refine Fin.ext ?_
      match b with
      | ⟨0, _⟩ => rfl
      | ⟨1, _⟩ => rfl
      | ⟨2, _⟩ => rfl
    rw [hsi, hR]
    show min ((R.val : ℤ).toNat) (64 - 1) = R.val
    omega
  | ⟨3, _⟩ =>
    show GatherDims.start gather_S4x16x64x64x64_S64x8x1_S4x16x64x8x64x64_0145_2_n_n_2_2_41616464 _ idx 3 + GatherDims.batchCoord gather_S4x16x64x64x64_S64x8x1_S4x16x64x8x64x64_0145_2_n_n_2_2_41616464 _ 3 + GatherDims.offCoord gather_S4x16x64x64x64_S64x8x1_S4x16x64x8x64x64_0145_2_n_n_2_2_41616464 _ 3 = _
    rw [GatherDims.batchCoord_eq_zero _ _ _ List.not_mem_nil]
    unfold GatherDims.start GatherDims.offCoord
    rw [dif_neg (show ¬ (3 : Fin 5) ∈ gather_S4x16x64x64x64_S64x8x1_S4x16x64x8x64x64_0145_2_n_n_2_2_41616464.startIndexMap by decide +revert), dif_pos (show (3 : Fin 5) ∈ gather_S4x16x64x64x64_S64x8x1_S4x16x64x8x64x64_0145_2_n_n_2_2_41616464.sKept by decide)]
    simp only [Nat.zero_add, Nat.add_zero]
    rfl
  | ⟨4, _⟩ =>
    show GatherDims.start gather_S4x16x64x64x64_S64x8x1_S4x16x64x8x64x64_0145_2_n_n_2_2_41616464 _ idx 4 + GatherDims.batchCoord gather_S4x16x64x64x64_S64x8x1_S4x16x64x8x64x64_0145_2_n_n_2_2_41616464 _ 4 + GatherDims.offCoord gather_S4x16x64x64x64_S64x8x1_S4x16x64x8x64x64_0145_2_n_n_2_2_41616464 _ 4 = _
    rw [GatherDims.batchCoord_eq_zero _ _ _ List.not_mem_nil]
    unfold GatherDims.start GatherDims.offCoord
    rw [dif_neg (show ¬ (4 : Fin 5) ∈ gather_S4x16x64x64x64_S64x8x1_S4x16x64x8x64x64_0145_2_n_n_2_2_41616464.startIndexMap by decide +revert), dif_pos (show (4 : Fin 5) ∈ gather_S4x16x64x64x64_S64x8x1_S4x16x64x8x64x64_0145_2_n_n_2_2_41616464.sKept by decide)]
    simp only [Nat.zero_add, Nat.add_zero]
    rfl

/-- The gather of bias tables: place `(i, a)` holds the table its index names. -/
theorem gather_bias (x : FVec Ideal S16x14x64x128 .f32) (idx : IVec S64x4x1 32) (h : Fin 16) (i : Fin 64) (a : Fin 4) (k : Fin 64) (d : Fin 128)
    (R : Fin 14) (hR : (idx (ix3 i a 0)).toInt = R.val) :
    Host.gather gather_S16x14x64x128_S64x4x1_S16x64x4x64x128_034_1_n_n_1_2_16164128 x idx (ix5 h i a k d) = x (ix4 h R k d) := by
  unfold Host.gather
  refine congrArg x (funext fun b => Fin.ext ?_)
  match b with
  | ⟨0, _⟩ =>
    show GatherDims.start gather_S16x14x64x128_S64x4x1_S16x64x4x64x128_034_1_n_n_1_2_16164128 _ idx 0 + GatherDims.batchCoord gather_S16x14x64x128_S64x4x1_S16x64x4x64x128_034_1_n_n_1_2_16164128 _ 0 + GatherDims.offCoord gather_S16x14x64x128_S64x4x1_S16x64x4x64x128_034_1_n_n_1_2_16164128 _ 0 = _
    rw [GatherDims.batchCoord_eq_zero _ _ _ List.not_mem_nil]
    unfold GatherDims.start GatherDims.offCoord
    rw [dif_neg (show ¬ (0 : Fin 4) ∈ gather_S16x14x64x128_S64x4x1_S16x64x4x64x128_034_1_n_n_1_2_16164128.startIndexMap by decide +revert), dif_pos (show (0 : Fin 4) ∈ gather_S16x14x64x128_S64x4x1_S16x64x4x64x128_034_1_n_n_1_2_16164128.sKept by decide)]
    simp only [Nat.zero_add, Nat.add_zero]
    rfl
  | ⟨1, _⟩ =>
    show GatherDims.start _ _ idx 1 + GatherDims.batchCoord _ _ 1 + GatherDims.offCoord _ _ 1 = R.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 4) ∈ gather_S16x14x64x128_S64x4x1_S16x64x4x64x128_034_1_n_n_1_2_16164128.startIndexMap from List.mem_singleton.mpr rfl)]
    have hsi : gather_S16x14x64x128_S64x4x1_S16x64x4x64x128_034_1_n_n_1_2_16164128.siIdx (ix5 h i a k d) ⟨List.idxOf (1 : Fin 4) gather_S16x14x64x128_S64x4x1_S16x64x4x64x128_034_1_n_n_1_2_16164128.startIndexMap,
        List.idxOf_lt_length_iff.2 (List.mem_singleton.mpr rfl)⟩ = ix3 i a 0 := by
      funext b; refine Fin.ext ?_
      match b with
      | ⟨0, _⟩ => rfl
      | ⟨1, _⟩ => rfl
      | ⟨2, _⟩ => rfl
    rw [hsi, hR]
    show min ((R.val : ℤ).toNat) (14 - 1) = R.val
    omega
  | ⟨2, _⟩ =>
    show GatherDims.start gather_S16x14x64x128_S64x4x1_S16x64x4x64x128_034_1_n_n_1_2_16164128 _ idx 2 + GatherDims.batchCoord gather_S16x14x64x128_S64x4x1_S16x64x4x64x128_034_1_n_n_1_2_16164128 _ 2 + GatherDims.offCoord gather_S16x14x64x128_S64x4x1_S16x64x4x64x128_034_1_n_n_1_2_16164128 _ 2 = _
    rw [GatherDims.batchCoord_eq_zero _ _ _ List.not_mem_nil]
    unfold GatherDims.start GatherDims.offCoord
    rw [dif_neg (show ¬ (2 : Fin 4) ∈ gather_S16x14x64x128_S64x4x1_S16x64x4x64x128_034_1_n_n_1_2_16164128.startIndexMap by decide +revert), dif_pos (show (2 : Fin 4) ∈ gather_S16x14x64x128_S64x4x1_S16x64x4x64x128_034_1_n_n_1_2_16164128.sKept by decide)]
    simp only [Nat.zero_add, Nat.add_zero]
    rfl
  | ⟨3, _⟩ =>
    show GatherDims.start gather_S16x14x64x128_S64x4x1_S16x64x4x64x128_034_1_n_n_1_2_16164128 _ idx 3 + GatherDims.batchCoord gather_S16x14x64x128_S64x4x1_S16x64x4x64x128_034_1_n_n_1_2_16164128 _ 3 + GatherDims.offCoord gather_S16x14x64x128_S64x4x1_S16x64x4x64x128_034_1_n_n_1_2_16164128 _ 3 = _
    rw [GatherDims.batchCoord_eq_zero _ _ _ List.not_mem_nil]
    unfold GatherDims.start GatherDims.offCoord
    rw [dif_neg (show ¬ (3 : Fin 4) ∈ gather_S16x14x64x128_S64x4x1_S16x64x4x64x128_034_1_n_n_1_2_16164128.startIndexMap by decide +revert), dif_pos (show (3 : Fin 4) ∈ gather_S16x14x64x128_S64x4x1_S16x64x4x64x128_034_1_n_n_1_2_16164128.sKept by decide)]
    simp only [Nat.zero_add, Nat.add_zero]
    rfl

open Cert.LatRefIdeal.Read

theorem rows_word (i : Fin 64) (a : Fin 8) : (val_main_v29 (F := Ideal) (ix3 i a 0)).toInt = ((first i.val + a.val : ℕ) : ℤ) := by
  unfold val_main_v29 val_main_v28 val_main_v27 val_main_v26 val_main_c_3 val_main_v25 val_main_v24 val_main_c_2 val_main_v23 val_main_v22 val_main_v21 val_main_v20 val_main_v19 val_main_v18 val_main_v17 val_main_call0_v4 val_main_call0_v3 val_main_call0_v2 val_main_call0_v1 val_main_call0_v0 val_main_c_1 val_main_c_0 val_main_v16 val_main_v15 val_main_c val_main_v14
  pointwise
  revert i a; decide +kernel

theorem bias_word (i : Fin 64) (a : Fin 4) : (val_main_v59 (F := Ideal) (ix3 i a 0)).toInt = ((first i.val + 7 - i.val + 2 * a.val : ℕ) : ℤ) := by
  unfold val_main_v59 val_main_v58 val_main_v57 val_main_v56 val_main_c_10 val_main_v55 val_main_v54 val_main_c_9 val_main_v53 val_main_v52 val_main_v51 val_main_v50 val_main_v49 val_main_c_8 val_main_v48 val_main_v47 val_main_v46 val_main_v45 val_main_v44 val_main_c_7 val_main_v43 val_main_v42 val_main_c_6 val_main_v41 val_main_v17 val_main_call0_v4 val_main_call0_v3 val_main_call0_v2 val_main_call0_v1 val_main_call0_v0 val_main_c_1 val_main_c_0 val_main_v16 val_main_v15 val_main_c val_main_v14
  pointwise
  revert i a; decide +kernel

end Cert.Lat
end
-- ==== Proof.LatMask.lean ====
/- The latent attention's reference: its column mask. -/
module

public import proofs.«01_k».proof.Proof.LatGather
public import proofs.«01_k».proof.Proof.LatSoft

@[expose] public section

set_option maxRecDepth 16384

noncomputable section

namespace Cert.Lat
open Idealize.ShloMosaic Idealize.ShloMosaic.TcCoe Idealize.SL.Sem
open Cert.LatAttnIdeal Cert.LatAttnIdeal.Gen Cert.LatRefIdeal.Read Cert.Soft

variable (x0 x1 x2 : FVec Ideal Cert.LatAttnIdeal.S4x4096x1024 .bf16) (x3 x4 : FVec Ideal Cert.LatAttnIdeal.S4x1x16x512x64 .f32) (x5 : FVec Ideal Cert.LatAttnIdeal.S16x14x64x128 .f32)

/-- Query column `r` and key column `k` are within one column window. -/
def inWindow (r k : Fin 64) : Bool := decide (min 48 (r.val - 8) ≤ k.val ∧ k.val < min 48 (r.val - 8) + 16)

theorem mask_word (r k : Fin 64) : val_main_v80 (F := Ideal) (ix2 r k) = if inWindow r k then 1#1 else 0#1 := by
  unfold val_main_v80 val_main_v79 val_main_v78 val_main_v77 val_main_v76 val_main_v75 val_main_c_14 val_main_v74 val_main_v73 val_main_v72 val_main_v71 val_main_v70 val_main_v69 val_main_v68 val_main_v67 val_main_call1_v4 val_main_call1_v3 val_main_call1_v2 val_main_call1_v1 val_main_call1_v0 val_main_c_13 val_main_c_12 val_main_v66 val_main_v65 val_main_c_11 val_main_v64
  pointwise
  revert r k; decide +kernel

end Cert.Lat
end
-- ==== Proof.LatScore.lean ====
/- The latent attention's reference: its scores. -/
module

public import proofs.«01_k».proof.Proof.LatMask

@[expose] public section

set_option maxRecDepth 16384

noncomputable section

namespace Cert.Lat
open Idealize.ShloMosaic Idealize.ShloMosaic.TcCoe Idealize.SL.Sem
open Cert.LatAttnIdeal Cert.LatAttnIdeal.Gen Cert.LatRefIdeal.Read Cert.Soft

variable (x0 x1 x2 : FVec Ideal Cert.LatAttnIdeal.S4x4096x1024 .bf16) (x3 x4 : FVec Ideal Cert.LatAttnIdeal.S4x1x16x512x64 .f32) (x5 : FVec Ideal Cert.LatAttnIdeal.S16x14x64x128 .f32)

theorem head_q (s : Fin 4) (h : Fin 16) (i r d : Fin 64) :
    val_main_v3 (F := Ideal) x0 (ix5 s h i r d) = x0 (ix3 s ⟨64 * i.val + r.val, by omega⟩ ⟨64 * h.val + d.val, by omega⟩) := by
  unfold val_main_v3 val_main_v2 val_main_v1 val_main_v0
  pointwise
  try (simp only [Nat.mul_comm])

theorem head_k (s : Fin 4) (h : Fin 16) (i r d : Fin 64) :
    val_main_v7 (F := Ideal) x1 (ix5 s h i r d) = x1 (ix3 s ⟨64 * i.val + r.val, by omega⟩ ⟨64 * h.val + d.val, by omega⟩) := by
  unfold val_main_v7 val_main_v6 val_main_v5 val_main_v4
  pointwise
  try (simp only [Nat.mul_comm])

theorem head_v (s : Fin 4) (h : Fin 16) (i r d : Fin 64) :
    val_main_v11 (F := Ideal) x2 (ix5 s h i r d) = x2 (ix3 s ⟨64 * i.val + r.val, by omega⟩ ⟨64 * h.val + d.val, by omega⟩) := by
  unfold val_main_v11 val_main_v10 val_main_v9 val_main_v8
  pointwise
  try (simp only [Nat.mul_comm])

/-- The keys of window `i`. -/
theorem win_k (s : Fin 4) (h : Fin 16) (i : Fin 64) (a : Fin 8) (k d : Fin 64) :
    val_main_v30 (F := Ideal) x1 (ix6 s h i a k d) = x1 (ix3 s ⟨64 * (first i.val + a.val) + k.val, by have : first i.val ≤ 56 := Nat.min_le_left _ _; omega⟩ ⟨64 * h.val + d.val, by omega⟩) := by
  unfold val_main_v30
  rw [gather_rows _ _ s h i a k d ⟨first i.val + a.val, by have : first i.val ≤ 56 := Nat.min_le_left _ _; omega⟩ (rows_word i a), head_k]

theorem win_v (s : Fin 4) (h : Fin 16) (i : Fin 64) (a : Fin 8) (k d : Fin 64) :
    val_main_v37 (F := Ideal) x2 (ix6 s h i a k d) = x2 (ix3 s ⟨64 * (first i.val + a.val) + k.val, by have : first i.val ≤ 56 := Nat.min_le_left _ _; omega⟩ ⟨64 * h.val + d.val, by omega⟩) := by
  have e : val_main_v36 (F := Ideal) = val_main_v29 (F := Ideal) := by
    unfold val_main_v36 val_main_v35 val_main_v34 val_main_v33 val_main_v32 val_main_v31 val_main_c_4 val_main_c_5 val_main_v29 val_main_v28 val_main_v27 val_main_v26 val_main_v25 val_main_v24 val_main_c_2 val_main_c_3
    rfl
  unfold val_main_v37
  rw [e, gather_rows _ _ s h i a k d ⟨first i.val + a.val, by have : first i.val ≤ 56 := Nat.min_le_left _ _; omega⟩ (rows_word i a), head_v]

/-- The scaled score of a window's key. -/
theorem dot_win (s : Fin 4) (h : Fin 16) (i r : Fin 64) (a : Fin 8) (k : Fin 64) :
    val_main_v40 (F := Ideal) x0 x1 (ix6 s h i r a k)
      = (∑ d : Fin 64, x0 (ix3 s ⟨64 * i.val + r.val, by omega⟩ ⟨64 * h.val + d.val, by omega⟩) * x1 (ix3 s ⟨64 * (first i.val + a.val) + k.val, by have : first i.val ≤ 56 := Nat.min_le_left _ _; omega⟩ ⟨64 * h.val + d.val, by omega⟩)) * (((1 : ℝ) / 8 : ℝ) : EReal) := by
  have e : val_main_v40 (F := Ideal) x0 x1 (ix6 s h i r a k) = (∑ d : Fin 64, val_main_v3 (F := Ideal) x0 (ix5 s h i r d) * val_main_v30 (F := Ideal) x1 (ix6 s h i a k d)) * Ideal.ofBits .f32 0x3E000000#32 := by
    unfold val_main_v40 val_main_v39 val_main_cst val_main_v38
    generalize val_main_v3 (F := Ideal) x0 = f
    generalize val_main_v30 (F := Ideal) x1 = g
    pointwise
  rw [e, eighth_f32]
  simp only [head_q, win_k]

/-- The bias of a window's key. -/
theorem bias_win (s : Fin 4) (h : Fin 16) (i r : Fin 64) (a : Fin 8) (k : Fin 64) :
    val_main_v83 (F := Ideal) x5 (ix6 s h i r a k)
      = x5 (ix4 h ⟨first i.val + 7 - i.val + 2 * (a.val / 2), table_lt i _ (by omega)⟩ r ⟨64 * (a.val % 2) + k.val, by omega⟩) := by
  have e : val_main_v83 (F := Ideal) x5 (ix6 s h i r a k) = val_main_v60 (F := Ideal) x5 (ix5 h i ⟨a.val / 2, by omega⟩ r ⟨64 * (a.val % 2) + k.val, by omega⟩) := by
    unfold val_main_v83 val_main_v82 val_main_v63 val_main_v62 val_main_v61
    generalize val_main_v60 (F := Ideal) x5 = f
    pointwise
    try (simp only [Nat.mul_comm])
  rw [e]
  unfold val_main_v60
  exact gather_bias _ _ h i _ r _ _ (bias_word i ⟨a.val / 2, by omega⟩)

/-- The masked score of a window's key. -/
theorem masked (s : Fin 4) (h : Fin 16) (i r : Fin 64) (a : Fin 8) (k : Fin 64) :
    val_main_v85 (F := Ideal) x0 x1 x5 (ix6 s h i r a k)
      = if inWindow r k then val_main_v40 (F := Ideal) x0 x1 (ix6 s h i r a k) + val_main_v83 (F := Ideal) x5 (ix6 s h i r a k) else ⊥ := by
  have e : val_main_v85 (F := Ideal) x0 x1 x5 (ix6 s h i r a k)
      = Scalar.select (val_main_v80 (F := Ideal) (ix2 r k)) (val_main_v40 (F := Ideal) x0 x1 (ix6 s h i r a k) + val_main_v83 (F := Ideal) x5 (ix6 s h i r a k)) (Ideal.ofBits .f32 0xFF800000#32) := by
    unfold val_main_v85 val_main_call2_v2 val_main_call2_v1 val_main_call2_v0 val_main_cst_15 val_main_v84 val_main_v81
    generalize val_main_v80 (F := Ideal) = f
    generalize val_main_v40 (F := Ideal) x0 x1 = g
    generalize val_main_v83 (F := Ideal) x5 = w
    pointwise
    rfl
  rw [e, mask_word, neg_inf_f32]
  by_cases hw : inWindow r k = true
  · rw [if_pos hw, if_pos hw]; rfl
  · rw [if_neg hw, if_neg hw]; rfl

/-- The scaled score of a cached key. -/
theorem dot_cache (s : Fin 4) (h : Fin 16) (i r : Fin 64) (j : Fin 512) :
    val_main_v88 (F := Ideal) x0 x3 (ix5 s h i r j)
      = (∑ d : Fin 64, x0 (ix3 s ⟨64 * i.val + r.val, by omega⟩ ⟨64 * h.val + d.val, by omega⟩) * x3 (ix5 s 0 h j d)) * (((1 : ℝ) / 8 : ℝ) : EReal) := by
  have e : val_main_v88 (F := Ideal) x0 x3 (ix5 s h i r j) = (∑ d : Fin 64, val_main_v3 (F := Ideal) x0 (ix5 s h i r d) * x3 (ix5 s 0 h j d)) * Ideal.ofBits .f32 0x3E000000#32 := by
    unfold val_main_v88 val_main_v87 val_main_cst_16 val_main_v86 val_main_v12
    generalize val_main_v3 (F := Ideal) x0 = f
    pointwise
  rw [e, eighth_f32]
  simp only [head_q]

end Cert.Lat
end
-- ==== Proof.LatWeight.lean ====
/- The latent attention's reference: its softmax. -/
module

public import proofs.«01_k».proof.Proof.LatGather
public import proofs.«01_k».proof.Proof.LatSoft

@[expose] public section

set_option maxRecDepth 16384

noncomputable section

namespace Cert.Lat
open Idealize.ShloMosaic Idealize.ShloMosaic.TcCoe Idealize.SL.Sem
open Cert.LatAttnIdeal Cert.LatAttnIdeal.Gen Cert.LatRefIdeal.Read Cert.Soft

variable (x0 x1 x2 : FVec Ideal Cert.LatAttnIdeal.S4x4096x1024 .bf16) (x3 x4 : FVec Ideal Cert.LatAttnIdeal.S4x1x16x512x64 .f32) (x5 : FVec Ideal Cert.LatAttnIdeal.S16x14x64x128 .f32)

/-- The reference's scores of a window's keys, as one list. -/
def locals (s : Fin 4) (h : Fin 16) (i r : Fin 64) (j : Fin 512) : EReal :=
  val_main_v85 (F := Ideal) x0 x1 x5 (ix6 s h i r ⟨j.val / 64, by omega⟩ ⟨j.val % 64, Nat.mod_lt _ (by decide)⟩)

/-- All the reference's scores of a row: the window's keys, then the cached keys. -/
theorem logit_lo (s : Fin 4) (h : Fin 16) (i r : Fin 64) (j : Fin 512) :
    val_main_v90 (F := Ideal) x0 x1 x3 x5 (ix5 s h i r ⟨j.val, by omega⟩) = locals x0 x1 x5 s h i r j := by
  unfold locals val_main_v90 val_main_v89
  generalize val_main_v85 (F := Ideal) x0 x1 x5 = f
  generalize val_main_v88 (F := Ideal) x0 x3 = g
  pointwise
  first | done | rw [dif_pos j.isLt]

theorem logit_hi (s : Fin 4) (h : Fin 16) (i r : Fin 64) (j : Fin 512) :
    val_main_v90 (F := Ideal) x0 x1 x3 x5 (ix5 s h i r ⟨512 + j.val, by omega⟩) = val_main_v88 (F := Ideal) x0 x3 (ix5 s h i r j) := by
  unfold val_main_v90 val_main_v89
  generalize val_main_v85 (F := Ideal) x0 x1 x5 = f
  generalize val_main_v88 (F := Ideal) x0 x3 = g
  pointwise
  first | done | (rw [dif_neg (show ¬ 512 + j.val < 512 by omega)]; exact congrArg g (congrArg (ix5 s h i r) (Fin.ext (Nat.add_sub_cancel_left _ _))))

/-- A running maximum over 1024 entries is the maximum of the two halves'. -/
theorem fold_halves (f : Fin 1024 → EReal) :
    Finset.univ.fold max ⊥ f = max (Finset.univ.fold max ⊥ fun j : Fin 512 => f ⟨j.val, by omega⟩) (Finset.univ.fold max ⊥ fun j : Fin 512 => f ⟨512 + j.val, by omega⟩) := by
  simp only [fold_max_eq]
  refine le_antisymm (Finset.sup_le fun x _ => ?_) (max_le (Finset.sup_le fun j _ => Finset.le_sup (f := f) (Finset.mem_univ _)) (Finset.sup_le fun j _ => Finset.le_sup (f := f) (Finset.mem_univ _)))
  by_cases hx : x.val < 512
  · exact le_trans (Finset.le_sup (f := fun j : Fin 512 => f ⟨j.val, by omega⟩) (Finset.mem_univ (⟨x.val, hx⟩ : Fin 512))) (le_max_left _ _)
  · have hh : x = ⟨512 + (⟨x.val - 512, by omega⟩ : Fin 512).val, by show 512 + (x.val - 512) < 1024; omega⟩ := Fin.ext (by show x.val = 512 + (x.val - 512); omega)
    have := Finset.le_sup (f := fun j : Fin 512 => f ⟨512 + j.val, by omega⟩) (Finset.mem_univ (⟨x.val - 512, by omega⟩ : Fin 512))
    refine le_trans ?_ (le_max_right _ _)
    refine le_trans (le_of_eq (congrArg f hh)) this

/-- A row's scores as two lists. -/
abbrev cached (s : Fin 4) (h : Fin 16) (i r : Fin 64) (j : Fin 512) : EReal := val_main_v88 (F := Ideal) x0 x3 (ix5 s h i r j)

theorem ref_max (s : Fin 4) (h : Fin 16) (i r : Fin 64) :
    val_main_v93 (F := Ideal) x0 x1 x3 x5 (ix4 s h i r) = top (locals x0 x1 x5 s h i r) (cached x0 x3 s h i r) := by
  rw [val_main_v93_apply, val_main_v92_apply, val_main_cst_18_apply]
  unfold val_main_v91
  have hl : ∀ j : Fin 512, val_main_v90 (F := Ideal) x0 x1 x3 x5 (ix5 s h i r ⟨j.val, by omega⟩) = locals x0 x1 x5 s h i r j := logit_lo x0 x1 x3 x5 s h i r
  have hh : ∀ j : Fin 512, val_main_v90 (F := Ideal) x0 x1 x3 x5 (ix5 s h i r ⟨512 + j.val, by omega⟩) = cached x0 x3 s h i r j := logit_hi x0 x1 x3 x5 s h i r
  rw [hostMax_last5, val_main_cst_17_apply]
  show max (Ideal.ofBits .f32 0xFF800000#32) (Finset.univ.fold max (Ideal.ofBits .f32 0xFF800000#32) _) = _
  rw [neg_inf_f32, max_eq_right bot_le, fold_halves]
  simp only [hl, hh]
  rfl

theorem ref_exp (s : Fin 4) (h : Fin 16) (i r : Fin 64) (j : Fin 1024) :
    val_main_v97 (F := Ideal) x0 x1 x3 x5 (ix5 s h i r j)
      = Ideal.exp (val_main_v90 (F := Ideal) x0 x1 x3 x5 (ix5 s h i r j) - val_main_v93 (F := Ideal) x0 x1 x3 x5 (ix4 s h i r)) := by
  unfold val_main_v97 val_main_v96 val_main_v95 val_main_v94
  pointwise

theorem ref_weight (s : Fin 4) (h : Fin 16) (i r : Fin 64) (j : Fin 1024) :
    val_main_v101 (F := Ideal) x0 x1 x3 x5 (ix5 s h i r j)
      = Ideal.div (val_main_v97 (F := Ideal) x0 x1 x3 x5 (ix5 s h i r j)) (∑ k, val_main_v97 (F := Ideal) x0 x1 x3 x5 (ix5 s h i r k)) := by
  unfold val_main_v101 val_main_v100 val_main_v99 val_main_v98 val_main_cst_19
  pointwise

theorem exp_lo (s : Fin 4) (h : Fin 16) (i r : Fin 64) (j : Fin 512) :
    val_main_v97 (F := Ideal) x0 x1 x3 x5 (ix5 s h i r ⟨j.val, by omega⟩) = Ideal.exp (locals x0 x1 x5 s h i r j - top (locals x0 x1 x5 s h i r) (cached x0 x3 s h i r)) := by
  rw [ref_exp, ref_max, logit_lo]

theorem exp_hi (s : Fin 4) (h : Fin 16) (i r : Fin 64) (j : Fin 512) :
    val_main_v97 (F := Ideal) x0 x1 x3 x5 (ix5 s h i r ⟨512 + j.val, by omega⟩) = Ideal.exp (cached x0 x3 s h i r j - top (locals x0 x1 x5 s h i r) (cached x0 x3 s h i r)) := by
  rw [ref_exp, ref_max, logit_hi]

theorem ref_den (s : Fin 4) (h : Fin 16) (i r : Fin 64) :
    ∑ k, val_main_v97 (F := Ideal) x0 x1 x3 x5 (ix5 s h i r k) = den (locals x0 x1 x5 s h i r) (cached x0 x3 s h i r) := by
  have e : ∀ f : Fin 1024 → EReal, ∑ k, f k = ∑ j : Fin 512, f ⟨j.val, by omega⟩ + ∑ j : Fin 512, f ⟨512 + j.val, by omega⟩ := fun f => by
    rw [Fin.sum_univ_two_halves 512 512 (by norm_num)]
  rw [e]
  unfold den
  simp only [exp_lo, exp_hi]

end Cert.Lat
end
-- ==== Proof.LatOut.lean ====
/- The latent attention's reference: its result from the softmax. -/
module

public import proofs.«01_k».proof.Proof.LatGather
public import proofs.«01_k».proof.Proof.LatSoft

@[expose] public section

set_option maxRecDepth 16384

noncomputable section

namespace Cert.Lat
open Idealize.ShloMosaic Idealize.ShloMosaic.TcCoe Idealize.SL.Sem
open Cert.LatAttnIdeal Cert.LatAttnIdeal.Gen Cert.LatRefIdeal.Read Cert.Soft

variable (x0 x1 x2 : FVec Ideal Cert.LatAttnIdeal.S4x4096x1024 .bf16) (x3 x4 : FVec Ideal Cert.LatAttnIdeal.S4x1x16x512x64 .f32) (x5 : FVec Ideal Cert.LatAttnIdeal.S16x14x64x128 .f32)

/-- A sum of two arrays with the heads moved to the last but one axis and the axes merged: where an entry comes from. -/
theorem merge (f g : FVec Ideal ⟨5, ![4, 16, 64, 64, 64]⟩ .f32) (ht : (⟨5, ![4, 16, 64, 64, 64]⟩ : Shape).Transposes [0, 2, 3, 1, 4] ⟨5, ![4, 64, 64, 16, 64]⟩) (hb : FTy.bits .bf16 < FTy.bits .f32)
    (hc : (⟨5, ![4, 64, 64, 16, 64]⟩ : Shape).ShapeCasts ⟨3, ![4, 4096, 1024]⟩) (s : Fin 4) (n : Fin 4096) (c : Fin 1024) :
    truncf .bf16 (shapeCast ⟨3, ![4, 4096, 1024]⟩ (transpose ⟨5, ![4, 64, 64, 16, 64]⟩ [0, 2, 3, 1, 4] (addf f g) ht) hc) hb (ix3 s n c)
      = f (ix5 s ⟨c.val / 64, by omega⟩ ⟨n.val / 64, by omega⟩ ⟨n.val % 64, Nat.mod_lt _ (by decide)⟩ ⟨c.val % 64, Nat.mod_lt _ (by decide)⟩)
        + g (ix5 s ⟨c.val / 64, by omega⟩ ⟨n.val / 64, by omega⟩ ⟨n.val % 64, Nat.mod_lt _ (by decide)⟩ ⟨c.val % 64, Nat.mod_lt _ (by decide)⟩) := by
  pointwise

/-- The result before the weights are opened. -/
theorem ref_out (s : Fin 4) (n : Fin 4096) (c : Fin 1024) :
    val_main_v110 (F := Ideal) x0 x1 x2 x3 x4 x5 (ix3 s n c)
      = val_main_v105 (F := Ideal) x0 x1 x2 x3 x5 (ix5 s ⟨c.val / 64, by omega⟩ ⟨n.val / 64, by omega⟩ ⟨n.val % 64, Nat.mod_lt _ (by decide)⟩ ⟨c.val % 64, Nat.mod_lt _ (by decide)⟩)
        + val_main_v106 (F := Ideal) x0 x1 x3 x4 x5 (ix5 s ⟨c.val / 64, by omega⟩ ⟨n.val / 64, by omega⟩ ⟨n.val % 64, Nat.mod_lt _ (by decide)⟩ ⟨c.val % 64, Nat.mod_lt _ (by decide)⟩) := by
  unfold val_main_v110 val_main_v109 val_main_v108 val_main_v107
  exact merge (val_main_v105 (F := Ideal) x0 x1 x2 x3 x5) (val_main_v106 (F := Ideal) x0 x1 x3 x4 x5) _ _ _ s n c

theorem out_cache (s : Fin 4) (h : Fin 16) (i r d : Fin 64) :
    val_main_v106 (F := Ideal) x0 x1 x3 x4 x5 (ix5 s h i r d)
      = ∑ j : Fin 512, val_main_v101 (F := Ideal) x0 x1 x3 x5 (ix5 s h i r ⟨512 + j.val, by omega⟩) * x4 (ix5 s (0 : Fin 1) h j d) := by
  unfold val_main_v106 val_main_v104 val_main_v13
  generalize val_main_v101 (F := Ideal) x0 x1 x3 x5 = f
  pointwise

/-- A double sum over eight rows of 64 is the sum over the 512. -/
theorem sum_rows (F : Fin 512 → EReal) : ∑ a : Fin 8, ∑ k : Fin 64, F ⟨a.val * 64 + k.val, by omega⟩ = ∑ j, F j := by
  rw [← Fintype.sum_prod_type' (f := fun (a : Fin 8) (k : Fin 64) => F ⟨a.val * 64 + k.val, by omega⟩)]
  exact Fintype.sum_equiv (finProdFinEquiv : Fin 8 × Fin 64 ≃ Fin (8 * 64)) _ (fun j => F j) fun p =>
    congrArg F (Fin.ext (by show p.1.val * 64 + p.2.val = p.2.val + 64 * p.1.val; omega))

theorem out_win (s : Fin 4) (h : Fin 16) (i r d : Fin 64) :
    val_main_v105 (F := Ideal) x0 x1 x2 x3 x5 (ix5 s h i r d)
      = ∑ j : Fin 512, val_main_v101 (F := Ideal) x0 x1 x3 x5 (ix5 s h i r ⟨j.val, by omega⟩) * val_main_v37 (F := Ideal) x2 (ix6 s h i ⟨j.val / 64, by omega⟩ ⟨j.val % 64, Nat.mod_lt _ (by decide)⟩ d) := by
  unfold val_main_v105 val_main_v103 val_main_v102
  generalize val_main_v101 (F := Ideal) x0 x1 x3 x5 = f
  generalize val_main_v37 (F := Ideal) x2 = g
  pointwise
  have e := sum_rows fun j => f (ix5 s h i r ⟨j.val, by omega⟩) * g (ix6 s h i ⟨j.val / 64, by omega⟩ ⟨j.val % 64, Nat.mod_lt _ (by decide)⟩ d)
  refine Eq.trans (Finset.sum_congr rfl fun a _ => Finset.sum_congr rfl fun k _ => ?_) e
  have ea : (⟨(a.val * 64 + k.val) / 64, by omega⟩ : Fin 8) = a := Fin.ext (by show (a.val * 64 + k.val) / 64 = a.val; omega)
  have ek : (⟨(a.val * 64 + k.val) % 64, Nat.mod_lt _ (by decide)⟩ : Fin 64) = k := Fin.ext (by show (a.val * 64 + k.val) % 64 = k.val; omega)
  show _ = f (ix5 s h i r ⟨a.val * 64 + k.val, _⟩) * g (ix6 s h i ⟨(a.val * 64 + k.val) / 64, _⟩ ⟨(a.val * 64 + k.val) % 64, _⟩ d)
  rw [ea, ek]

end Cert.Lat
end
-- ==== Proof.LatRef.lean ====
/- The latent attention's reference: the array it computes. -/
module

public import proofs.«01_k».proof.Proof.LatScore
public import proofs.«01_k».proof.Proof.LatWeight
public import proofs.«01_k».proof.Proof.LatOut

@[expose] public section

set_option maxRecDepth 16384

noncomputable section

namespace Cert.Lat
open Idealize.ShloMosaic Idealize.ShloMosaic.TcCoe Idealize.SL.Sem
open Cert.LatAttnIdeal Cert.LatAttnIdeal.Gen Cert.LatRefIdeal.Read Cert.Soft

variable (x0 x1 x2 : FVec Ideal Cert.LatAttnIdeal.S4x4096x1024 .bf16) (x3 x4 : FVec Ideal Cert.LatAttnIdeal.S4x1x16x512x64 .f32) (x5 : FVec Ideal Cert.LatAttnIdeal.S16x14x64x128 .f32)

theorem weight_lo (s : Fin 4) (h : Fin 16) (i r : Fin 64) (j : Fin 512) :
    val_main_v101 (F := Ideal) x0 x1 x3 x5 (ix5 s h i r ⟨j.val, by omega⟩)
      = Ideal.div (Ideal.exp (locals x0 x1 x5 s h i r j - top (locals x0 x1 x5 s h i r) (cached x0 x3 s h i r))) (den (locals x0 x1 x5 s h i r) (cached x0 x3 s h i r)) := by
  rw [ref_weight, ref_den, exp_lo]

theorem weight_hi (s : Fin 4) (h : Fin 16) (i r : Fin 64) (j : Fin 512) :
    val_main_v101 (F := Ideal) x0 x1 x3 x5 (ix5 s h i r ⟨512 + j.val, by omega⟩)
      = Ideal.div (Ideal.exp (cached x0 x3 s h i r j - top (locals x0 x1 x5 s h i r) (cached x0 x3 s h i r))) (den (locals x0 x1 x5 s h i r) (cached x0 x3 s h i r)) := by
  rw [ref_weight, ref_den, exp_hi]

/-- A window's value row, its row and column put together. -/
theorem val_row (s : Fin 4) (i : Fin 64) (j : Fin 512) (c : Fin 1024) :
    val_main_v37 (F := Ideal) x2 (ix6 s ⟨c.val / 64, by omega⟩ i ⟨j.val / 64, by omega⟩ ⟨j.val % 64, Nat.mod_lt _ (by decide)⟩ ⟨c.val % 64, Nat.mod_lt _ (by decide)⟩)
      = x2 (ix3 s ⟨64 * first i.val + j.val, first_lt i j⟩ c) := by
  rw [win_v]
  have hr := first_lt i j
  exact congrArg₂ (fun a b => x2 (ix3 s a b)) (Fin.ext (by show 64 * (first i.val + j.val / 64) + j.val % 64 = 64 * first i.val + j.val; omega))
    (Fin.ext (by show 64 * (c.val / 64) + c.val % 64 = c.val; omega))

/-- The reference's result: both lists' values weighted by its softmax. -/
theorem ref_row (s : Fin 4) (n : Fin 4096) (c : Fin 1024) (h : Fin 16) (i r : Fin 64) (eh : h = ⟨c.val / 64, by omega⟩) (ei : i = ⟨n.val / 64, by omega⟩) (er : r = ⟨n.val % 64, Nat.mod_lt _ (by decide)⟩) :
    val_main_v110 (F := Ideal) x0 x1 x2 x3 x4 x5 (ix3 s n c)
      = ∑ j, Ideal.div (Ideal.exp (locals x0 x1 x5 s h i r j - top (locals x0 x1 x5 s h i r) (cached x0 x3 s h i r))) (den (locals x0 x1 x5 s h i r) (cached x0 x3 s h i r)) * x2 (ix3 s ⟨64 * first i.val + j.val, first_lt i j⟩ c)
        + ∑ j, Ideal.div (Ideal.exp (cached x0 x3 s h i r j - top (locals x0 x1 x5 s h i r) (cached x0 x3 s h i r))) (den (locals x0 x1 x5 s h i r) (cached x0 x3 s h i r)) * x4 (ix5 s (0 : Fin 1) h j ⟨c.val % 64, Nat.mod_lt _ (by decide)⟩) := by
  rw [ref_out, ← eh, ← ei, ← er, out_win, out_cache]
  refine congrArg₂ (· + ·) (Finset.sum_congr rfl fun j _ => ?_) (Finset.sum_congr rfl fun j _ => ?_)
  · rw [weight_lo]
    subst eh
    rw [val_row]
  · rw [weight_hi]

/-- The reference's window scores are the specification's, where the tables are `-inf` outside the column window. -/
theorem locals_eq (h0 : ∀ i, IsReal (x0 i)) (h1 : ∀ i, IsReal (x1 i))
    (hb : ∀ (h : Fin 16) (R : Fin 14) (r : Fin 64) (k : Fin 128), inWindow r ⟨k.val % 64, Nat.mod_lt _ (by decide)⟩ = false → x5 (ix4 h R r k) = ⊥)
    (s : Fin 4) (i r : Fin 64) (c : Fin 1024) :
    locals x0 x1 x5 s ⟨c.val / 64, by omega⟩ i r = winScore x0 x1 x5 s i r c := by
  funext j
  have hr := first_lt i j
  have e1 : 64 * (first i.val + j.val / 64) + j.val % 64 = 64 * first i.val + j.val := by omega
  have e2 : j.val / 64 / 2 = j.val / 128 := by omega
  have e3 : 64 * (j.val / 64 % 2) + j.val % 64 = j.val % 128 := by omega
  have e4 : j.val % 128 % 64 = j.val % 64 := by omega
  have hd : val_main_v40 (F := Ideal) x0 x1 (ix6 s ⟨c.val / 64, by omega⟩ i r ⟨j.val / 64, by omega⟩ ⟨j.val % 64, Nat.mod_lt _ (by decide)⟩)
      = (∑ d : Fin 64, x0 (ix3 s ⟨64 * i.val + r.val, by omega⟩ ⟨64 * (c.val / 64) + d.val, by omega⟩) * x1 (ix3 s ⟨64 * first i.val + j.val, first_lt i j⟩ ⟨64 * (c.val / 64) + d.val, by omega⟩)) * (((1 : ℝ) / 8 : ℝ) : EReal) := by
    rw [dot_win]
    simp only [e1]
  have hw : val_main_v83 (F := Ideal) x5 (ix6 s ⟨c.val / 64, by omega⟩ i r ⟨j.val / 64, by omega⟩ ⟨j.val % 64, Nat.mod_lt _ (by decide)⟩)
      = x5 (ix4 ⟨c.val / 64, by omega⟩ ⟨first i.val + 7 - i.val + 2 * (j.val / 128), table_lt i _ (by omega)⟩ r ⟨j.val % 128, Nat.mod_lt _ (by decide)⟩) := by
    rw [bias_win]
    simp only [e2, e3]
  unfold locals winScore
  rw [masked, hd, hw]
  by_cases h : inWindow r ⟨j.val % 64, Nat.mod_lt _ (by decide)⟩ = true
  · rw [if_pos h]
  · rw [if_neg h, hb _ _ _ _ (by simp only [e4]; exact Bool.eq_false_iff.mpr h), EReal.add_bot]

/-- THE REFERENCE'S ARRAY is the attention, for real queries and keys and tables that are `-inf` outside the column window. -/
theorem ref_lat (h0 : ∀ i, IsReal (x0 i)) (h1 : ∀ i, IsReal (x1 i)) (h3 : ∀ i, IsReal (x3 i)) (h5 : ∀ i, x5 i ≠ ⊤)
    (hb : ∀ (h : Fin 16) (R : Fin 14) (r : Fin 64) (k : Fin 128), inWindow r ⟨k.val % 64, Nat.mod_lt _ (by decide)⟩ = false → x5 (ix4 h R r k) = ⊥) :
    val_main_v110 (F := Ideal) x0 x1 x2 x3 x4 x5 = lat x0 x1 x2 x3 x4 x5 := by
  funext y
  obtain ⟨s, n, c, rfl⟩ : ∃ s n c, y = ix3 s n c := ⟨y 0, y 1, y 2, eq_ix3 y⟩
  have hl := locals_eq x0 x1 x5 h0 h1 hb s ⟨n.val / 64, by omega⟩ ⟨n.val % 64, Nat.mod_lt _ (by decide)⟩ c
  have hc : cached x0 x3 s ⟨c.val / 64, by omega⟩ ⟨n.val / 64, by omega⟩ ⟨n.val % 64, Nat.mod_lt _ (by decide)⟩
      = cacheScore x0 x3 s ⟨n.val / 64, by omega⟩ ⟨n.val % 64, Nat.mod_lt _ (by decide)⟩ c := by
    funext j; exact dot_cache x0 x3 s _ _ _ j
  have ht : ∀ j, winScore x0 x1 x5 s ⟨n.val / 64, by omega⟩ ⟨n.val % 64, Nat.mod_lt _ (by decide)⟩ c j ≠ ⊤ := fun j =>
    EReal.add_ne_top ((IsReal.sum _ fun d => (h0 _).mul (h1 _)).mul ⟨_, rfl⟩).ne_top (h5 _)
  have hr : ∀ j, IsReal (cacheScore x0 x3 s ⟨n.val / 64, by omega⟩ ⟨n.val % 64, Nat.mod_lt _ (by decide)⟩ c j) := fun j =>
    (IsReal.sum _ fun d => (h0 _).mul (h3 _)).mul ⟨_, rfl⟩
  rw [ref_row x0 x1 x2 x3 x4 x5 s n c _ _ _ rfl rfl rfl, hl, hc]
  exact (two_eq _ _ _ _ ht hr).symm

end Cert.Lat
end
-- ==== Proof.LatClaim.lean ====
/- The latent attention: kernel and reference end with the same array. -/
module

public import proofs.«01_k».proof.Defs
public import proofs.«01_k».proof.Proof.LatKernel
public import proofs.«01_k».proof.Proof.LatRef
public import proofs.«01_k».proof.Proof.Gen.LatRefIdeal.Run
public import proofs.«01_k».proof.Proof.Gen.LatRefIdeal
public import proofs.«01_k».proof.Proof.Gen.Pre_lat_inputs
public import Idealize.ShloMosaic.Adequacy
public import Idealize.ShloMosaic.Init
public import Idealize.ShloMosaic.Lib.Claim

@[expose] public section

set_option maxRecDepth 16384

noncomputable section

namespace Cert.Lat
open Idealize.ShloMosaic Idealize.ShloMosaic.TcCoe Idealize.SL.Sem
open Cert.Soft

/-- The precondition's column mask at a table's column is the reference's. -/
theorem mask_cat (f : IVec ⟨2, ![64, 64]⟩ 1) (h : Shape.Concatenates [⟨2, ![64, 64]⟩, ⟨2, ![64, 64]⟩] ⟨2, ![64, 128]⟩ 1) (r : Fin 64) (k : Fin 128) :
    concatenate ⟨2, ![64, 128]⟩ 1 [⟨⟨2, ![64, 64]⟩, f⟩, ⟨⟨2, ![64, 64]⟩, f⟩] h (ix2 r k) = f (ix2 r ⟨k.val % 64, Nat.mod_lt _ (by decide)⟩) := by
  pointwise
  by_cases hk : k.val < 64
  · rw [dif_pos hk]
    exact congrArg f (congrArg (ix2 r) (Fin.ext (by show k.val = k.val % 64; omega)))
  · rw [dif_neg hk]
    exact congrArg f (congrArg (ix2 r) (Fin.ext (by show k.val - 64 = k.val % 64; omega)))

/-- A choice by a mask over the last two axes, at an index. -/
theorem where_at (f : IVec ⟨2, ![64, 128]⟩ 1) (a b : IVec ⟨4, ![16, 14, 64, 128]⟩ 1) (h : (⟨2, ![64, 128]⟩ : Shape).BroadcastsInDim ⟨4, ![16, 14, 64, 128]⟩ ![2, 3])
    (hd : Fin 16) (R : Fin 14) (r : Fin 64) (k : Fin 128) :
    select (broadcastInDim ⟨4, ![16, 14, 64, 128]⟩ ![2, 3] h f) a b (ix4 hd R r k) = Scalar.select (f (ix2 r k)) (a (ix4 hd R r k)) (b (ix4 hd R r k)) := by
  pointwise

/-- What the precondition's test of a table entry says. -/
theorem entry {w : Bool} {x : EReal} {m : BitVec 1} (hm : m = if w then 1#1 else 0#1)
    (h : Scalar.select m (Ideal.cmp .olt x ⊤) (Ideal.cmp .oeq x ⊥) = 1#1) : x ≠ ⊤ ∧ (w = false → x = ⊥) := by
  subst hm
  cases w
  · have h' : Ideal.cmp .oeq x ⊥ = 1#1 := h
    have hx : x = ⊥ := by by_contra hn; simp [Ideal.cmp, hn] at h'
    exact ⟨by rw [hx]; exact bot_ne_top, fun _ => hx⟩
  · have h' : Ideal.cmp .olt x ⊤ = 1#1 := h
    exact ⟨by rintro rfl; simp [Ideal.cmp] at h', fun hw => absurd hw (by decide)⟩

/-- Under the precondition the launch's queries and keys are real. -/
theorem reals (m : (ℓ : Loc Cert.LatAttnIdeal.nD Cert.LatAttnIdeal.τ Cert.LatAttnIdeal.sig) → Buf (Elt Ideal) ℓ)
    (h : Cert.Pre_LatAttnIdeal_lat_inputs (hPre_lat_inputs := Cert.Pre_lat_inputs.Gen.facts) m) (c : Dev Cert.LatAttnIdeal.nD) :
    (∀ i, IsReal (Q m c i)) ∧ (∀ i, IsReal (K m c i)) ∧ ∀ i, IsReal (KC m c i) := by
  have hc := h c
  refine ⟨fun i => isReal_of_test ?_, fun i => isReal_of_test ?_, fun i => isReal_of_test ?_⟩
  · have := congrFun hc.1 i
    rw [← inf_f32]; exact this
  · have := congrFun hc.2.1 i
    rw [← inf_f32]; exact this
  · have := congrFun hc.2.2.1 i
    rw [← inf_f32]; exact this

/-- Under the precondition the launch's tables have no infinity, and are `-inf` outside the column window. -/
theorem tables (m : (ℓ : Loc Cert.LatAttnIdeal.nD Cert.LatAttnIdeal.τ Cert.LatAttnIdeal.sig) → Buf (Elt Ideal) ℓ)
    (h : Cert.Pre_LatAttnIdeal_lat_inputs (hPre_lat_inputs := Cert.Pre_lat_inputs.Gen.facts) m) (c : Dev Cert.LatAttnIdeal.nD)
    (hd : Fin 16) (R : Fin 14) (r : Fin 64) (k : Fin 128) :
    B m c (ix4 hd R r k) ≠ ⊤ ∧ (inWindow r ⟨k.val % 64, Nat.mod_lt _ (by decide)⟩ = false → B m c (ix4 hd R r k) = ⊥) := by
  have ht := congrFun (h c).2.2.2 (ix4 hd R r k)
  have hm := (mask_cat (Cert.LatRefIdeal.Read.val_main_v80 (F := Ideal)) Cert.Pre_lat_inputs.Gen.concatenates_S64x64_S64x64_S64x128_d1 r k).trans (mask_word r ⟨k.val % 64, Nat.mod_lt _ (by decide)⟩)
  refine entry hm ?_
  rw [← inf_f32, ← neg_inf_f32]
  exact (where_at _ _ _ Cert.Pre_lat_inputs.Gen.bcast_S64x128_S16x14x64x128_2_3 hd R r k).symm.trans ht

/-- THE VALUE CLAIM of the latent attention. -/
theorem algebraic : Cert.algebraic_LatAttnIdeal_LatRefIdeal_pre_lat_inputs (hLatAttnIdeal := Cert.LatAttnIdeal.Gen.facts)
    (hLatRefIdeal := Cert.LatRefIdeal.Gen.facts) (hPre_lat_inputs := Cert.Pre_lat_inputs.Gen.facts) := by
  intro m g m' g' hpre hargs
  refine ⟨fun c => lat (Q m c) (K m c) (W m c) (KC m c) (WC m c) (B m c), ?_, ?_⟩
  · refine (θ_run _ _ _).mono (fun r h c => ?_) (Cert.LatAttnIdeal.Value.run_blocks m g)
    obtain ⟨h6, h0, h1, h2, h3, h4, h5⟩ := h c
    exact ⟨h6.trans (final m c), h0, h1, h2, h3, h4, h5⟩
  · refine (θ_run _ _ _).mono (fun r h c => ?_) (Cert.LatRefIdeal.Value.run m' g')
    obtain ⟨h6, h0, h1, h2, h3, h4, h5⟩ := h c
    obtain ⟨e0, e1, e2, e3, e4, e5⟩ := hargs c
    obtain ⟨r0, r1, r3⟩ := reals m hpre c
    have rt := tables m hpre c
    refine ⟨h6.trans ?_, h0, h1, h2, h3, h4, h5⟩
    refine (Cert.LatRefIdeal.Read.val_main_v110_eq (F := Ideal) m' c).trans ?_
    rw [e0, e1, e2, e3, e4, e5]
    exact (ref_lat (Q m c) (K m c) (W m c) (KC m c) (WC m c) (B m c) r0 r1 r3
      (fun i => by rw [eq_ix4 i]; exact (rt _ _ _ _).1) (fun hd R r k hw => (rt hd R r k).2 hw))

end Cert.Lat
end
-- ==== Proof.CtxValue.lean ====
/- What the prompt's attention computes: the reference's array and the kernel's array, index by index. -/
module

public import proofs.«01_k».proof.Proof.Gen.CtxAttnIdeal.Value
public import proofs.«01_k».proof.Proof.Gen.CtxRefIdeal.Read
public import proofs.«01_k».proof.Proof.Soft
public import Idealize.ShloMosaic.Lib.Pipeline.ValueKit

@[expose] public section

set_option maxRecDepth 16384

noncomputable section

namespace Cert.Ctx
open Idealize.ShloMosaic Idealize.ShloMosaic.TcCoe Idealize.SL.Sem
open Idealize.ShloMosaic.Pipeline (Dat)
open Cert.CtxAttnIdeal Cert.CtxAttnIdeal.Gen Cert.Soft

/-! ## One block -/

/-- The score of the block's query row `r` against its key row `k`, for the head that lane `l` belongs to. -/
def blockScore (q : FVec Ideal S1x256x128 .bf16) (k : FVec Ideal S1x256x128 .f32) (r : Fin 256) (l : Fin 128) (j : Fin 256) : EReal :=
  (∑ d : Fin 64, q (ix3 0 r ⟨64 * (l.val / 64) + d.val, by omega⟩) * k (ix3 0 j ⟨64 * (l.val / 64) + d.val, by omega⟩)) * (((1 : ℝ) / 8 : ℝ) : EReal)

/-- WHAT ONE BLOCK STORES: at row `r`, lane `l`, the attention of that row within the head of that lane. -/
theorem stored (v0 : FVec Ideal S1x256x128 .bf16) (v4 v7 : FVec Ideal S1x256x128 .f32) (r : Fin 256) (l : Fin 128) :
    k0_pay1 (F := Ideal) (k0_pay4 v7) k0_pay5 (k0_pay6 v0 v4 v7) (k0_pay7 v0 v4) (ix3 0 r l)
      = wsum (blockScore v0 v4 r l) (fun j => v7 (ix3 0 j l)) := by
  pointwise [k0_pay1, k0_pay2, k0_pay3, k0_pay4, k0_pay5, k0_pay6, k0_pay7]
  simp only [sum_hi, sum_lo, eighth_bf16, dot_scale, neg_inf_f32]
  have h : ∀ x : Fin 128, IntOp.cmpi CmpIPredicate.sge (BitVec.ofNat 32 ↑x) 64#32 = if 64 ≤ x.val then 1#1 else 0#1 := by decide
  rw [h]
  by_cases hl : 64 ≤ l.val
  · have e : 64 * (l.val / 64) = 64 := by omega
    have hs : blockScore v0 v4 r l = fun j => (∑ d : Fin 64, v0 (ix3 0 r ⟨64 + d.val, by omega⟩) * v4 (ix3 0 j ⟨64 + d.val, by omega⟩)) * (((1 : ℝ) / 8 : ℝ) : EReal) := by
      funext j; simp only [blockScore, e]
    rw [hs, if_pos hl]
    rfl
  · have e : 64 * (l.val / 64) = 0 := by omega
    have hs : blockScore v0 v4 r l = fun j => (∑ d : Fin 64, v0 (ix3 0 r ⟨d.val, by omega⟩) * v4 (ix3 0 j ⟨d.val, by omega⟩)) * (((1 : ℝ) / 8 : ℝ) : EReal) := by
      funext j; simp only [blockScore, e, Nat.zero_add]
    rw [hs, if_neg hl]
    rfl

/-! ## The whole array -/

/-- The score of query row `n` of sequence `b` against key row `j`, for the head that column `c` belongs to. -/
def score (q : FVec Ideal S16x256x1024 .bf16) (k : FVec Ideal S16x256x1024 .f32) (b : Fin 16) (n : Fin 256) (c : Fin 1024) (j : Fin 256) : EReal :=
  (∑ d : Fin 64, q (ix3 b n ⟨64 * (c.val / 64) + d.val, by omega⟩) * k (ix3 b j ⟨64 * (c.val / 64) + d.val, by omega⟩)) * (((1 : ℝ) / 8 : ℝ) : EReal)

/-- The attention of every sequence, row and column. -/
def attn (q : FVec Ideal S16x256x1024 .bf16) (k v : FVec Ideal S16x256x1024 .f32) : FVec Ideal S16x256x1024 .bf16 :=
  fun i => wsum (score q k (i 0) (i 1) (i 2)) (fun j => v (ix3 (i 0) j (i 2)))

/-! ## The reference -/

open Cert.CtxRefIdeal.Read in
/-- The reference's score before the scale: a dot product over the head's 64 columns. -/
theorem ref_score (x0 : FVec Ideal S16x256x1024 .bf16) (x1 : FVec Ideal S16x256x1024 .f32) (b h : Fin 16) (n j : Fin 256) :
    val_main_v9 (F := Ideal) x0 x1 (ix4 b h n j)
      = (∑ d : Fin 64, x0 (ix3 b n ⟨64 * h.val + d.val, by omega⟩) * x1 (ix3 b j ⟨64 * h.val + d.val, by omega⟩)) * (((1 : ℝ) / 8 : ℝ) : EReal) := by
  pointwise [val_main_v9, val_main_v8, val_main_cst, val_main_v7, val_main_v4, val_main_v3, val_main_v2, val_main_v1, val_main_v0]
  simp only [eighth_f32, Nat.mul_comm]

section
open Cert.CtxRefIdeal.Read
variable (x0 : FVec Ideal S16x256x1024 .bf16) (x1 x2 : FVec Ideal S16x256x1024 .f32)

/-- The reference's row maximum. -/
theorem ref_max (b h : Fin 16) (n : Fin 256) :
    val_main_v12 (F := Ideal) x0 x1 (ix3 b h n) = Finset.univ.fold max ⊥ (fun j => val_main_v9 (F := Ideal) x0 x1 (ix4 b h n j)) := by
  rw [val_main_v12_apply, val_main_v11_apply, val_main_cst_1_apply]
  unfold val_main_v10
  generalize val_main_v9 (F := Ideal) x0 x1 = s
  rw [hostMax_last4, val_main_cst_0_apply]
  show max (Ideal.ofBits .f32 0xFF800000#32) (Finset.univ.fold max (Ideal.ofBits .f32 0xFF800000#32) _) = _
  rw [neg_inf_f32, max_eq_right bot_le]

/-- The reference's exponential. -/
theorem ref_exp (b h : Fin 16) (n j : Fin 256) :
    val_main_v16 (F := Ideal) x0 x1 (ix4 b h n j)
      = Ideal.exp (val_main_v9 (F := Ideal) x0 x1 (ix4 b h n j) - val_main_v12 (F := Ideal) x0 x1 (ix3 b h n)) := by
  unfold val_main_v16 val_main_v15 val_main_v14 val_main_v13
  pointwise

/-- The reference's softmax weight. -/
theorem ref_weight (b h : Fin 16) (n j : Fin 256) :
    val_main_v20 (F := Ideal) x0 x1 (ix4 b h n j)
      = Ideal.div (val_main_v16 (F := Ideal) x0 x1 (ix4 b h n j)) (∑ k, val_main_v16 (F := Ideal) x0 x1 (ix4 b h n k)) := by
  unfold val_main_v20 val_main_v19 val_main_v18 val_main_v17 val_main_cst_2
  pointwise

/-- The reference's result: the values weighted by the softmax. -/
theorem ref_out (b : Fin 16) (n : Fin 256) (c : Fin 1024) :
    val_main_v24 (F := Ideal) x0 x1 x2 (ix3 b n c)
      = ∑ j : Fin 256, val_main_v20 (F := Ideal) x0 x1 (ix4 b ⟨c.val / 64, by omega⟩ n j) * x2 (ix3 b j c) := by
  unfold val_main_v24 val_main_v23 val_main_v22 val_main_v21 val_main_v6 val_main_v5
  pointwise

/-- THE REFERENCE'S ARRAY is the attention, for real queries and keys. -/
theorem ref_attn (h0 : ∀ i, IsReal (x0 i)) (h1 : ∀ i, IsReal (x1 i)) :
    val_main_v24 (F := Ideal) x0 x1 x2 = attn x0 x1 x2 := by
  funext i
  obtain ⟨b, n, c, rfl⟩ : ∃ b n c, i = ix3 b n c := ⟨i 0, i 1, i 2, eq_ix3 i⟩
  have hreal : ∀ j, IsReal (score x0 x1 b n c j) := fun j =>
    (IsReal.sum _ fun d => (h0 _).mul (h1 _)).mul ⟨_, rfl⟩
  have hs : ∀ j, val_main_v9 (F := Ideal) x0 x1 (ix4 b ⟨c.val / 64, by omega⟩ n j) = score x0 x1 b n c j := fun j =>
    ref_score x0 x1 b ⟨c.val / 64, by omega⟩ n j
  rw [ref_out]
  show _ = wsum (score x0 x1 b n c) (fun j => x2 (ix3 b j c))
  rw [wsum_eq _ _ hreal]
  simp only [ref_weight, ref_exp, ref_max, hs]

end

/-! ## The kernel's array -/

section
variable (m : (ℓ : Loc nD τ sig) → Buf (Elt Ideal) ℓ) (c : Dev nD)

/-- The launch's queries. -/
abbrev Q : FVec Ideal S16x256x1024 .bf16 := m ((c.tc : Thread nD τ).loc main_arg0)
/-- The launch's keys. -/
abbrev K : FVec Ideal S16x256x1024 .f32 := m ((c.tc : Thread nD τ).loc main_arg1)
/-- The launch's values. -/
abbrev W : FVec Ideal S16x256x1024 .f32 := m ((c.tc : Thread nD τ).loc main_arg2)

/-- Grid point `t` is sequence `t / 8`, head pair `t % 8`, in every window. -/
theorem idx : ∀ t : Fin cfg0.N, win0_0.index t = ![t.val / 8, 0, t.val % 8] ∧ win0_1.index t = ![t.val / 8, 0, t.val % 8]
    ∧ win0_2.index t = ![t.val / 8, 0, t.val % 8] ∧ win0_3.index t = ![t.val / 8, 0, t.val % 8] :=
  (by decide +kernel : ∀ t : Fin grid0.N, win0_0.index t = ![t.val / 8, 0, t.val % 8] ∧ win0_1.index t = ![t.val / 8, 0, t.val % 8]
    ∧ win0_2.index t = ![t.val / 8, 0, t.val % 8] ∧ win0_3.index t = ![t.val / 8, 0, t.val % 8])

theorem pt_lt (t : Fin cfg0.N) : t.val < 128 := lt_of_lt_of_eq t.isLt (by decide)

/-- A block of queries at its place in the array. -/
theorem q_block (t : Fin cfg0.N) (r : Fin 256) (l : Fin 128) :
    (iblk m c 0 t : FVec Ideal S1x256x128 .bf16) (ix3 0 r l) = Q m c (ix3 ⟨t.val / 8, by have := pt_lt t; omega⟩ r ⟨128 * (t.val % 8) + l.val, by omega⟩) := by
  blk_point [iblk, V, idx t]

theorem k_block (t : Fin cfg0.N) (r : Fin 256) (l : Fin 128) :
    (iblk m c 1 t : FVec Ideal S1x256x128 .f32) (ix3 0 r l) = K m c (ix3 ⟨t.val / 8, by have := pt_lt t; omega⟩ r ⟨128 * (t.val % 8) + l.val, by omega⟩) := by
  blk_point [iblk, V, idx t]

theorem v_block (t : Fin cfg0.N) (r : Fin 256) (l : Fin 128) :
    (iblk m c 2 t : FVec Ideal S1x256x128 .f32) (ix3 0 r l) = W m c (ix3 ⟨t.val / 8, by have := pt_lt t; omega⟩ r ⟨128 * (t.val % 8) + l.val, by omega⟩) := by
  blk_point [iblk, V, idx t]

/-- What point `t` stores at row `r`, lane `l` is the attention at the lane's place in the array. -/
theorem point (t : Fin cfg0.N) (r : Fin 256) (l : Fin 128) :
    k0_pay1 (F := Ideal) (k0_pay4 (iblk m c 2 t)) k0_pay5 (k0_pay6 (iblk m c 0 t) (iblk m c 1 t) (iblk m c 2 t)) (k0_pay7 (iblk m c 0 t) (iblk m c 1 t)) (ix3 0 r l)
      = attn (Q m c) (K m c) (W m c) (ix3 ⟨t.val / 8, by have := pt_lt t; omega⟩ r ⟨128 * (t.val % 8) + l.val, by omega⟩) := by
  rw [stored]
  have e : 64 * ((128 * (t.val % 8) + l.val) / 64) = 128 * (t.val % 8) + 64 * (l.val / 64) := by omega
  have hs : blockScore (iblk m c 0 t) (iblk m c 1 t) r l
      = score (Q m c) (K m c) ⟨t.val / 8, by have := pt_lt t; omega⟩ r ⟨128 * (t.val % 8) + l.val, by omega⟩ := by
    funext j
    simp only [blockScore, score, q_block, k_block, e, Nat.add_assoc]
  rw [hs]
  simp only [v_block]
  rfl

/-- The same at the block's own index. -/
theorem point_at (t : Fin cfg0.N) (y : S1x256x128.Idx) :
    k0_pay1 (F := Ideal) (k0_pay4 (iblk m c 2 t)) k0_pay5 (k0_pay6 (iblk m c 0 t) (iblk m c 1 t) (iblk m c 2 t)) (k0_pay7 (iblk m c 0 t) (iblk m c 1 t)) y
      = attn (Q m c) (K m c) (W m c) (((View.whole main_v0).slice (win0_3.rect t)).emb y) := by
  obtain ⟨z, r, l, rfl⟩ : ∃ z r l, y = ix3 z r l := ⟨y 0, y 1, y 2, eq_ix3 y⟩
  obtain rfl : z = 0 := Subsingleton.elim _ _
  rw [point m c t r l]
  refine congrArg _ ?_
  blk_ext [idx t]

/-- THE KERNEL'S ARRAY is the attention. -/
theorem final : (dats m 0 c).arrAt 3 cfg0.N = attn (Q m c) (K m c) (W m c) := by
  refine (dats m 0 c).arrAt_eq_of_covers 3 _ (by decide +kernel) fun t _ y => ?_
  blk_simp
  rw [after0_3]
  frame_out
  exact point_at m c t y

end

end Cert.Ctx
end
-- ==== Proof.CtxClaim.lean ====
/- The prompt's attention: kernel and reference end with the same array. -/
module

public import proofs.«01_k».proof.Defs
public import proofs.«01_k».proof.Proof.CtxValue
public import proofs.«01_k».proof.Proof.Gen.CtxRefIdeal.Run
public import proofs.«01_k».proof.Proof.Gen.CtxRefIdeal
public import proofs.«01_k».proof.Proof.Gen.Pre_ctx_finite
public import Idealize.ShloMosaic.Adequacy
public import Idealize.ShloMosaic.Init
public import Idealize.ShloMosaic.Lib.Claim

@[expose] public section

set_option maxRecDepth 16384

noncomputable section

namespace Cert.Ctx
open Idealize.ShloMosaic Idealize.ShloMosaic.TcCoe Idealize.SL.Sem
open Cert.Soft

/-- Under the precondition the launch's queries and keys are real. -/
theorem reals (m : (ℓ : Loc Cert.CtxAttnIdeal.nD Cert.CtxAttnIdeal.τ Cert.CtxAttnIdeal.sig) → Buf (Elt Ideal) ℓ)
    (h : Cert.Pre_CtxAttnIdeal_ctx_finite (hPre_ctx_finite := Cert.Pre_ctx_finite.Gen.facts) m) (c : Dev Cert.CtxAttnIdeal.nD) :
    (∀ i, IsReal (Q m c i)) ∧ ∀ i, IsReal (K m c i) := by
  have hc := h c
  refine ⟨fun i => isReal_of_test ?_, fun i => isReal_of_test ?_⟩
  · have := congrFun hc.1 i
    rw [← inf_f32]; exact this
  · have := congrFun hc.2 i
    rw [← inf_f32]; exact this

/-- THE VALUE CLAIM of the prompt's attention. -/
theorem algebraic : Cert.algebraic_CtxAttnIdeal_CtxRefIdeal_pre_ctx_finite (hCtxAttnIdeal := Cert.CtxAttnIdeal.Gen.facts)
    (hCtxRefIdeal := Cert.CtxRefIdeal.Gen.facts) (hPre_ctx_finite := Cert.Pre_ctx_finite.Gen.facts) := by
  intro m g m' g' hpre hargs
  refine ⟨fun c => attn (Q m c) (K m c) (W m c), ?_, ?_⟩
  · refine (θ_run _ _ _).mono (fun r h c => ?_) (Cert.CtxAttnIdeal.Value.run_blocks m g)
    obtain ⟨h3, h0, h1, h2⟩ := h c
    exact ⟨h3.trans (final m c), h0, h1, h2⟩
  · refine (θ_run _ _ _).mono (fun r h c => ?_) (Cert.CtxRefIdeal.Value.run m' g')
    obtain ⟨h3, h0, h1, h2⟩ := h c
    obtain ⟨e0, e1, e2⟩ := hargs c
    obtain ⟨r0, r1⟩ := reals m hpre c
    refine ⟨h3.trans ?_, h0, h1, h2⟩
    rw [e0, e1, e2]
    exact (Cert.CtxRefIdeal.Read.val_main_v24_eq (F := Ideal) _ _ _).trans (ref_attn (Q m c) (K m c) (W m c) r0 r1)

end Cert.Ctx
end
-- ==== Proof.Rows.lean ====
/- The row functions of a block's second half: layer normalization, modulation, the two feed-forward products. -/
module

public import proofs.«01_k».proof.Proof.Soft
public import Idealize.ShloMosaic.Lib.Pipeline.ValueKit
public import Idealize.ShloMosaic.Lib.Pointwise

@[expose] public section

noncomputable section

namespace Cert.Rows
open Idealize.ShloMosaic

/-- A row of the model's width. -/
local notation "Row" => Fin 1024 → EReal

/-- The gelu function in its tanh form. -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * (u * u))))))

theorem cube (u : EReal) : u * u * u = u * (u * u) := mul_assoc u u u

/-- The mean of a row. -/
def mean (f : Row) : EReal := Ideal.div (∑ j, f j) (Ideal.ofBits .f32 0x44800000#32)

/-- A row with mean zero and variance one (up to the small number under the root). -/
def ln (f : Row) (c : Fin 1024) : EReal :=
  (f c - mean f) * Ideal.rsqrt (mean (fun j => (f j - mean f) * (f j - mean f)) + Ideal.ofBits .f32 0x3727C5AC#32)

/-- Layer normalization with weights. -/
def lnw (f g b : Row) (c : Fin 1024) : EReal := ln f c * g c + b c

/-- Layer normalization modulated by a scale and a shift. -/
def modulated (f scale shift : Row) (c : Fin 1024) : EReal := ln f c * (Ideal.ofBits .f32 0x3F800000#32 + scale c) + shift c

/-- One entry of the hidden layer: the squared positive part. -/
def hid (h : Row) (w : Fin 1024 → EReal) (c : EReal) : EReal :=
  max (∑ d, h d * w d + c) 0 * max (∑ d, h d * w d + c) 0

/-- The residual sum: the row times a constant, and the gated branch. -/
def resid (x gate y : Row) (c : Fin 1024) : EReal := Ideal.ofBits .f32 0x3FB504F3#32 * x c + gate c * y c

/-- The feed-forward branch of a row. -/
def mlp (h : Row) (w1 : Fin 1024 → Fin 4096 → EReal) (c1 : Fin 4096 → EReal) (w2 : Fin 4096 → Fin 1024 → EReal) (c2 : Row) (c : Fin 1024) : EReal :=
  (∑ k : Fin 4096, hid h (fun d => w1 d k) (c1 k) * w2 k c) + c2 c

/-- The second half of a block, for one row `x` with its branch `y`. -/
def secondHalf (x y gate shift scale gate2 g1 b1 : Row) (w1 : Fin 1024 → Fin 4096 → EReal) (c1 : Fin 4096 → EReal)
    (w2 : Fin 4096 → Fin 1024 → EReal) (c2 g2 b2 : Row) : Row :=
  lnw (resid (lnw (resid x gate y) g1 b1) gate2
    (mlp (modulated (lnw (resid x gate y) g1 b1) scale shift) w1 c1 w2 c2)) g2 b2

/-- The hidden layer's sum taken in four chunks of 1024. -/
theorem sum_chunks (f : Fin 4096 → EReal) :
    ∑ k, f k = (((0 + ∑ k : Fin 1024, f ⟨0 + k.val, by omega⟩) + ∑ k : Fin 1024, f ⟨1024 + k.val, by omega⟩)
      + ∑ k : Fin 1024, f ⟨2048 + k.val, by omega⟩) + ∑ k : Fin 1024, f ⟨3072 + k.val, by omega⟩ := by
  rw [Fin.sum_univ_tiles 4 1024 rfl, Fin.sum_univ_four, zero_add]
  rfl

/-- The feed-forward branch with its hidden layer in four chunks. -/
theorem mlp_chunks (h : Row) (w1 : Fin 1024 → Fin 4096 → EReal) (c1 : Fin 4096 → EReal) (w2 : Fin 4096 → Fin 1024 → EReal) (c2 : Row) :
    mlp h w1 c1 w2 c2 = fun c =>
      ((((0 + ∑ k : Fin 1024, hid h (fun d => w1 d ⟨0 + k.val, by omega⟩) (c1 ⟨0 + k.val, by omega⟩) * w2 ⟨0 + k.val, by omega⟩ c)
        + ∑ k : Fin 1024, hid h (fun d => w1 d ⟨1024 + k.val, by omega⟩) (c1 ⟨1024 + k.val, by omega⟩) * w2 ⟨1024 + k.val, by omega⟩ c)
        + ∑ k : Fin 1024, hid h (fun d => w1 d ⟨2048 + k.val, by omega⟩) (c1 ⟨2048 + k.val, by omega⟩) * w2 ⟨2048 + k.val, by omega⟩ c)
        + ∑ k : Fin 1024, hid h (fun d => w1 d ⟨3072 + k.val, by omega⟩) (c1 ⟨3072 + k.val, by omega⟩) * w2 ⟨3072 + k.val, by omega⟩ c) + c2 c := by
  funext c
  rw [mlp, sum_chunks]

end Cert.Rows
end
-- ==== Proof.PostOddBlock.lean ====
/- What one block of the odd layers' second half computes, row by row. -/
module

public import proofs.«01_k».proof.Proof.Gen.PostOddIdeal.Value
public import proofs.«01_k».proof.Proof.Rows

@[expose] public section

set_option maxRecDepth 16384

noncomputable section

namespace Cert.PostOdd
open Idealize.ShloMosaic Idealize.ShloMosaic.TcCoe Idealize.SL.Sem
open Cert.PostOddIdeal Cert.PostOddIdeal.Gen Cert.Rows

/-! ## The steps of the body -/

section
variable (r : Fin 512) (c : Fin 1024)

/-- The first normalization, before its bias. -/
theorem pay2 (v0 : FVec Ideal S512x1024 .bf16) (v2 : FVec Ideal S1024x1024 .bf16) (v5 : FVec Ideal S1x1024 .f32) (v9 : FVec Ideal S512x1024 .f32)
    (v12 : FVec Ideal S1x1x1024 .f32) (v33 : FVec Ideal S1x1024 .f32) :
    k0_pay2 (F := Ideal) v0 v2 v5 v9 v12 v33 (ix2 r c)
      = ln (resid (fun j => v9 (ix2 r j)) (fun j => v12 (ix3 0 0 j)) (fun j => ∑ d : Fin 1024, v0 (ix2 r d) * v2 (ix2 d j) + v5 (ix2 0 j))) c * v33 (ix2 0 c) := by
  pointwise [k0_pay2, ln, mean, resid]

theorem pay3 (v36 : FVec Ideal S512x1024 .f32) (v37 : FVec Ideal S1x1024 .f32) :
    k0_pay3 (F := Ideal) v36 v37 (ix2 r c) = v36 (ix2 r c) + v37 (ix2 0 c) := by
  pointwise [k0_pay3]

/-- The modulated row. -/
theorem pay4 (v36 : FVec Ideal S512x1024 .f32) (v37 : FVec Ideal S1x1024 .f32) (v57 v63 : FVec Ideal S1x1x1024 .f32) :
    k0_pay4 (F := Ideal) v36 v37 v57 v63 (ix2 r c)
      = modulated (fun j => k0_pay3 (F := Ideal) v36 v37 (ix2 r j)) (fun j => v57 (ix3 0 0 j)) (fun j => v63 (ix3 0 0 j)) c := by
  unfold k0_pay4
  generalize k0_pay3 (F := Ideal) v36 v37 = y
  pointwise [modulated, ln, mean]

theorem pay5 : k0_pay5 (F := Ideal) (ix2 r c) = 0 := by
  pointwise [k0_pay5]

/-- The positive part of the first chunk of the hidden layer. -/
theorem pay6 (v36 : FVec Ideal S512x1024 .f32) (v37 : FVec Ideal S1x1024 .f32) (v57 v63 : FVec Ideal S1x1x1024 .f32)
    (v69 : FVec Ideal S1024x1024 .bf16) (v72 : FVec Ideal S1x1024 .f32) :
    k0_pay6 (F := Ideal) v36 v37 v57 v63 v69 v72 (ix2 r c)
      = max (∑ d : Fin 1024, k0_pay4 (F := Ideal) v36 v37 v57 v63 (ix2 r d) * v69 (ix2 d c) + v72 (ix2 0 c)) 0 := by
  unfold k0_pay6
  generalize k0_pay4 (F := Ideal) v36 v37 v57 v63 = y
  pointwise

/-- The sum after three chunks of the hidden layer. -/
theorem pay7 (v67 : FVec Ideal S512x1024 .bf16) (v68 v77 : FVec Ideal S512x1024 .f32) (v80 v84 : FVec Ideal S1024x1024 .bf16) (v87 : FVec Ideal S1x1024 .f32)
    (v95 v99 : FVec Ideal S1024x1024 .bf16) (v102 : FVec Ideal S1x1024 .f32) (v110 : FVec Ideal S1024x1024 .bf16) :
    k0_pay7 (F := Ideal) v67 v68 v77 v80 v84 v87 v95 v99 v102 v110 (ix2 r c)
      = ((v68 (ix2 r c) + ∑ k : Fin 1024, (v77 (ix2 r k) * v77 (ix2 r k)) * v80 (ix2 k c))
          + ∑ k : Fin 1024, hid (fun d => v67 (ix2 r d)) (fun d => v84 (ix2 d k)) (v87 (ix2 0 k)) * v95 (ix2 k c))
          + ∑ k : Fin 1024, hid (fun d => v67 (ix2 r d)) (fun d => v99 (ix2 d k)) (v102 (ix2 0 k)) * v110 (ix2 k c) := by
  pointwise [k0_pay7, hid]

/-- The last chunk, the second residual sum and its normalization without weights. -/
theorem pay8 (v40 : FVec Ideal S512x1024 .f32) (v67 : FVec Ideal S512x1024 .bf16) (v113 : FVec Ideal S512x1024 .f32) (v114 : FVec Ideal S1024x1024 .bf16)
    (v117 : FVec Ideal S1x1024 .f32) (v125 : FVec Ideal S1024x1024 .bf16) (v129 : FVec Ideal S1x1024 .f32) (v135 : FVec Ideal S1x1x1024 .f32) :
    k0_pay8 (F := Ideal) v40 v67 v113 v114 v117 v125 v129 v135 (ix2 r c)
      = ln (resid (fun j => v40 (ix2 r j)) (fun j => v135 (ix3 0 0 j))
          (fun j => (v113 (ix2 r j) + ∑ k : Fin 1024, hid (fun d => v67 (ix2 r d)) (fun d => v114 (ix2 d k)) (v117 (ix2 0 k)) * v125 (ix2 k j)) + v129 (ix2 0 j))) c := by
  pointwise [k0_pay8, ln, mean, resid, hid]

theorem pay1 (v155 : FVec Ideal S512x1024 .f32) (v156 v160 : FVec Ideal S1x1024 .f32) :
    k0_pay1 (F := Ideal) v155 v156 v160 (ix2 r c) = v155 (ix2 r c) * v156 (ix2 0 c) + v160 (ix2 0 c) := by
  pointwise [k0_pay1]

end

/-! ## The partial loads -/

section

theorem ld_3 (x : FVec Ideal S1x6x1024 .f32) : View.ld (Val := Elt Ideal) (e' := EltTy.f32) x r0_3 = (fun i => x (ix3 0 2 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

theorem ld_4 (x : FVec Ideal S1x6x1024 .f32) : View.ld (Val := Elt Ideal) (e' := EltTy.f32) x r0_4 = (fun i => x (ix3 0 4 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

theorem ld_5 (x : FVec Ideal S1x6x1024 .f32) : View.ld (Val := Elt Ideal) (e' := EltTy.f32) x r0_5 = (fun i => x (ix3 0 3 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

theorem ld_18 (x : FVec Ideal S1x6x1024 .f32) : View.ld (Val := Elt Ideal) (e' := EltTy.f32) x r0_18 = (fun i => x (ix3 0 5 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

theorem ld_6 (x : FVec Ideal S1024x4096 .bf16) : View.ld (Val := Elt Ideal) (e' := EltTy.bf16) x r0_6 = (fun i => x (ix2 (i 0) ⟨0 + (i 1).val, (by have : (i 1).val < 1024 := (i 1).isLt; omega)⟩) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_7 (x : FVec Ideal S1x4096 .f32) : View.ld (Val := Elt Ideal) (e' := EltTy.f32) x r0_7 = (fun i => x (ix2 0 ⟨0 + (i 1).val, (by have : (i 1).val < 1024 := (i 1).isLt; omega)⟩) : FVec Ideal S1x1024 .f32) := by
  refine @funext _ _ _ _ fun i : S1x1024.Idx => ?_
  obtain ⟨a, j, rfl⟩ : ∃ a j, i = ix2 a j := ⟨i 0, i 1, eq_ix2 i⟩
  obtain rfl : a = 0 := Subsingleton.elim _ _
  refine congrArg x ?_
  blk_ext []
  all_goals (rw [Rect.idx_unit_val]; first | rfl | exact Nat.zero_add _)

theorem ld_8 (x : FVec Ideal S4096x1024 .bf16) : View.ld (Val := Elt Ideal) (e' := EltTy.bf16) x r0_8 = (fun i => x (ix2 ⟨0 + (i 0).val, (by have : (i 0).val < 1024 := (i 0).isLt; omega)⟩ (i 1)) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_9 (x : FVec Ideal S1024x4096 .bf16) : View.ld (Val := Elt Ideal) (e' := EltTy.bf16) x r0_9 = (fun i => x (ix2 (i 0) ⟨1024 + (i 1).val, (by have : (i 1).val < 1024 := (i 1).isLt; omega)⟩) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_10 (x : FVec Ideal S1x4096 .f32) : View.ld (Val := Elt Ideal) (e' := EltTy.f32) x r0_10 = (fun i => x (ix2 0 ⟨1024 + (i 1).val, (by have : (i 1).val < 1024 := (i 1).isLt; omega)⟩) : FVec Ideal S1x1024 .f32) := by
  refine @funext _ _ _ _ fun i : S1x1024.Idx => ?_
  obtain ⟨a, j, rfl⟩ : ∃ a j, i = ix2 a j := ⟨i 0, i 1, eq_ix2 i⟩
  obtain rfl : a = 0 := Subsingleton.elim _ _
  refine congrArg x ?_
  blk_ext []
  all_goals (rw [Rect.idx_unit_val]; first | rfl | exact Nat.zero_add _)

theorem ld_11 (x : FVec Ideal S4096x1024 .bf16) : View.ld (Val := Elt Ideal) (e' := EltTy.bf16) x r0_11 = (fun i => x (ix2 ⟨1024 + (i 0).val, (by have : (i 0).val < 1024 := (i 0).isLt; omega)⟩ (i 1)) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_12 (x : FVec Ideal S1024x4096 .bf16) : View.ld (Val := Elt Ideal) (e' := EltTy.bf16) x r0_12 = (fun i => x (ix2 (i 0) ⟨2048 + (i 1).val, (by have : (i 1).val < 1024 := (i 1).isLt; omega)⟩) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_13 (x : FVec Ideal S1x4096 .f32) : View.ld (Val := Elt Ideal) (e' := EltTy.f32) x r0_13 = (fun i => x (ix2 0 ⟨2048 + (i 1).val, (by have : (i 1).val < 1024 := (i 1).isLt; omega)⟩) : FVec Ideal S1x1024 .f32) := by
  refine @funext _ _ _ _ fun i : S1x1024.Idx => ?_
  obtain ⟨a, j, rfl⟩ : ∃ a j, i = ix2 a j := ⟨i 0, i 1, eq_ix2 i⟩
  obtain rfl : a = 0 := Subsingleton.elim _ _
  refine congrArg x ?_
  blk_ext []
  all_goals (rw [Rect.idx_unit_val]; first | rfl | exact Nat.zero_add _)

theorem ld_14 (x : FVec Ideal S4096x1024 .bf16) : View.ld (Val := Elt Ideal) (e' := EltTy.bf16) x r0_14 = (fun i => x (ix2 ⟨2048 + (i 0).val, (by have : (i 0).val < 1024 := (i 0).isLt; omega)⟩ (i 1)) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_15 (x : FVec Ideal S1024x4096 .bf16) : View.ld (Val := Elt Ideal) (e' := EltTy.bf16) x r0_15 = (fun i => x (ix2 (i 0) ⟨3072 + (i 1).val, (by have : (i 1).val < 1024 := (i 1).isLt; omega)⟩) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_16 (x : FVec Ideal S1x4096 .f32) : View.ld (Val := Elt Ideal) (e' := EltTy.f32) x r0_16 = (fun i => x (ix2 0 ⟨3072 + (i 1).val, (by have : (i 1).val < 1024 := (i 1).isLt; omega)⟩) : FVec Ideal S1x1024 .f32) := by
  refine @funext _ _ _ _ fun i : S1x1024.Idx => ?_
  obtain ⟨a, j, rfl⟩ : ∃ a j, i = ix2 a j := ⟨i 0, i 1, eq_ix2 i⟩
  obtain rfl : a = 0 := Subsingleton.elim _ _
  refine congrArg x ?_
  blk_ext []
  all_goals (rw [Rect.idx_unit_val]; first | rfl | exact Nat.zero_add _)

theorem ld_17 (x : FVec Ideal S4096x1024 .bf16) : View.ld (Val := Elt Ideal) (e' := EltTy.bf16) x r0_17 = (fun i => x (ix2 ⟨3072 + (i 0).val, (by have : (i 0).val < 1024 := (i 0).isLt; omega)⟩ (i 1)) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

end

/-! ## The block -/

section
variable (x0 : FVec Ideal S512x1024 .f32) (x1 : FVec Ideal S1x6x1024 .f32) (x2 : FVec Ideal S512x1024 .bf16) (x3 : FVec Ideal S1024x1024 .bf16)
  (x4 x5 x6 : FVec Ideal S1x1024 .f32) (x7 : FVec Ideal S1024x4096 .bf16) (x8 : FVec Ideal S1x4096 .f32) (x9 : FVec Ideal S4096x1024 .bf16)
  (x10 x11 x12 : FVec Ideal S1x1024 .f32)

theorem pay9 : k0_pay9 (F := Ideal) x0 x1 x2 x3 x4 x5 x6 x7 x8 x9 x10 x11 x12 = k0_pay2 x2 x3 x4 x0 (View.ld x1 r0_3) x5 := by
  unfold k0_pay9
  simp (disch := decide) only [View.ld_unit_lit']

theorem pay10 : k0_pay10 (F := Ideal) x0 x1 x2 x3 x4 x5 x6 x7 x8 x9 x10 x11 x12
    = k0_pay4 (k0_pay2 x2 x3 x4 x0 (View.ld x1 r0_3) x5) x6 (View.ld x1 r0_4) (View.ld x1 r0_5) := by
  unfold k0_pay10
  rw [pay9]
  simp (disch := decide) only [View.ld_unit_lit']

/-- What the body stores, from its thirteen blocks. -/
abbrev stored : FVec Ideal S512x1024 .f32 :=
  k0_pay1 (F := Ideal) (k0_pay8 (F := Ideal) (k0_pay3 (F := Ideal) (k0_pay9 (F := Ideal) x0 x1 x2 x3 x4 x5 x6 x7 x8 x9 x10 x11 x12) x6) (k0_pay10 (F := Ideal) x0 x1 x2 x3 x4 x5 x6 x7 x8 x9 x10 x11 x12)
    (k0_pay7 (F := Ideal) (k0_pay10 (F := Ideal) x0 x1 x2 x3 x4 x5 x6 x7 x8 x9 x10 x11 x12) (k0_pay5 (F := Ideal))
      (k0_pay6 (F := Ideal) (k0_pay9 (F := Ideal) x0 x1 x2 x3 x4 x5 x6 x7 x8 x9 x10 x11 x12) x6 (View.ld x1 r0_4) (View.ld x1 r0_5) (View.ld x7 r0_6) (View.ld x8 r0_7))
      (View.ld x9 r0_8) (View.ld x7 r0_9) (View.ld x8 r0_10) (View.ld x9 r0_11) (View.ld x7 r0_12) (View.ld x8 r0_13) (View.ld x9 r0_14))
    (View.ld x7 r0_15) (View.ld x8 r0_16) (View.ld x9 r0_17) x10 (View.ld x1 r0_18)) x11 x12

/-- The first normalization of the block's row. -/
theorem first_norm (r : Fin 512) (c : Fin 1024) :
    k0_pay3 (F := Ideal) (k0_pay2 x2 x3 x4 x0 (View.ld x1 r0_3) x5) x6 (ix2 r c)
      = lnw (resid (fun j => x0 (ix2 r j)) (fun j => x1 (ix3 0 2 j)) (fun j => ∑ d : Fin 1024, x2 (ix2 r d) * x3 (ix2 d j) + x4 (ix2 0 j)))
          (fun j => x5 (ix2 0 j)) (fun j => x6 (ix2 0 j)) c := by
  rw [pay3, pay2, ld_3]
  rfl

/-- WHAT ONE BLOCK STORES: the second half of the block, for each of its rows. -/
theorem block (r : Fin 512) (c : Fin 1024) :
    stored x0 x1 x2 x3 x4 x5 x6 x7 x8 x9 x10 x11 x12 (ix2 r c)
      = secondHalf (fun j => x0 (ix2 r j)) (fun j => ∑ d : Fin 1024, x2 (ix2 r d) * x3 (ix2 d j) + x4 (ix2 0 j))
          (fun j => x1 (ix3 0 2 j)) (fun j => x1 (ix3 0 3 j)) (fun j => x1 (ix3 0 4 j)) (fun j => x1 (ix3 0 5 j))
          (fun j => x5 (ix2 0 j)) (fun j => x6 (ix2 0 j)) (fun d k => x7 (ix2 d k)) (fun k => x8 (ix2 0 k)) (fun k j => x9 (ix2 k j))
          (fun j => x10 (ix2 0 j)) (fun j => x11 (ix2 0 j)) (fun j => x12 (ix2 0 j)) c := by
  unfold stored
  rw [pay9, pay10, ld_15 x7, ld_16 x8, ld_17 x9, ld_18 x1, pay1, pay8]
  have hH : ∀ d : Fin 1024, k0_pay4 (F := Ideal) (k0_pay2 x2 x3 x4 x0 (View.ld x1 r0_3) x5) x6 (View.ld x1 r0_4) (View.ld x1 r0_5) (ix2 r d)
      = modulated (lnw (resid (fun j => x0 (ix2 r j)) (fun j => x1 (ix3 0 2 j)) (fun j => ∑ d : Fin 1024, x2 (ix2 r d) * x3 (ix2 d j) + x4 (ix2 0 j)))
          (fun j => x5 (ix2 0 j)) (fun j => x6 (ix2 0 j))) (fun j => x1 (ix3 0 4 j)) (fun j => x1 (ix3 0 3 j)) d := by
    intro d
    rw [pay4, ld_4, ld_5, funext (first_norm x0 x1 x2 x3 x4 x5 x6 r)]
    rfl
  refine congrArg₂ (· + ·) (congrArg₂ (· * ·) (congrFun (congrArg ln ?_) c) rfl) rfl
  refine congr (congr (congrArg resid (funext fun j => ?_)) rfl) (funext fun j => ?_)
  · exact first_norm x0 x1 x2 x3 x4 x5 x6 r j
  · rw [mlp_chunks, pay7, pay5, funext hH, ld_6, ld_7, ld_8, ld_9, ld_10, ld_11, ld_12, ld_13, ld_14]
    simp only [pay6, hH]
    rfl

end

end Cert.PostOdd
end
-- ==== Proof.PostOddRef.lean ====
/- The reference of the odd layers' second half, read row by row. -/
module

public import proofs.«01_k».proof.Proof.Gen.PostOddRefIdeal.Read
public import proofs.«01_k».proof.Proof.Rows

@[expose] public section

set_option maxRecDepth 16384

noncomputable section

namespace Cert.PostOdd
open Idealize.ShloMosaic Idealize.ShloMosaic.TcCoe
open Cert.PostOddRefIdeal Cert.PostOddRefIdeal.Read Cert.Rows

variable (x0 : FVec Ideal S16384x1024 .f32) (x1 : FVec Ideal S4x6x1024 .f32) (x2 : FVec Ideal S4x4096x1024 .bf16)
  (x3 : FVec Ideal S1x1024x1024 .f32) (x4 : FVec Ideal S1x1024 .f32) (x5 x6 : FVec Ideal S2x1024 .f32)
  (x7 : FVec Ideal S2x1024x4096 .f32) (x8 : FVec Ideal S2x4096 .f32) (x9 : FVec Ideal S2x4096x1024 .f32)
  (x10 x11 x12 : FVec Ideal S2x1024 .f32) (b : Fin 4) (n : Fin 4096)

/-- The projection of the attention's row. -/
def projRow (c : Fin 1024) : EReal := ∑ d : Fin 1024, x2 (ix3 b n d) * x3 (ix3 0 d c) + x4 (ix2 0 c)

/-- The reference's first residual sum. -/
theorem ref_residual (c : Fin 1024) :
    val_main_v18 (F := Ideal) x0 x1 x2 x3 x4 (ix3 b n c)
      = resid (fun j => x0 (ix2 ⟨4096 * b.val + n.val, by omega⟩ j)) (fun j => x1 (ix3 b 2 j)) (projRow x2 x3 x4 b n) c := by
  unfold val_main_v18 val_main_v17 val_main_v16 val_main_v15 val_main_v14 val_main_v13 val_main_v12 val_main_v11 val_main_v10 val_main_v9 val_main_v8 val_main_v7 val_main_cst val_main_v3 val_main_v0
  pointwise [resid, projRow]
  simp only [resid, projRow, Nat.mul_comm]

/-- The reference's first normalization. -/
theorem ref_norm (c : Fin 1024) :
    val_main_v46 (F := Ideal) x0 x1 x2 x3 x4 x5 x6 (ix3 b n c)
      = lnw (fun j => val_main_v18 (F := Ideal) x0 x1 x2 x3 x4 (ix3 b n j)) (fun j => x5 (ix2 1 j)) (fun j => x6 (ix2 1 j)) c := by
  unfold val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_cst_0 val_main_cst_1 val_main_cst_2 val_main_cst_3 val_main_cst_4
  generalize val_main_v18 (F := Ideal) x0 x1 x2 x3 x4 = y
  pointwise [lnw, ln, mean]

/-- The reference's modulated row. -/
theorem ref_modulated (c : Fin 1024) :
    val_main_v70 (F := Ideal) x0 x1 x2 x3 x4 x5 x6 (ix3 b n c)
      = modulated (fun j => val_main_v46 (F := Ideal) x0 x1 x2 x3 x4 x5 x6 (ix3 b n j)) (fun j => x1 (ix3 b 4 j)) (fun j => x1 (ix3 b 3 j)) c := by
  unfold val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_cst_5 val_main_cst_6 val_main_cst_7 val_main_cst_8 val_main_cst_9 val_main_cst_10 val_main_v5 val_main_v4
  generalize val_main_v46 (F := Ideal) x0 x1 x2 x3 x4 x5 x6 = y
  pointwise [modulated, ln, mean]

/-- The reference's hidden layer. -/
theorem ref_hidden (k : Fin 4096) :
    val_main_v86 (F := Ideal) x0 x1 x2 x3 x4 x5 x6 x7 x8 (ix3 b n k)
      = hid (fun j => val_main_v70 (F := Ideal) x0 x1 x2 x3 x4 x5 x6 (ix3 b n j)) (fun d => x7 (ix3 1 d k)) (x8 (ix2 1 k)) := by
  unfold val_main_v86 val_main_v85 val_main_v84 val_main_v83 val_main_v82 val_main_v81 val_main_call0_v0 val_main_call0_cst val_main_v76 val_main_v75 val_main_v74 val_main_v73
  generalize val_main_v70 (F := Ideal) x0 x1 x2 x3 x4 x5 x6 = y
  pointwise [hid]

/-- The reference's second residual sum. -/
theorem ref_residual2 (c : Fin 1024) :
    val_main_v93 (F := Ideal) x0 x1 x2 x3 x4 x5 x6 x7 x8 x9 x10 (ix3 b n c)
      = resid (fun j => val_main_v46 (F := Ideal) x0 x1 x2 x3 x4 x5 x6 (ix3 b n j)) (fun j => x1 (ix3 b 5 j))
          (fun j => ∑ k : Fin 4096, val_main_v86 (F := Ideal) x0 x1 x2 x3 x4 x5 x6 x7 x8 (ix3 b n k) * x9 (ix3 1 k j) + x10 (ix2 1 j)) c := by
  unfold val_main_v93 val_main_v92 val_main_v91 val_main_v90 val_main_v89 val_main_v88 val_main_v87 val_main_v80 val_main_v79 val_main_v78 val_main_v77 val_main_v72 val_main_v71 val_main_cst_11 val_main_v6
  generalize val_main_v46 (F := Ideal) x0 x1 x2 x3 x4 x5 x6 = y
  generalize val_main_v86 (F := Ideal) x0 x1 x2 x3 x4 x5 x6 x7 x8 = z
  pointwise [resid]

/-- The reference's second normalization. -/
theorem ref_norm2 (c : Fin 1024) :
    val_main_v121 (F := Ideal) x0 x1 x2 x3 x4 x5 x6 x7 x8 x9 x10 x11 x12 (ix3 b n c)
      = lnw (fun j => val_main_v93 (F := Ideal) x0 x1 x2 x3 x4 x5 x6 x7 x8 x9 x10 (ix3 b n j)) (fun j => x11 (ix2 1 j)) (fun j => x12 (ix2 1 j)) c := by
  unfold val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_cst_12 val_main_cst_13 val_main_cst_14 val_main_cst_15 val_main_cst_16
  generalize val_main_v93 (F := Ideal) x0 x1 x2 x3 x4 x5 x6 x7 x8 x9 x10 = y
  pointwise [lnw, ln, mean]

/-- The whole array: the second half of the block at row `n` of sequence `b`, column `c`. -/
def out : FVec Ideal S16384x1024 .f32 := fun i =>
  secondHalf (fun j => x0 (ix2 (i 0) j)) (projRow x2 x3 x4 ⟨(i 0).val / 4096, by have : (i 0).val < 16384 := (i 0).isLt; omega⟩ ⟨(i 0).val % 4096, by omega⟩)
    (fun j => x1 (ix3 ⟨(i 0).val / 4096, by have : (i 0).val < 16384 := (i 0).isLt; omega⟩ 2 j)) (fun j => x1 (ix3 ⟨(i 0).val / 4096, by have : (i 0).val < 16384 := (i 0).isLt; omega⟩ 3 j))
    (fun j => x1 (ix3 ⟨(i 0).val / 4096, by have : (i 0).val < 16384 := (i 0).isLt; omega⟩ 4 j)) (fun j => x1 (ix3 ⟨(i 0).val / 4096, by have : (i 0).val < 16384 := (i 0).isLt; omega⟩ 5 j))
    (fun j => x5 (ix2 1 j)) (fun j => x6 (ix2 1 j)) (fun d k => x7 (ix3 1 d k)) (fun k => x8 (ix2 1 k)) (fun k j => x9 (ix3 1 k j))
    (fun j => x10 (ix2 1 j)) (fun j => x11 (ix2 1 j)) (fun j => x12 (ix2 1 j)) (i 1)

/-- THE REFERENCE'S ARRAY. -/
theorem ref_out : val_main_v122 (F := Ideal) x0 x1 x2 x3 x4 x5 x6 x7 x8 x9 x10 x11 x12 = out x0 x1 x2 x3 x4 x5 x6 x7 x8 x9 x10 x11 x12 := by
  funext i
  obtain ⟨p, c, rfl⟩ : ∃ p c, i = ix2 p c := ⟨i 0, i 1, eq_ix2 i⟩
  have h : val_main_v122 (F := Ideal) x0 x1 x2 x3 x4 x5 x6 x7 x8 x9 x10 x11 x12 (ix2 p c)
      = val_main_v121 (F := Ideal) x0 x1 x2 x3 x4 x5 x6 x7 x8 x9 x10 x11 x12 (ix3 ⟨p.val / 4096, by omega⟩ ⟨p.val % 4096, by omega⟩ c) := by
    unfold val_main_v122
    generalize val_main_v121 (F := Ideal) x0 x1 x2 x3 x4 x5 x6 x7 x8 x9 x10 x11 x12 = y
    pointwise
  have e : 4096 * (p.val / 4096) + p.val % 4096 = p.val := by omega
  rw [h, ref_norm2]
  simp only [ref_residual2, ref_hidden, ref_modulated, ref_norm, ref_residual, e]
  rfl

end Cert.PostOdd
end
-- ==== Proof.PostOddValue.lean ====
/- The odd layers' second half: the kernel's array. -/
module

public import proofs.«01_k».proof.Proof.PostOddBlock
public import proofs.«01_k».proof.Proof.PostOddRef

@[expose] public section

set_option maxRecDepth 16384

noncomputable section

namespace Cert.PostOdd
open Idealize.ShloMosaic Idealize.ShloMosaic.TcCoe Idealize.SL.Sem
open Idealize.ShloMosaic.Pipeline (Dat)
open Cert.PostOddIdeal Cert.PostOddIdeal.Gen Cert.Rows

variable (m : (ℓ : Loc nD τ sig) → Buf (Elt Ideal) ℓ) (c : Dev nD)

/-- Argument 0 of the launch. -/
abbrev A0 : FVec Ideal S16384x1024 .f32 := m ((c.tc : Thread nD τ).loc main_arg0)
/-- Argument 1 of the launch. -/
abbrev A1 : FVec Ideal S4x6x1024 .f32 := m ((c.tc : Thread nD τ).loc main_arg1)
/-- Argument 2 of the launch. -/
abbrev A2 : FVec Ideal S4x4096x1024 .bf16 := m ((c.tc : Thread nD τ).loc main_arg2)
/-- Argument 3 of the launch. -/
abbrev A3 : FVec Ideal S1x1024x1024 .f32 := m ((c.tc : Thread nD τ).loc main_arg3)
/-- Argument 4 of the launch. -/
abbrev A4 : FVec Ideal S1x1024 .f32 := m ((c.tc : Thread nD τ).loc main_arg4)
/-- Argument 5 of the launch. -/
abbrev A5 : FVec Ideal S2x1024 .f32 := m ((c.tc : Thread nD τ).loc main_arg5)
/-- Argument 6 of the launch. -/
abbrev A6 : FVec Ideal S2x1024 .f32 := m ((c.tc : Thread nD τ).loc main_arg6)
/-- Argument 7 of the launch. -/
abbrev A7 : FVec Ideal S2x1024x4096 .f32 := m ((c.tc : Thread nD τ).loc main_arg7)
/-- Argument 8 of the launch. -/
abbrev A8 : FVec Ideal S2x4096 .f32 := m ((c.tc : Thread nD τ).loc main_arg8)
/-- Argument 9 of the launch. -/
abbrev A9 : FVec Ideal S2x4096x1024 .f32 := m ((c.tc : Thread nD τ).loc main_arg9)
/-- Argument 10 of the launch. -/
abbrev A10 : FVec Ideal S2x1024 .f32 := m ((c.tc : Thread nD τ).loc main_arg10)
/-- Argument 11 of the launch. -/
abbrev A11 : FVec Ideal S2x1024 .f32 := m ((c.tc : Thread nD τ).loc main_arg11)
/-- Argument 12 of the launch. -/
abbrev A12 : FVec Ideal S2x1024 .f32 := m ((c.tc : Thread nD τ).loc main_arg12)

/-- Grid point `t` is token block `t`, of sequence `t / 8`; the weights stay. -/
theorem idx : ∀ t : Fin cfg0.N, win0_0.index t = ![t.val, 0] ∧ win0_1.index t = ![t.val / 8, 0, 0] ∧ win0_2.index t = ![t.val, 0] ∧ win0_13.index t = ![t.val, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, win0_0.index t = ![t.val, 0] ∧ win0_1.index t = ![t.val / 8, 0, 0] ∧ win0_2.index t = ![t.val, 0] ∧ win0_13.index t = ![t.val, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0])

theorem pt_lt (t : Fin cfg0.N) : t.val < 32 := lt_of_lt_of_eq t.isLt (by decide)

section
variable (t : Fin cfg0.N)

theorem blk0 (r : Fin 512) (j : Fin 1024) :
    (iblk m c 0 t : FVec Ideal S512x1024 .f32) (ix2 r j) = A0 m c (ix2 ⟨512 * t.val + r.val, by have := pt_lt t; omega⟩ j) := by
  blk_point [iblk, V, idx t]

theorem blk1 (k : Fin 6) (j : Fin 1024) :
    (iblk m c 1 t : FVec Ideal S1x6x1024 .f32) (ix3 0 k j) = A1 m c (ix3 ⟨t.val / 8, by have := pt_lt t; omega⟩ k j) := by
  blk_point [iblk, V, idx t]

theorem blk2 (r : Fin 512) (j : Fin 1024) :
    (iblk m c 2 t : FVec Ideal S512x1024 .bf16) (ix2 r j)
      = A2 m c (ix3 ⟨t.val / 8, by have := pt_lt t; omega⟩ ⟨(512 * t.val + r.val) % 4096, by omega⟩ j) := by
  have h := pt_lt t
  blk_simp [iblk]
  entry_read
  have e : ∀ p : Fin 16384, shapeCast S16384x1024 (A2 m c) shapeCasts_S4x4096x1024_S16384x1024 (ix2 p j) = A2 m c (ix3 ⟨p.val / 4096, by omega⟩ ⟨p.val % 4096, by omega⟩ j) := by
    intro p
    generalize A2 m c = a
    pointwise
  have g := e ⟨512 * t.val + r.val, by omega⟩
  rw [show (⟨t.val / 8, by omega⟩ : Fin 4) = ⟨(512 * t.val + r.val) / 4096, by omega⟩ from Fin.ext (by show t.val / 8 = (512 * t.val + r.val) / 4096; omega)]
  refine Eq.trans ?_ g
  refine congrArg _ ?_
  blk_ext [idx t]

theorem blk3 (d j : Fin 1024) :
    (iblk m c 3 t : FVec Ideal S1024x1024 .bf16) (ix2 d j) = A3 m c (ix3 0 d j) := by
  blk_point [iblk, V, idx t]

theorem blk4 (j : Fin 1024) :
    (iblk m c 4 t : FVec Ideal S1x1024 .f32) (ix2 0 j) = A4 m c (ix2 0 j) := by
  blk_point [iblk, V, idx t]

theorem blk5 (j : Fin 1024) :
    (iblk m c 5 t : FVec Ideal S1x1024 .f32) (ix2 0 j) = A5 m c (ix2 1 j) := by
  blk_point [iblk, V, idx t]

theorem blk6 (j : Fin 1024) :
    (iblk m c 6 t : FVec Ideal S1x1024 .f32) (ix2 0 j) = A6 m c (ix2 1 j) := by
  blk_point [iblk, V, idx t]

theorem blk10 (j : Fin 1024) :
    (iblk m c 10 t : FVec Ideal S1x1024 .f32) (ix2 0 j) = A10 m c (ix2 1 j) := by
  blk_point [iblk, V, idx t]

theorem blk11 (j : Fin 1024) :
    (iblk m c 11 t : FVec Ideal S1x1024 .f32) (ix2 0 j) = A11 m c (ix2 1 j) := by
  blk_point [iblk, V, idx t]

theorem blk12 (j : Fin 1024) :
    (iblk m c 12 t : FVec Ideal S1x1024 .f32) (ix2 0 j) = A12 m c (ix2 1 j) := by
  blk_point [iblk, V, idx t]

theorem blk7 (d : Fin 1024) (k : Fin 4096) :
    (iblk m c 7 t : FVec Ideal S1024x4096 .bf16) (ix2 d k) = A7 m c (ix3 1 d k) := by
  blk_point [iblk, V, idx t]

theorem blk8 (k : Fin 4096) :
    (iblk m c 8 t : FVec Ideal S1x4096 .f32) (ix2 0 k) = A8 m c (ix2 1 k) := by
  blk_point [iblk, V, idx t]

theorem blk9 (k : Fin 4096) (j : Fin 1024) :
    (iblk m c 9 t : FVec Ideal S4096x1024 .bf16) (ix2 k j) = A9 m c (ix3 1 k j) := by
  blk_point [iblk, V, idx t]

end

/-- What the whole array holds. -/
abbrev result : FVec Ideal S16384x1024 .f32 := out (A0 m c) (A1 m c) (A2 m c) (A3 m c) (A4 m c) (A5 m c) (A6 m c) (A7 m c) (A8 m c) (A9 m c) (A10 m c) (A11 m c) (A12 m c)

/-- What point `t` stores at row `r`, column `j` is the result at the row's place in the array. -/
theorem point (t : Fin cfg0.N) (r : Fin 512) (j : Fin 1024) :
    stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = result m c (ix2 ⟨512 * t.val + r.val, by have := pt_lt t; omega⟩ j) := by
  have h := pt_lt t
  rw [block]
  simp only [blk0, blk1, blk2, blk3, blk4, blk5, blk6, blk7, blk8, blk9, blk10, blk11, blk12]
  have e : (⟨t.val / 8, by omega⟩ : Fin 4) = ⟨(512 * t.val + r.val) / 4096, by omega⟩ := Fin.ext (by show t.val / 8 = (512 * t.val + r.val) / 4096; omega)
  rw [e]
  rfl

/-- The same at the block's own index. -/
theorem point_at (t : Fin cfg0.N) (y : S512x1024.Idx) :
    stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = result m c (((View.whole main_v29).slice (win0_13.rect t)).emb y) := by
  obtain ⟨r, j, rfl⟩ : ∃ r j, y = ix2 r j := ⟨y 0, y 1, eq_ix2 y⟩
  rw [point m c t r j]
  refine congrArg _ ?_
  blk_ext [idx t]

/-- THE KERNEL'S ARRAY. -/
theorem final : (dats m 0 c).arrAt 13 cfg0.N = result m c := by
  refine (dats m 0 c).arrAt_eq_of_covers 13 _ (by decide +kernel) fun t _ y => ?_
  blk_simp
  rw [after0_13]
  frame_out
  exact point_at m c t y

end Cert.PostOdd
end
-- ==== Proof.PostOddClaim.lean ====
/- The odd layers' second half: kernel and reference end with the same array. -/
module

public import proofs.«01_k».proof.Defs
public import proofs.«01_k».proof.Proof.PostOddValue
public import proofs.«01_k».proof.Proof.Gen.PostOddRefIdeal.Run
public import proofs.«01_k».proof.Proof.Gen.PostOddRefIdeal
public import Idealize.ShloMosaic.Adequacy
public import Idealize.ShloMosaic.Init
public import Idealize.ShloMosaic.Lib.Claim

@[expose] public section

set_option maxRecDepth 16384

noncomputable section

namespace Cert.PostOdd
open Idealize.ShloMosaic Idealize.ShloMosaic.TcCoe Idealize.SL.Sem

/-- THE VALUE CLAIM of the odd layers' second half. -/
theorem algebraic : Cert.algebraic_PostOddIdeal_PostOddRefIdeal (hPostOddIdeal := Cert.PostOddIdeal.Gen.facts)
    (hPostOddRefIdeal := Cert.PostOddRefIdeal.Gen.facts) := by
  intro m g m' g' _ hargs
  refine ⟨fun c => result m c, ?_, ?_⟩
  · refine (θ_run _ _ _).mono (fun r h c => ?_) (Cert.PostOddIdeal.Value.run_blocks m g)
    obtain ⟨h, hk⟩ := h c
    exact ⟨h.trans (final m c), hk⟩
  · refine (θ_run _ _ _).mono (fun r h c => ?_) (Cert.PostOddRefIdeal.Value.run m' g')
    obtain ⟨h, hk⟩ := h c
    obtain ⟨e0, e1, e2, e3, e4, e5, e6, e7, e8, e9, e10, e11, e12⟩ := hargs c
    refine ⟨h.trans ?_, hk⟩
    refine (Cert.PostOddRefIdeal.Read.val_main_v122_eq (F := Ideal) _).trans ?_
    refine Eq.trans (ref_out _ _ _ _ _ _ _ _ _ _ _ _ _) ?_
    show out _ _ _ _ _ _ _ _ _ _ _ _ _ = out _ _ _ _ _ _ _ _ _ _ _ _ _
    congr 1

end Cert.PostOdd
end
-- ==== Proof.PostEvenBlock.lean ====
/- What one block of the even layers' second half computes, row by row. -/
module

public import proofs.«01_k».proof.Proof.Gen.PostEvenIdeal.Value
public import proofs.«01_k».proof.Proof.Rows

@[expose] public section

set_option maxRecDepth 16384

noncomputable section

namespace Cert.PostEven
open Idealize.ShloMosaic Idealize.ShloMosaic.TcCoe Idealize.SL.Sem
open Cert.PostEvenIdeal Cert.PostEvenIdeal.Gen Cert.Rows

/-! ## The steps of the body -/

section
variable (r : Fin 512) (c : Fin 1024)

/-- The mixed and projected row. -/
theorem pay2 (v0 v2 v5 : FVec Ideal S512x512 .f32) (v21 : FVec Ideal S512x1024 .bf16) (v24 : FVec Ideal S512x512 .bf16)
    (v26 : FVec Ideal S512x1024 .bf16) (v30 : FVec Ideal S1x1024 .f32) :
    k0_pay2 (F := Ideal) v0 v2 v5 v21 v24 v26 v30 (ix2 r c)
      = (∑ d : Fin 512, ((v0 (ix2 r d) + v2 (ix2 r d)) * gelu (v5 (ix2 r d))) * v21 (ix2 d c) + ∑ d : Fin 512, v24 (ix2 r d) * v26 (ix2 d c)) + v30 (ix2 0 c) := by
  pointwise [k0_pay2, gelu]

/-- The first normalization. -/
theorem pay4 (v33 v34 : FVec Ideal S512x1024 .f32) (v37 : FVec Ideal S1x1x1024 .f32) (v58 v62 : FVec Ideal S1x1024 .f32) :
    k0_pay4 (F := Ideal) v33 v34 (k0_pay3 (F := Ideal)) v37 v58 v62 (ix2 r c)
      = lnw (resid (fun j => v34 (ix2 r j)) (fun j => v37 (ix3 0 0 j)) (fun j => v33 (ix2 r j))) (fun j => v58 (ix2 0 j)) (fun j => v62 (ix2 0 j)) c := by
  pointwise [k0_pay4, k0_pay3, lnw, ln, mean, resid]

/-- The modulated row. -/
theorem pay7 (v33 v34 v35 : FVec Ideal S512x1024 .f32) (v37 : FVec Ideal S1x1x1024 .f32) (v58 v62 : FVec Ideal S1x1024 .f32) (v82 v88 : FVec Ideal S1x1x1024 .f32) :
    k0_pay7 (F := Ideal) (k0_pay5 v33 v34 v35 v37 v58 v62) (k0_pay6 v33 v34 v35 v37 v58 v62) v82 v88 (ix2 r c)
      = modulated (fun j => k0_pay4 (F := Ideal) v33 v34 v35 v37 v58 v62 (ix2 r j)) (fun j => v82 (ix3 0 0 j)) (fun j => v88 (ix3 0 0 j)) c := by
  unfold k0_pay7 k0_pay6 k0_pay5
  generalize k0_pay4 (F := Ideal) v33 v34 v35 v37 v58 v62 = y
  pointwise [modulated, ln, mean]

/-- The first chunk of the hidden layer, through the second product. -/
theorem pay8 (v71 : FVec Ideal S512x1024 .f32) (v78 : FVec Ideal S512x1 .f32) (v82 v88 : FVec Ideal S1x1x1024 .f32)
    (v94 : FVec Ideal S1024x1024 .bf16) (v97 : FVec Ideal S1x1024 .f32) (v105 : FVec Ideal S1024x1024 .bf16) :
    k0_pay8 (F := Ideal) v71 v78 v82 v88 v94 v97 v105 (ix2 r c)
      = 0 + ∑ k : Fin 1024, hid (fun d => k0_pay7 (F := Ideal) v71 v78 v82 v88 (ix2 r d)) (fun d => v94 (ix2 d k)) (v97 (ix2 0 k)) * v105 (ix2 k c) := by
  unfold k0_pay8
  generalize k0_pay7 (F := Ideal) v71 v78 v82 v88 = y
  pointwise [hid]

/-- The second chunk of the hidden layer before its positive part. -/
theorem pay9 (v71 : FVec Ideal S512x1024 .f32) (v78 : FVec Ideal S512x1 .f32) (v82 v88 : FVec Ideal S1x1x1024 .f32)
    (v109 : FVec Ideal S1024x1024 .bf16) (v112 : FVec Ideal S1x1024 .f32) :
    k0_pay9 (F := Ideal) v71 v78 v82 v88 v109 v112 (ix2 r c)
      = ∑ d : Fin 1024, k0_pay7 (F := Ideal) v71 v78 v82 v88 (ix2 r d) * v109 (ix2 d c) + v112 (ix2 0 c) := by
  unfold k0_pay9
  generalize k0_pay7 (F := Ideal) v71 v78 v82 v88 = y
  pointwise

/-- The sum after all four chunks of the hidden layer. -/
theorem pay10 (v92 : FVec Ideal S512x1024 .bf16) (v108 v115 : FVec Ideal S512x1024 .f32) (v120 v124 : FVec Ideal S1024x1024 .bf16) (v127 : FVec Ideal S1x1024 .f32)
    (v135 v139 : FVec Ideal S1024x1024 .bf16) (v142 : FVec Ideal S1x1024 .f32) (v150 : FVec Ideal S1024x1024 .bf16) :
    k0_pay10 (F := Ideal) v92 v108 v115 (Scalar.ofBits .f32 0x00000000#32) v120 v124 v127 v135 v139 v142 v150 (ix2 r c)
      = ((v108 (ix2 r c) + ∑ k : Fin 1024, (max (v115 (ix2 r k)) 0 * max (v115 (ix2 r k)) 0) * v120 (ix2 k c))
          + ∑ k : Fin 1024, hid (fun d => v92 (ix2 r d)) (fun d => v124 (ix2 d k)) (v127 (ix2 0 k)) * v135 (ix2 k c))
          + ∑ k : Fin 1024, hid (fun d => v92 (ix2 r d)) (fun d => v139 (ix2 d k)) (v142 (ix2 0 k)) * v150 (ix2 k c) := by
  pointwise [k0_pay10, hid]

/-- The second residual sum and its normalization. -/
theorem pay1 (v65 v153 : FVec Ideal S512x1024 .f32) (v154 : FVec Ideal S1x1024 .f32) (v160 : FVec Ideal S1x1x1024 .f32) (v181 v185 : FVec Ideal S1x1024 .f32) :
    k0_pay1 (F := Ideal) v65 v153 v154 v160 v181 v185 (ix2 r c)
      = lnw (resid (fun j => v65 (ix2 r j)) (fun j => v160 (ix3 0 0 j)) (fun j => v153 (ix2 r j) + v154 (ix2 0 j))) (fun j => v181 (ix2 0 j)) (fun j => v185 (ix2 0 j)) c := by
  pointwise [k0_pay1, lnw, ln, mean, resid]

end

/-! ## The partial loads -/

section

theorem ld_3 (x : FVec Ideal S1x6x1024 .f32) : View.ld (Val := Elt Ideal) (e' := EltTy.f32) x r0_3 = (fun i => x (ix3 0 2 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

theorem ld_4 (x : FVec Ideal S1x6x1024 .f32) : View.ld (Val := Elt Ideal) (e' := EltTy.f32) x r0_4 = (fun i => x (ix3 0 4 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

theorem ld_5 (x : FVec Ideal S1x6x1024 .f32) : View.ld (Val := Elt Ideal) (e' := EltTy.f32) x r0_5 = (fun i => x (ix3 0 3 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

theorem ld_18 (x : FVec Ideal S1x6x1024 .f32) : View.ld (Val := Elt Ideal) (e' := EltTy.f32) x r0_18 = (fun i => x (ix3 0 5 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

theorem ld_6 (x : FVec Ideal S1024x4096 .bf16) : View.ld (Val := Elt Ideal) (e' := EltTy.bf16) x r0_6 = (fun i => x (ix2 (i 0) ⟨0 + (i 1).val, (by have : (i 1).val < 1024 := (i 1).isLt; omega)⟩) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_7 (x : FVec Ideal S1x4096 .f32) : View.ld (Val := Elt Ideal) (e' := EltTy.f32) x r0_7 = (fun i => x (ix2 0 ⟨0 + (i 1).val, (by have : (i 1).val < 1024 := (i 1).isLt; omega)⟩) : FVec Ideal S1x1024 .f32) := by
  refine @funext _ _ _ _ fun i : S1x1024.Idx => ?_
  obtain ⟨a, j, rfl⟩ : ∃ a j, i = ix2 a j := ⟨i 0, i 1, eq_ix2 i⟩
  obtain rfl : a = 0 := Subsingleton.elim _ _
  refine congrArg x ?_
  blk_ext []
  all_goals (rw [Rect.idx_unit_val]; first | rfl | exact Nat.zero_add _)

theorem ld_8 (x : FVec Ideal S4096x1024 .bf16) : View.ld (Val := Elt Ideal) (e' := EltTy.bf16) x r0_8 = (fun i => x (ix2 ⟨0 + (i 0).val, (by have : (i 0).val < 1024 := (i 0).isLt; omega)⟩ (i 1)) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_9 (x : FVec Ideal S1024x4096 .bf16) : View.ld (Val := Elt Ideal) (e' := EltTy.bf16) x r0_9 = (fun i => x (ix2 (i 0) ⟨1024 + (i 1).val, (by have : (i 1).val < 1024 := (i 1).isLt; omega)⟩) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_10 (x : FVec Ideal S1x4096 .f32) : View.ld (Val := Elt Ideal) (e' := EltTy.f32) x r0_10 = (fun i => x (ix2 0 ⟨1024 + (i 1).val, (by have : (i 1).val < 1024 := (i 1).isLt; omega)⟩) : FVec Ideal S1x1024 .f32) := by
  refine @funext _ _ _ _ fun i : S1x1024.Idx => ?_
  obtain ⟨a, j, rfl⟩ : ∃ a j, i = ix2 a j := ⟨i 0, i 1, eq_ix2 i⟩
  obtain rfl : a = 0 := Subsingleton.elim _ _
  refine congrArg x ?_
  blk_ext []
  all_goals (rw [Rect.idx_unit_val]; first | rfl | exact Nat.zero_add _)

theorem ld_11 (x : FVec Ideal S4096x1024 .bf16) : View.ld (Val := Elt Ideal) (e' := EltTy.bf16) x r0_11 = (fun i => x (ix2 ⟨1024 + (i 0).val, (by have : (i 0).val < 1024 := (i 0).isLt; omega)⟩ (i 1)) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_12 (x : FVec Ideal S1024x4096 .bf16) : View.ld (Val := Elt Ideal) (e' := EltTy.bf16) x r0_12 = (fun i => x (ix2 (i 0) ⟨2048 + (i 1).val, (by have : (i 1).val < 1024 := (i 1).isLt; omega)⟩) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_13 (x : FVec Ideal S1x4096 .f32) : View.ld (Val := Elt Ideal) (e' := EltTy.f32) x r0_13 = (fun i => x (ix2 0 ⟨2048 + (i 1).val, (by have : (i 1).val < 1024 := (i 1).isLt; omega)⟩) : FVec Ideal S1x1024 .f32) := by
  refine @funext _ _ _ _ fun i : S1x1024.Idx => ?_
  obtain ⟨a, j, rfl⟩ : ∃ a j, i = ix2 a j := ⟨i 0, i 1, eq_ix2 i⟩
  obtain rfl : a = 0 := Subsingleton.elim _ _
  refine congrArg x ?_
  blk_ext []
  all_goals (rw [Rect.idx_unit_val]; first | rfl | exact Nat.zero_add _)

theorem ld_14 (x : FVec Ideal S4096x1024 .bf16) : View.ld (Val := Elt Ideal) (e' := EltTy.bf16) x r0_14 = (fun i => x (ix2 ⟨2048 + (i 0).val, (by have : (i 0).val < 1024 := (i 0).isLt; omega)⟩ (i 1)) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_15 (x : FVec Ideal S1024x4096 .bf16) : View.ld (Val := Elt Ideal) (e' := EltTy.bf16) x r0_15 = (fun i => x (ix2 (i 0) ⟨3072 + (i 1).val, (by have : (i 1).val < 1024 := (i 1).isLt; omega)⟩) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

theorem ld_16 (x : FVec Ideal S1x4096 .f32) : View.ld (Val := Elt Ideal) (e' := EltTy.f32) x r0_16 = (fun i => x (ix2 0 ⟨3072 + (i 1).val, (by have : (i 1).val < 1024 := (i 1).isLt; omega)⟩) : FVec Ideal S1x1024 .f32) := by
  refine @funext _ _ _ _ fun i : S1x1024.Idx => ?_
  obtain ⟨a, j, rfl⟩ : ∃ a j, i = ix2 a j := ⟨i 0, i 1, eq_ix2 i⟩
  obtain rfl : a = 0 := Subsingleton.elim _ _
  refine congrArg x ?_
  blk_ext []
  all_goals (rw [Rect.idx_unit_val]; first | rfl | exact Nat.zero_add _)

theorem ld_17 (x : FVec Ideal S4096x1024 .bf16) : View.ld (Val := Elt Ideal) (e' := EltTy.bf16) x r0_17 = (fun i => x (ix2 ⟨3072 + (i 0).val, (by have : (i 0).val < 1024 := (i 0).isLt; omega)⟩ (i 1)) : FVec Ideal S1024x1024 .bf16) := by
  refine @funext _ _ _ _ fun i : S1024x1024.Idx => ?_
  obtain ⟨a, j, rfl⟩ : ∃ a j, i = ix2 a j := ⟨i 0, i 1, eq_ix2 i⟩
  refine congrArg x ?_
  blk_ext []
  all_goals (rw [Rect.idx_unit_val]; first | rfl | exact Nat.zero_add _)

end

/-! ## The block -/

section
variable (x0 : FVec Ideal S512x1024 .f32) (x1 : FVec Ideal S1x6x1024 .f32) (x2 x3 x4 : FVec Ideal S512x512 .f32) (x5 : FVec Ideal S512x512 .bf16)
  (x6 x7 : FVec Ideal S512x1024 .bf16) (x8 x9 x10 : FVec Ideal S1x1024 .f32) (x11 : FVec Ideal S1024x4096 .bf16) (x12 : FVec Ideal S1x4096 .f32)
  (x13 : FVec Ideal S4096x1024 .bf16) (x14 x15 x16 : FVec Ideal S1x1024 .f32)

theorem pay11 : k0_pay11 (F := Ideal) x0 x1 x2 x3 x4 x5 x6 x7 x8 x9 x10 x11 x12 x13 x14 x15 x16 = k0_pay2 (F := Ideal) x2 x3 x4 x6 x5 x7 x8 := by
  unfold k0_pay11
  simp (disch := decide) only [View.ld_unit_lit']

theorem pay12 : k0_pay12 (F := Ideal) x0 x1 x2 x3 x4 x5 x6 x7 x8 x9 x10 x11 x12 x13 x14 x15 x16 = k0_pay3 (F := Ideal) := rfl

theorem pay13 : k0_pay13 (F := Ideal) x0 x1 x2 x3 x4 x5 x6 x7 x8 x9 x10 x11 x12 x13 x14 x15 x16 = k0_pay5 (F := Ideal) (k0_pay2 (F := Ideal) x2 x3 x4 x6 x5 x7 x8) x0 (k0_pay3 (F := Ideal)) (View.ld x1 r0_3) x9 x10 := by
  unfold k0_pay13
  rw [pay11, pay12]
  simp (disch := decide) only [View.ld_unit_lit']

theorem pay14 : k0_pay14 (F := Ideal) x0 x1 x2 x3 x4 x5 x6 x7 x8 x9 x10 x11 x12 x13 x14 x15 x16 = k0_pay6 (F := Ideal) (k0_pay2 (F := Ideal) x2 x3 x4 x6 x5 x7 x8) x0 (k0_pay3 (F := Ideal)) (View.ld x1 r0_3) x9 x10 := by
  unfold k0_pay14
  rw [pay11, pay12]
  simp (disch := decide) only [View.ld_unit_lit']

/-- What the body stores, from its seventeen blocks. -/
abbrev stored : FVec Ideal S512x1024 .f32 :=
  k0_pay1 (F := Ideal) (k0_pay4 (F := Ideal) (k0_pay11 (F := Ideal) x0 x1 x2 x3 x4 x5 x6 x7 x8 x9 x10 x11 x12 x13 x14 x15 x16) x0 (k0_pay12 (F := Ideal) x0 x1 x2 x3 x4 x5 x6 x7 x8 x9 x10 x11 x12 x13 x14 x15 x16) (View.ld x1 r0_3) x9 x10)
    (k0_pay10 (F := Ideal) (k0_pay7 (F := Ideal) (k0_pay13 (F := Ideal) x0 x1 x2 x3 x4 x5 x6 x7 x8 x9 x10 x11 x12 x13 x14 x15 x16) (k0_pay14 (F := Ideal) x0 x1 x2 x3 x4 x5 x6 x7 x8 x9 x10 x11 x12 x13 x14 x15 x16) (View.ld x1 r0_4) (View.ld x1 r0_5))
      (k0_pay8 (F := Ideal) (k0_pay13 (F := Ideal) x0 x1 x2 x3 x4 x5 x6 x7 x8 x9 x10 x11 x12 x13 x14 x15 x16) (k0_pay14 (F := Ideal) x0 x1 x2 x3 x4 x5 x6 x7 x8 x9 x10 x11 x12 x13 x14 x15 x16) (View.ld x1 r0_4) (View.ld x1 r0_5) (View.ld x11 r0_6) (View.ld x12 r0_7) (View.ld x13 r0_8))
      (k0_pay9 (F := Ideal) (k0_pay13 (F := Ideal) x0 x1 x2 x3 x4 x5 x6 x7 x8 x9 x10 x11 x12 x13 x14 x15 x16) (k0_pay14 (F := Ideal) x0 x1 x2 x3 x4 x5 x6 x7 x8 x9 x10 x11 x12 x13 x14 x15 x16) (View.ld x1 r0_4) (View.ld x1 r0_5) (View.ld x11 r0_9) (View.ld x12 r0_10))
      (Scalar.ofBits .f32 0x00000000#32) (View.ld x13 r0_11) (View.ld x11 r0_12) (View.ld x12 r0_13) (View.ld x13 r0_14)
      (View.ld x11 r0_15) (View.ld x12 r0_16) (View.ld x13 r0_17)) x14 (View.ld x1 r0_18) x15 x16

/-- The first normalization of the block's row. -/
theorem first_norm (r : Fin 512) (c : Fin 1024) :
    k0_pay4 (F := Ideal) (k0_pay2 (F := Ideal) x2 x3 x4 x6 x5 x7 x8) x0 (k0_pay3 (F := Ideal)) (View.ld x1 r0_3) x9 x10 (ix2 r c)
      = (lnw (resid (fun j => x0 (ix2 r j)) (fun j => x1 (ix3 0 2 j)) (fun j => (∑ d : Fin 512, ((x2 (ix2 r d) + x3 (ix2 r d)) * gelu (x4 (ix2 r d))) * x6 (ix2 d j) + ∑ d : Fin 512, x5 (ix2 r d) * x7 (ix2 d j)) + x8 (ix2 0 j))) (fun j => x9 (ix2 0 j)) (fun j => x10 (ix2 0 j))) c := by
  rw [pay4, ld_3, funext (fun j => pay2 r j x2 x3 x4 x6 x5 x7 x8)]
  rfl

/-- WHAT ONE BLOCK STORES: the second half of the block, for each of its rows. -/
theorem block (r : Fin 512) (c : Fin 1024) :
    stored x0 x1 x2 x3 x4 x5 x6 x7 x8 x9 x10 x11 x12 x13 x14 x15 x16 (ix2 r c)
      = secondHalf (fun j => x0 (ix2 r j)) (fun j => (∑ d : Fin 512, ((x2 (ix2 r d) + x3 (ix2 r d)) * gelu (x4 (ix2 r d))) * x6 (ix2 d j) + ∑ d : Fin 512, x5 (ix2 r d) * x7 (ix2 d j)) + x8 (ix2 0 j))
          (fun j => x1 (ix3 0 2 j)) (fun j => x1 (ix3 0 3 j)) (fun j => x1 (ix3 0 4 j)) (fun j => x1 (ix3 0 5 j))
          (fun j => x9 (ix2 0 j)) (fun j => x10 (ix2 0 j)) (fun d k => x11 (ix2 d k)) (fun k => x12 (ix2 0 k)) (fun k j => x13 (ix2 k j))
          (fun j => x14 (ix2 0 j)) (fun j => x15 (ix2 0 j)) (fun j => x16 (ix2 0 j)) c := by
  unfold stored
  rw [pay11, pay12, pay13, pay14, ld_18 x1, pay1]
  have hH : ∀ d : Fin 1024, k0_pay7 (F := Ideal) (k0_pay5 (F := Ideal) (k0_pay2 (F := Ideal) x2 x3 x4 x6 x5 x7 x8) x0 (k0_pay3 (F := Ideal)) (View.ld x1 r0_3) x9 x10) (k0_pay6 (F := Ideal) (k0_pay2 (F := Ideal) x2 x3 x4 x6 x5 x7 x8) x0 (k0_pay3 (F := Ideal)) (View.ld x1 r0_3) x9 x10) (View.ld x1 r0_4) (View.ld x1 r0_5) (ix2 r d)
      = modulated (lnw (resid (fun j => x0 (ix2 r j)) (fun j => x1 (ix3 0 2 j)) (fun j => (∑ d : Fin 512, ((x2 (ix2 r d) + x3 (ix2 r d)) * gelu (x4 (ix2 r d))) * x6 (ix2 d j) + ∑ d : Fin 512, x5 (ix2 r d) * x7 (ix2 d j)) + x8 (ix2 0 j))) (fun j => x9 (ix2 0 j)) (fun j => x10 (ix2 0 j))) (fun j => x1 (ix3 0 4 j)) (fun j => x1 (ix3 0 3 j)) d := by
    intro d
    rw [pay7, ld_4, ld_5, funext (first_norm x0 x1 x2 x3 x4 x5 x6 x7 x8 x9 x10 r)]
    rfl
  refine congrFun (congr (congr (congrArg lnw ?_) rfl) rfl) c
  refine congr (congr (congrArg resid (funext fun j => ?_)) rfl) (funext fun j => ?_)
  · exact first_norm x0 x1 x2 x3 x4 x5 x6 x7 x8 x9 x10 r j
  · rw [mlp_chunks, pay10, pay8, funext hH, ld_6, ld_7, ld_8, ld_9, ld_10, ld_11, ld_12, ld_13, ld_14, ld_15, ld_16, ld_17]
    simp only [pay9, hH]
    rfl

end

end Cert.PostEven
end
-- ==== Proof.PostEvenRef.lean ====
/- The reference of the even layers' second half, read row by row. -/
module

public import proofs.«01_k».proof.Proof.Gen.PostEvenRefIdeal.Read
public import proofs.«01_k».proof.Proof.Rows

@[expose] public section

set_option maxRecDepth 16384

noncomputable section

namespace Cert.PostEven
open Idealize.ShloMosaic Idealize.ShloMosaic.TcCoe
open Cert.PostEvenRefIdeal Cert.PostEvenRefIdeal.Read Cert.Rows

variable (x0 : FVec Ideal S16384x1024 .f32) (x1 : FVec Ideal S4x6x1024 .f32) (x2 x3 : FVec Ideal S4x4096x512 .f32) (x4 : FVec Ideal S16384x1024 .f32)
  (x5 : FVec Ideal S4x4096x512 .bf16) (x6 : FVec Ideal S1x1024x1024 .f32) (x7 : FVec Ideal S1x1024 .f32) (x8 x9 : FVec Ideal S2x1024 .f32)
  (x10 : FVec Ideal S2x1024x4096 .f32) (x11 : FVec Ideal S2x4096 .f32) (x12 : FVec Ideal S2x4096x1024 .f32)
  (x13 x14 x15 : FVec Ideal S2x1024 .f32) (b : Fin 4) (n : Fin 4096)

/-- The two mixers' row, projected: the recurrence's half gated by gelu, and the other mixer's half. -/
def mixRow (c : Fin 1024) : EReal :=
  (∑ d : Fin 512, ((x2 (ix3 b n d) + x3 (ix3 b n d)) * gelu (x4 (ix2 ⟨4096 * b.val + n.val, by omega⟩ ⟨512 + d.val, by omega⟩))) * x6 (ix3 0 ⟨d.val, by omega⟩ c)
    + ∑ d : Fin 512, x5 (ix3 b n d) * x6 (ix3 0 ⟨512 + d.val, by omega⟩ c)) + x7 (ix2 0 c)

/-- The recurrence's half, gated. -/
theorem ref_gated (d : Fin 512) :
    val_main_v23 (F := Ideal) x2 x3 x4 (ix3 b n d)
      = (x2 (ix3 b n d) + x3 (ix3 b n d)) * gelu (x4 (ix2 ⟨4096 * b.val + n.val, by omega⟩ ⟨512 + d.val, by omega⟩)) := by
  unfold val_main_v23 val_main_v22 val_main_v21 val_main_v20 val_main_cst_2 val_main_v19 val_main_v18 val_main_cst_1 val_main_v17 val_main_v16 val_main_v15 val_main_cst_0 val_main_v14 val_main_v13 val_main_v12 val_main_cst val_main_v11 val_main_v10 val_main_v9 val_main_v8 val_main_v7
  pointwise [gelu]
  simp only [gelu, cube, Nat.mul_comm]

/-- The reference's mixed and projected row. -/
theorem ref_mix (c : Fin 1024) :
    val_main_v31 (F := Ideal) x2 x3 x4 x5 x6 x7 (ix3 b n c) = mixRow x2 x3 x4 x5 x6 x7 b n c := by
  unfold mixRow
  simp only [← ref_gated]
  unfold val_main_v31 val_main_v30 val_main_v29 val_main_v28 val_main_v27 val_main_v26 val_main_v25 val_main_v24
  generalize val_main_v23 (F := Ideal) x2 x3 x4 = y
  pointwise

/-- The reference's first residual sum. -/
theorem ref_residual (c : Fin 1024) :
    val_main_v36 (F := Ideal) x0 x1 x2 x3 x4 x5 x6 x7 (ix3 b n c)
      = resid (fun j => x0 (ix2 ⟨4096 * b.val + n.val, by omega⟩ j)) (fun j => x1 (ix3 b 2 j)) (mixRow x2 x3 x4 x5 x6 x7 b n) c := by
  unfold resid
  rw [← ref_mix]
  unfold val_main_v36 val_main_v35 val_main_v34 val_main_v33 val_main_v32 val_main_cst_3 val_main_v3 val_main_v0
  generalize val_main_v31 (F := Ideal) x2 x3 x4 x5 x6 x7 = y
  pointwise
  simp only [Nat.mul_comm]

/-- The reference's first normalization. -/
theorem ref_norm (c : Fin 1024) :
    val_main_v64 (F := Ideal) x0 x1 x2 x3 x4 x5 x6 x7 x8 x9 (ix3 b n c)
      = lnw (fun j => val_main_v36 (F := Ideal) x0 x1 x2 x3 x4 x5 x6 x7 (ix3 b n j)) (fun j => x8 (ix2 0 j)) (fun j => x9 (ix2 0 j)) c := by
  unfold val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_cst_4 val_main_cst_5 val_main_cst_6 val_main_cst_7 val_main_cst_8
  generalize val_main_v36 (F := Ideal) x0 x1 x2 x3 x4 x5 x6 x7 = y
  pointwise [lnw, ln, mean]

/-- The reference's modulated row. -/
theorem ref_modulated (c : Fin 1024) :
    val_main_v88 (F := Ideal) x0 x1 x2 x3 x4 x5 x6 x7 x8 x9 (ix3 b n c)
      = modulated (fun j => val_main_v64 (F := Ideal) x0 x1 x2 x3 x4 x5 x6 x7 x8 x9 (ix3 b n j)) (fun j => x1 (ix3 b 4 j)) (fun j => x1 (ix3 b 3 j)) c := by
  unfold val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_cst_9 val_main_cst_10 val_main_cst_11 val_main_cst_12 val_main_cst_13 val_main_cst_14 val_main_v5 val_main_v4
  generalize val_main_v64 (F := Ideal) x0 x1 x2 x3 x4 x5 x6 x7 x8 x9 = y
  pointwise [modulated, ln, mean]

/-- The reference's hidden layer. -/
theorem ref_hidden (k : Fin 4096) :
    val_main_v104 (F := Ideal) x0 x1 x2 x3 x4 x5 x6 x7 x8 x9 x10 x11 (ix3 b n k)
      = hid (fun j => val_main_v88 (F := Ideal) x0 x1 x2 x3 x4 x5 x6 x7 x8 x9 (ix3 b n j)) (fun d => x10 (ix3 0 d k)) (x11 (ix2 0 k)) := by
  unfold val_main_v104 val_main_v103 val_main_v102 val_main_v101 val_main_v100 val_main_v99 val_main_call0_v0 val_main_call0_cst val_main_v94 val_main_v93 val_main_v92 val_main_v91
  generalize val_main_v88 (F := Ideal) x0 x1 x2 x3 x4 x5 x6 x7 x8 x9 = y
  pointwise [hid]

/-- The reference's second residual sum. -/
theorem ref_residual2 (c : Fin 1024) :
    val_main_v111 (F := Ideal) x0 x1 x2 x3 x4 x5 x6 x7 x8 x9 x10 x11 x12 x13 (ix3 b n c)
      = resid (fun j => val_main_v64 (F := Ideal) x0 x1 x2 x3 x4 x5 x6 x7 x8 x9 (ix3 b n j)) (fun j => x1 (ix3 b 5 j))
          (fun j => ∑ k : Fin 4096, val_main_v104 (F := Ideal) x0 x1 x2 x3 x4 x5 x6 x7 x8 x9 x10 x11 (ix3 b n k) * x12 (ix3 0 k j) + x13 (ix2 0 j)) c := by
  unfold val_main_v111 val_main_v110 val_main_v109 val_main_v108 val_main_v107 val_main_v106 val_main_v105 val_main_v98 val_main_v97 val_main_v96 val_main_v95 val_main_v90 val_main_v89 val_main_cst_15 val_main_v6
  generalize val_main_v64 (F := Ideal) x0 x1 x2 x3 x4 x5 x6 x7 x8 x9 = y
  generalize val_main_v104 (F := Ideal) x0 x1 x2 x3 x4 x5 x6 x7 x8 x9 x10 x11 = z
  pointwise [resid]

/-- The reference's second normalization. -/
theorem ref_norm2 (c : Fin 1024) :
    val_main_v139 (F := Ideal) x0 x1 x2 x3 x4 x5 x6 x7 x8 x9 x10 x11 x12 x13 x14 x15 (ix3 b n c)
      = lnw (fun j => val_main_v111 (F := Ideal) x0 x1 x2 x3 x4 x5 x6 x7 x8 x9 x10 x11 x12 x13 (ix3 b n j)) (fun j => x14 (ix2 0 j)) (fun j => x15 (ix2 0 j)) c := by
  unfold val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_cst_16 val_main_cst_17 val_main_cst_18 val_main_cst_19 val_main_cst_20
  generalize val_main_v111 (F := Ideal) x0 x1 x2 x3 x4 x5 x6 x7 x8 x9 x10 x11 x12 x13 = y
  pointwise [lnw, ln, mean]

/-- The whole array: the second half of the block at row `n` of sequence `b`, column `c`. -/
def out : FVec Ideal S16384x1024 .f32 := fun i =>
  secondHalf (fun j => x0 (ix2 (i 0) j)) (mixRow x2 x3 x4 x5 x6 x7 ⟨(i 0).val / 4096, by have : (i 0).val < 16384 := (i 0).isLt; omega⟩ ⟨(i 0).val % 4096, by omega⟩)
    (fun j => x1 (ix3 ⟨(i 0).val / 4096, by have : (i 0).val < 16384 := (i 0).isLt; omega⟩ 2 j)) (fun j => x1 (ix3 ⟨(i 0).val / 4096, by have : (i 0).val < 16384 := (i 0).isLt; omega⟩ 3 j))
    (fun j => x1 (ix3 ⟨(i 0).val / 4096, by have : (i 0).val < 16384 := (i 0).isLt; omega⟩ 4 j)) (fun j => x1 (ix3 ⟨(i 0).val / 4096, by have : (i 0).val < 16384 := (i 0).isLt; omega⟩ 5 j))
    (fun j => x8 (ix2 0 j)) (fun j => x9 (ix2 0 j)) (fun d k => x10 (ix3 0 d k)) (fun k => x11 (ix2 0 k)) (fun k j => x12 (ix3 0 k j))
    (fun j => x13 (ix2 0 j)) (fun j => x14 (ix2 0 j)) (fun j => x15 (ix2 0 j)) (i 1)

/-- THE REFERENCE'S ARRAY. -/
theorem ref_out : val_main_v140 (F := Ideal) x0 x1 x2 x3 x4 x5 x6 x7 x8 x9 x10 x11 x12 x13 x14 x15 = out x0 x1 x2 x3 x4 x5 x6 x7 x8 x9 x10 x11 x12 x13 x14 x15 := by
  funext i
  obtain ⟨p, c, rfl⟩ : ∃ p c, i = ix2 p c := ⟨i 0, i 1, eq_ix2 i⟩
  have h : val_main_v140 (F := Ideal) x0 x1 x2 x3 x4 x5 x6 x7 x8 x9 x10 x11 x12 x13 x14 x15 (ix2 p c)
      = val_main_v139 (F := Ideal) x0 x1 x2 x3 x4 x5 x6 x7 x8 x9 x10 x11 x12 x13 x14 x15 (ix3 ⟨p.val / 4096, by omega⟩ ⟨p.val % 4096, by omega⟩ c) := by
    unfold val_main_v140
    generalize val_main_v139 (F := Ideal) x0 x1 x2 x3 x4 x5 x6 x7 x8 x9 x10 x11 x12 x13 x14 x15 = y
    pointwise
  have e : 4096 * (p.val / 4096) + p.val % 4096 = p.val := by omega
  rw [h, ref_norm2]
  simp only [ref_residual2, ref_hidden, ref_modulated, ref_norm, ref_residual, e]
  rfl

end Cert.PostEven
end
-- ==== Proof.PostEvenValue.lean ====
/- The even layers' second half: the kernel's array. -/
module

public import proofs.«01_k».proof.Proof.PostEvenBlock
public import proofs.«01_k».proof.Proof.PostEvenRef

@[expose] public section

set_option maxRecDepth 16384

noncomputable section

namespace Cert.PostEven
open Idealize.ShloMosaic Idealize.ShloMosaic.TcCoe Idealize.SL.Sem
open Idealize.ShloMosaic.Pipeline (Dat)
open Cert.PostEvenIdeal Cert.PostEvenIdeal.Gen Cert.Rows

variable (m : (ℓ : Loc nD τ sig) → Buf (Elt Ideal) ℓ) (c : Dev nD)

/-- Argument 0 of the launch. -/
abbrev A0 : FVec Ideal S16384x1024 .f32 := m ((c.tc : Thread nD τ).loc main_arg0)
/-- Argument 1 of the launch. -/
abbrev A1 : FVec Ideal S4x6x1024 .f32 := m ((c.tc : Thread nD τ).loc main_arg1)
/-- Argument 2 of the launch. -/
abbrev A2 : FVec Ideal S4x4096x512 .f32 := m ((c.tc : Thread nD τ).loc main_arg2)
/-- Argument 3 of the launch. -/
abbrev A3 : FVec Ideal S4x4096x512 .f32 := m ((c.tc : Thread nD τ).loc main_arg3)
/-- Argument 4 of the launch. -/
abbrev A4 : FVec Ideal S16384x1024 .f32 := m ((c.tc : Thread nD τ).loc main_arg4)
/-- Argument 5 of the launch. -/
abbrev A5 : FVec Ideal S4x4096x512 .bf16 := m ((c.tc : Thread nD τ).loc main_arg5)
/-- Argument 6 of the launch. -/
abbrev A6 : FVec Ideal S1x1024x1024 .f32 := m ((c.tc : Thread nD τ).loc main_arg6)
/-- Argument 7 of the launch. -/
abbrev A7 : FVec Ideal S1x1024 .f32 := m ((c.tc : Thread nD τ).loc main_arg7)
/-- Argument 8 of the launch. -/
abbrev A8 : FVec Ideal S2x1024 .f32 := m ((c.tc : Thread nD τ).loc main_arg8)
/-- Argument 9 of the launch. -/
abbrev A9 : FVec Ideal S2x1024 .f32 := m ((c.tc : Thread nD τ).loc main_arg9)
/-- Argument 10 of the launch. -/
abbrev A10 : FVec Ideal S2x1024x4096 .f32 := m ((c.tc : Thread nD τ).loc main_arg10)
/-- Argument 11 of the launch. -/
abbrev A11 : FVec Ideal S2x4096 .f32 := m ((c.tc : Thread nD τ).loc main_arg11)
/-- Argument 12 of the launch. -/
abbrev A12 : FVec Ideal S2x4096x1024 .f32 := m ((c.tc : Thread nD τ).loc main_arg12)
/-- Argument 13 of the launch. -/
abbrev A13 : FVec Ideal S2x1024 .f32 := m ((c.tc : Thread nD τ).loc main_arg13)
/-- Argument 14 of the launch. -/
abbrev A14 : FVec Ideal S2x1024 .f32 := m ((c.tc : Thread nD τ).loc main_arg14)
/-- Argument 15 of the launch. -/
abbrev A15 : FVec Ideal S2x1024 .f32 := m ((c.tc : Thread nD τ).loc main_arg15)

/-- Grid point `t` is token block `t`, of sequence `t / 8`; the weights stay. -/
theorem idx : ∀ t : Fin cfg0.N, win0_0.index t = ![t.val, 0] ∧ win0_1.index t = ![t.val / 8, 0, 0] ∧ win0_2.index t = ![t.val, 0] ∧ win0_3.index t = ![t.val, 0] ∧ win0_4.index t = ![t.val, 1] ∧ win0_5.index t = ![t.val, 0] ∧ win0_17.index t = ![t.val, 0]
    ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] :=
  (by decide +kernel : ∀ t : Fin grid0.N, win0_0.index t = ![t.val, 0] ∧ win0_1.index t = ![t.val / 8, 0, 0] ∧ win0_2.index t = ![t.val, 0] ∧ win0_3.index t = ![t.val, 0] ∧ win0_4.index t = ![t.val, 1] ∧ win0_5.index t = ![t.val, 0] ∧ win0_17.index t = ![t.val, 0]
    ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0])

theorem pt_lt (t : Fin cfg0.N) : t.val < 32 := lt_of_lt_of_eq t.isLt (by decide)

section
variable (t : Fin cfg0.N)

theorem blk0 (r : Fin 512) (j : Fin 1024) :
    (iblk m c 0 t : FVec Ideal S512x1024 .f32) (ix2 r j) = A0 m c (ix2 ⟨512 * t.val + r.val, by have := pt_lt t; omega⟩ j) := by
  blk_point [iblk, V, idx t]

theorem blk1 (k : Fin 6) (j : Fin 1024) :
    (iblk m c 1 t : FVec Ideal S1x6x1024 .f32) (ix3 0 k j) = A1 m c (ix3 ⟨t.val / 8, by have := pt_lt t; omega⟩ k j) := by
  blk_point [iblk, V, idx t]

/-- A flat f32 array of the tokens of all sequences, at one token. -/
theorem flat_f32 (a : FVec Ideal S4x4096x512 .f32) (p : Fin 16384) (j : Fin 512) :
    shapeCast S16384x512 a shapeCasts_S4x4096x512_S16384x512 (ix2 p j) = a (ix3 ⟨p.val / 4096, by omega⟩ ⟨p.val % 4096, by omega⟩ j) := by
  pointwise

/-- A flat bf16 array of the tokens of all sequences, at one token. -/
theorem flat_bf16 (a : FVec Ideal S4x4096x512 .bf16) (p : Fin 16384) (j : Fin 512) :
    shapeCast S16384x512 a shapeCasts_S4x4096x512_S16384x512 (ix2 p j) = a (ix3 ⟨p.val / 4096, by omega⟩ ⟨p.val % 4096, by omega⟩ j) := by
  pointwise

theorem blk2 (r : Fin 512) (j : Fin 512) :
    (iblk m c 2 t : FVec Ideal S512x512 .f32) (ix2 r j)
      = A2 m c (ix3 ⟨t.val / 8, by have := pt_lt t; omega⟩ ⟨(512 * t.val + r.val) % 4096, by omega⟩ j) := by
  have h := pt_lt t
  blk_simp [iblk]
  entry_read
  have g := flat_f32 (A2 m c) ⟨512 * t.val + r.val, by omega⟩ j
  rw [show (⟨t.val / 8, by omega⟩ : Fin 4) = ⟨(512 * t.val + r.val) / 4096, by omega⟩ from Fin.ext (by show t.val / 8 = (512 * t.val + r.val) / 4096; omega)]
  refine Eq.trans ?_ g
  refine congrArg _ ?_
  blk_ext [idx t]

theorem blk3 (r : Fin 512) (j : Fin 512) :
    (iblk m c 3 t : FVec Ideal S512x512 .f32) (ix2 r j)
      = A3 m c (ix3 ⟨t.val / 8, by have := pt_lt t; omega⟩ ⟨(512 * t.val + r.val) % 4096, by omega⟩ j) := by
  have h := pt_lt t
  blk_simp [iblk]
  entry_read
  have g := flat_f32 (A3 m c) ⟨512 * t.val + r.val, by omega⟩ j
  rw [show (⟨t.val / 8, by omega⟩ : Fin 4) = ⟨(512 * t.val + r.val) / 4096, by omega⟩ from Fin.ext (by show t.val / 8 = (512 * t.val + r.val) / 4096; omega)]
  refine Eq.trans ?_ g
  refine congrArg _ ?_
  blk_ext [idx t]

theorem blk5 (r : Fin 512) (j : Fin 512) :
    (iblk m c 5 t : FVec Ideal S512x512 .bf16) (ix2 r j)
      = A5 m c (ix3 ⟨t.val / 8, by have := pt_lt t; omega⟩ ⟨(512 * t.val + r.val) % 4096, by omega⟩ j) := by
  have h := pt_lt t
  blk_simp [iblk]
  entry_read
  have g := flat_bf16 (A5 m c) ⟨512 * t.val + r.val, by omega⟩ j
  rw [show (⟨t.val / 8, by omega⟩ : Fin 4) = ⟨(512 * t.val + r.val) / 4096, by omega⟩ from Fin.ext (by show t.val / 8 = (512 * t.val + r.val) / 4096; omega)]
  refine Eq.trans ?_ g
  refine congrArg _ ?_
  blk_ext [idx t]

theorem blk4 (r : Fin 512) (j : Fin 512) :
    (iblk m c 4 t : FVec Ideal S512x512 .f32) (ix2 r j) = A4 m c (ix2 ⟨512 * t.val + r.val, by have := pt_lt t; omega⟩ ⟨512 + j.val, by omega⟩) := by
  blk_point [iblk, V, idx t]

/-- The same with the row spelt by sequence and token. -/
theorem blk4' (r : Fin 512) (j : Fin 512) :
    (iblk m c 4 t : FVec Ideal S512x512 .f32) (ix2 r j)
      = A4 m c (ix2 ⟨4096 * ((512 * t.val + r.val) / 4096) + (512 * t.val + r.val) % 4096, by have := pt_lt t; omega⟩ ⟨512 + j.val, by omega⟩) := by
  rw [blk4]
  refine congrArg _ (congrArg (fun p => ix2 p _) (Fin.ext ?_))
  show 512 * t.val + r.val = 4096 * ((512 * t.val + r.val) / 4096) + (512 * t.val + r.val) % 4096
  omega

theorem blk6 (d : Fin 512) (j : Fin 1024) :
    (iblk m c 6 t : FVec Ideal S512x1024 .bf16) (ix2 d j) = A6 m c (ix3 0 ⟨d.val, by omega⟩ j) := by
  blk_point [iblk, V, idx t]

theorem blk7 (d : Fin 512) (j : Fin 1024) :
    (iblk m c 7 t : FVec Ideal S512x1024 .bf16) (ix2 d j) = A6 m c (ix3 0 ⟨512 + d.val, by omega⟩ j) := by
  blk_point [iblk, V, idx t]

theorem blk8 (j : Fin 1024) :
    (iblk m c 8 t : FVec Ideal S1x1024 .f32) (ix2 0 j) = A7 m c (ix2 0 j) := by
  blk_point [iblk, V, idx t]

theorem blk9 (j : Fin 1024) :
    (iblk m c 9 t : FVec Ideal S1x1024 .f32) (ix2 0 j) = A8 m c (ix2 0 j) := by
  blk_point [iblk, V, idx t]

theorem blk10 (j : Fin 1024) :
    (iblk m c 10 t : FVec Ideal S1x1024 .f32) (ix2 0 j) = A9 m c (ix2 0 j) := by
  blk_point [iblk, V, idx t]

theorem blk14 (j : Fin 1024) :
    (iblk m c 14 t : FVec Ideal S1x1024 .f32) (ix2 0 j) = A13 m c (ix2 0 j) := by
  blk_point [iblk, V, idx t]

theorem blk15 (j : Fin 1024) :
    (iblk m c 15 t : FVec Ideal S1x1024 .f32) (ix2 0 j) = A14 m c (ix2 0 j) := by
  blk_point [iblk, V, idx t]

theorem blk16 (j : Fin 1024) :
    (iblk m c 16 t : FVec Ideal S1x1024 .f32) (ix2 0 j) = A15 m c (ix2 0 j) := by
  blk_point [iblk, V, idx t]

theorem blk11 (d : Fin 1024) (k : Fin 4096) :
    (iblk m c 11 t : FVec Ideal S1024x4096 .bf16) (ix2 d k) = A10 m c (ix3 0 d k) := by
  blk_point [iblk, V, idx t]

theorem blk12 (k : Fin 4096) :
    (iblk m c 12 t : FVec Ideal S1x4096 .f32) (ix2 0 k) = A11 m c (ix2 0 k) := by
  blk_point [iblk, V, idx t]

theorem blk13 (k : Fin 4096) (j : Fin 1024) :
    (iblk m c 13 t : FVec Ideal S4096x1024 .bf16) (ix2 k j) = A12 m c (ix3 0 k j) := by
  blk_point [iblk, V, idx t]

end

/-- What the whole array holds. -/
abbrev result : FVec Ideal S16384x1024 .f32 := out (A0 m c) (A1 m c) (A2 m c) (A3 m c) (A4 m c) (A5 m c) (A6 m c) (A7 m c) (A8 m c) (A9 m c) (A10 m c) (A11 m c) (A12 m c) (A13 m c) (A14 m c) (A15 m c)

/-- What point `t` stores at row `r`, column `j` is the result at the row's place in the array. -/
theorem point (t : Fin cfg0.N) (r : Fin 512) (j : Fin 1024) :
    stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j)
      = result m c (ix2 ⟨512 * t.val + r.val, by have := pt_lt t; omega⟩ j) := by
  have h := pt_lt t
  rw [block]
  simp only [blk0, blk1, blk2, blk3, blk4', blk5, blk6, blk7, blk8, blk9, blk10, blk11, blk12, blk13, blk14, blk15, blk16]
  have e : (⟨t.val / 8, by omega⟩ : Fin 4) = ⟨(512 * t.val + r.val) / 4096, by omega⟩ := Fin.ext (by show t.val / 8 = (512 * t.val + r.val) / 4096; omega)
  rw [e]
  rfl

/-- The same at the block's own index. -/
theorem point_at (t : Fin cfg0.N) (y : S512x1024.Idx) :
    stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y = result m c (((View.whole main_v33).slice (win0_17.rect t)).emb y) := by
  obtain ⟨r, j, rfl⟩ : ∃ r j, y = ix2 r j := ⟨y 0, y 1, eq_ix2 y⟩
  rw [point m c t r j]
  refine congrArg _ ?_
  blk_ext [idx t]

/-- THE KERNEL'S ARRAY. -/
theorem final : (dats m 0 c).arrAt 17 cfg0.N = result m c := by
  refine (dats m 0 c).arrAt_eq_of_covers 17 _ (by decide +kernel) fun t _ y => ?_
  blk_simp
  rw [after0_17]
  frame_out
  exact point_at m c t y

end Cert.PostEven
end
-- ==== Proof.PostEvenClaim.lean ====
/- The even layers' second half: kernel and reference end with the same array. -/
module

public import proofs.«01_k».proof.Defs
public import proofs.«01_k».proof.Proof.PostEvenValue
public import proofs.«01_k».proof.Proof.Gen.PostEvenRefIdeal.Run
public import proofs.«01_k».proof.Proof.Gen.PostEvenRefIdeal
public import Idealize.ShloMosaic.Adequacy
public import Idealize.ShloMosaic.Init
public import Idealize.ShloMosaic.Lib.Claim

@[expose] public section

set_option maxRecDepth 16384

noncomputable section

namespace Cert.PostEven
open Idealize.ShloMosaic Idealize.ShloMosaic.TcCoe Idealize.SL.Sem

/-- THE VALUE CLAIM of the even layers' second half. -/
theorem algebraic : Cert.algebraic_PostEvenIdeal_PostEvenRefIdeal (hPostEvenIdeal := Cert.PostEvenIdeal.Gen.facts)
    (hPostEvenRefIdeal := Cert.PostEvenRefIdeal.Gen.facts) := by
  intro m g m' g' _ hargs
  refine ⟨fun c => result m c, ?_, ?_⟩
  · refine (θ_run _ _ _).mono (fun r h c => ?_) (Cert.PostEvenIdeal.Value.run_blocks m g)
    obtain ⟨h, hk⟩ := h c
    exact ⟨h.trans (final m c), hk⟩
  · refine (θ_run _ _ _).mono (fun r h c => ?_) (Cert.PostEvenRefIdeal.Value.run m' g')
    obtain ⟨h, hk⟩ := h c
    obtain ⟨e0, e1, e2, e3, e4, e5, e6, e7, e8, e9, e10, e11, e12, e13, e14, e15⟩ := hargs c
    refine ⟨h.trans ?_, hk⟩
    refine (Cert.PostEvenRefIdeal.Read.val_main_v140_eq (F := Ideal) _).trans ?_
    refine Eq.trans (ref_out _ _ _ _ _ _ _ _ _ _ _ _ _ _ _ _) ?_
    show out _ _ _ _ _ _ _ _ _ _ _ _ _ _ _ _ = out _ _ _ _ _ _ _ _ _ _ _ _ _ _ _ _
    congr 1

end Cert.PostEven
end
-- ==== Proof.QkvRef.lean ====
/- The reference of the query, key and value projection, read token by token. -/
module

public import proofs.«01_k».proof.Proof.Gen.QkvRefIdeal.Read
public import proofs.«01_k».proof.Proof.Rows

@[expose] public section

set_option maxRecDepth 16384

noncomputable section

namespace Cert.Qkv
open Idealize.ShloMosaic Idealize.ShloMosaic.TcCoe
open Cert.QkvRefIdeal Cert.QkvRefIdeal.Read Cert.Rows

variable (x0 : FVec Ideal S4096x1024 .f32) (x1 : FVec Ideal S1x6x1024 .f32) (x2 : FVec Ideal S1x1024x3072 .f32) (x3 : FVec Ideal S1x3072 .f32)

/-- Column `n` of the projection of token `p`'s modulated row. -/
def proj (p : Fin 4096) (n : Fin 3072) : EReal :=
  ∑ d : Fin 1024, modulated (fun j => x0 (ix2 p j)) (fun j => x1 (ix3 0 1 j)) (fun j => x1 (ix3 0 0 j)) d * x2 (ix3 0 d n) + x3 (ix2 0 n)

/-- The queries. -/
def outQ : FVec Ideal S16x256x1024 .bf16 := fun i =>
  proj x0 x1 x2 x3 ⟨256 * (i 0).val + (i 1).val, by have : (i 0).val < 16 := (i 0).isLt; have : (i 1).val < 256 := (i 1).isLt; omega⟩
    ⟨(i 2).val, by have : (i 2).val < 1024 := (i 2).isLt; omega⟩

/-- The keys, head by head. -/
def outK : FVec Ideal S16x1x16x256x64 .f32 := fun i =>
  proj x0 x1 x2 x3 ⟨256 * (i 0).val + (i 3).val, by have : (i 0).val < 16 := (i 0).isLt; have : (i 3).val < 256 := (i 3).isLt; omega⟩
    ⟨1024 + ((i 2).val * 64 + (i 4).val), by have : (i 2).val < 16 := (i 2).isLt; have : (i 4).val < 64 := (i 4).isLt; omega⟩

/-- The values, head by head. -/
def outV : FVec Ideal S16x1x16x256x64 .f32 := fun i =>
  proj x0 x1 x2 x3 ⟨256 * (i 0).val + (i 3).val, by have : (i 0).val < 16 := (i 0).isLt; have : (i 3).val < 256 := (i 3).isLt; omega⟩
    ⟨2048 + ((i 2).val * 64 + (i 4).val), by have : (i 2).val < 16 := (i 2).isLt; have : (i 4).val < 64 := (i 4).isLt; omega⟩

/-- The reference's modulated row. -/
theorem ref_modulated (b : Fin 16) (s : Fin 256) (d : Fin 1024) :
    val_main_v30 (F := Ideal) x0 x1 (ix3 b s d)
      = modulated (fun j => x0 (ix2 ⟨256 * b.val + s.val, by omega⟩ j)) (fun j => x1 (ix3 0 1 j)) (fun j => x1 (ix3 0 0 j)) d := by
  unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3 val_main_cst_4
  pointwise [modulated, ln, mean]
  simp only [modulated, ln, mean, Nat.mul_comm]

/-- The reference's projection. -/
theorem ref_proj (b : Fin 16) (s : Fin 256) (n : Fin 3072) :
    val_main_v36 (F := Ideal) x0 x1 x2 x3 (ix3 b s n) = proj x0 x1 x2 x3 ⟨256 * b.val + s.val, by omega⟩ n := by
  have h : val_main_v36 (F := Ideal) x0 x1 x2 x3 (ix3 b s n)
      = ∑ d : Fin 1024, val_main_v30 (F := Ideal) x0 x1 (ix3 b s d) * x2 (ix3 0 d n) + x3 (ix2 0 n) := by
    unfold val_main_v36 val_main_v35 val_main_v34 val_main_v33 val_main_v32 val_main_v31
    generalize val_main_v30 (F := Ideal) x0 x1 = y
    pointwise
  rw [h]
  simp only [ref_modulated]
  rfl

/-- THE REFERENCE'S QUERIES. -/
theorem ref_q : val_main_v40 (F := Ideal) x0 x1 x2 x3 = outQ x0 x1 x2 x3 := by
  funext i
  obtain ⟨b, s, c, rfl⟩ : ∃ b s c, i = ix3 b s c := ⟨i 0, i 1, i 2, eq_ix3 i⟩
  have h : val_main_v40 (F := Ideal) x0 x1 x2 x3 (ix3 b s c) = val_main_v36 (F := Ideal) x0 x1 x2 x3 (ix3 b s ⟨c.val, by omega⟩) := by
    unfold val_main_v40 val_main_v37
    generalize val_main_v36 (F := Ideal) x0 x1 x2 x3 = y
    pointwise
  rw [h, ref_proj]
  rfl

/-- THE REFERENCE'S KEYS. -/
theorem ref_k : val_main_v43 (F := Ideal) x0 x1 x2 x3 = outK x0 x1 x2 x3 := by
  funext i
  obtain ⟨b, o, h, s, d, rfl⟩ : ∃ b o h s d, i = ix5 b o h s d := ⟨i 0, i 1, i 2, i 3, i 4, eq_ix5 i⟩
  have e : val_main_v43 (F := Ideal) x0 x1 x2 x3 (ix5 b o h s d)
      = val_main_v36 (F := Ideal) x0 x1 x2 x3 (ix3 b s ⟨1024 + (h.val * 64 + d.val), by omega⟩) := by
    unfold val_main_v43 val_main_v42 val_main_v41 val_main_v38
    generalize val_main_v36 (F := Ideal) x0 x1 x2 x3 = y
    pointwise
  rw [e, ref_proj]
  rfl

/-- THE REFERENCE'S VALUES. -/
theorem ref_v : val_main_v46 (F := Ideal) x0 x1 x2 x3 = outV x0 x1 x2 x3 := by
  funext i
  obtain ⟨b, o, h, s, d, rfl⟩ : ∃ b o h s d, i = ix5 b o h s d := ⟨i 0, i 1, i 2, i 3, i 4, eq_ix5 i⟩
  have e : val_main_v46 (F := Ideal) x0 x1 x2 x3 (ix5 b o h s d)
      = val_main_v36 (F := Ideal) x0 x1 x2 x3 (ix3 b s ⟨2048 + (h.val * 64 + d.val), by omega⟩) := by
    unfold val_main_v46 val_main_v45 val_main_v44 val_main_v39
    generalize val_main_v36 (F := Ideal) x0 x1 x2 x3 = y
    pointwise
  rw [e, ref_proj]
  rfl

end Cert.Qkv
end
-- ==== Proof.QkvValue.lean ====
/- The query, key and value projection: what the kernel leaves in its three arrays. -/
module

public import proofs.«01_k».proof.Proof.Gen.QkvIdeal.Frame
public import proofs.«01_k».proof.Proof.QkvRef
public import Idealize.ShloMosaic.Lib.Pipeline.Value

@[expose] public section

set_option maxRecDepth 16384

noncomputable section

namespace Cert.Qkv
open Idealize.ShloMosaic Idealize.ShloMosaic.TcCoe Idealize.SL.Sem
open Idealize.ShloMosaic.Pipeline (Dat)
open Cert.QkvIdeal Cert.QkvIdeal.Gen Cert.Rows

/-! ## One block -/

theorem ld_1 (x : FVec Ideal S1x6x1024 .f32) : View.ld (Val := Elt Ideal) (e' := EltTy.f32) x r0_1 = (fun i => x (ix3 0 1 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

theorem ld_2 (x : FVec Ideal S1x6x1024 .f32) : View.ld (Val := Elt Ideal) (e' := EltTy.f32) x r0_2 = (fun i => x (ix3 0 0 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

/-- One block's projection, at row `r` and column `n`. -/
theorem block (x0 : FVec Ideal S512x1024 .f32) (x1 : FVec Ideal S1x6x1024 .f32) (x2 : FVec Ideal S1024x3072 .bf16) (x3 : FVec Ideal S1x3072 .f32) (r : Fin 512) (n : Fin 3072) :
    k0_pay5 (F := Ideal) x0 x1 x2 x3 (ix2 r n)
      = ∑ d : Fin 1024, modulated (fun j => x0 (ix2 r j)) (fun j => x1 (ix3 0 1 j)) (fun j => x1 (ix3 0 0 j)) d * x2 (ix2 d n) + x3 (ix2 0 n) := by
  unfold k0_pay5
  rw [ld_1, ld_2]
  simp (disch := decide) only [View.ld_unit_lit']
  pointwise [k0_pay3, modulated, ln, mean]

/-- The stored queries. -/
abbrev storedQ (x0 : FVec Ideal S512x1024 .f32) (x1 : FVec Ideal S1x6x1024 .f32) (x2 : FVec Ideal S1024x3072 .bf16) (x3 : FVec Ideal S1x3072 .f32) : FVec Ideal S512x1024 .bf16 := k0_pay4 (F := Ideal) x0 (View.ld x1 r0_1) (View.ld x1 r0_2) x2 x3
/-- The stored keys. -/
abbrev storedK (x0 : FVec Ideal S512x1024 .f32) (x1 : FVec Ideal S1x6x1024 .f32) (x2 : FVec Ideal S1024x3072 .bf16) (x3 : FVec Ideal S1x3072 .f32) : FVec Ideal S512x1024 .f32 := k0_pay1 (F := Ideal) (k0_pay5 (F := Ideal) x0 x1 x2 x3)
/-- The stored values. -/
abbrev storedV (x0 : FVec Ideal S512x1024 .f32) (x1 : FVec Ideal S1x6x1024 .f32) (x2 : FVec Ideal S1024x3072 .bf16) (x3 : FVec Ideal S1x3072 .f32) : FVec Ideal S512x1024 .f32 := k0_pay2 (F := Ideal) (k0_pay5 (F := Ideal) x0 x1 x2 x3)

theorem storedQ_at (x0 : FVec Ideal S512x1024 .f32) (x1 : FVec Ideal S1x6x1024 .f32) (x2 : FVec Ideal S1024x3072 .bf16) (x3 : FVec Ideal S1x3072 .f32) (r : Fin 512) (j : Fin 1024) :
    storedQ x0 x1 x2 x3 (ix2 r j) = k0_pay5 (F := Ideal) x0 x1 x2 x3 (ix2 r ⟨j.val, by omega⟩) := by
  unfold storedQ k0_pay4 k0_pay5
  simp (disch := decide) only [View.ld_unit_lit']
  generalize k0_pay3 (F := Ideal) x0 (View.ld x1 r0_1) (View.ld x1 r0_2) x2 x3 = y
  pointwise

theorem storedK_at (x0 : FVec Ideal S512x1024 .f32) (x1 : FVec Ideal S1x6x1024 .f32) (x2 : FVec Ideal S1024x3072 .bf16) (x3 : FVec Ideal S1x3072 .f32) (r : Fin 512) (j : Fin 1024) :
    storedK x0 x1 x2 x3 (ix2 r j) = k0_pay5 (F := Ideal) x0 x1 x2 x3 (ix2 r ⟨1024 + j.val, by omega⟩) := by
  unfold storedK
  generalize k0_pay5 (F := Ideal) x0 x1 x2 x3 = y
  pointwise [k0_pay1]

theorem storedV_at (x0 : FVec Ideal S512x1024 .f32) (x1 : FVec Ideal S1x6x1024 .f32) (x2 : FVec Ideal S1024x3072 .bf16) (x3 : FVec Ideal S1x3072 .f32) (r : Fin 512) (j : Fin 1024) :
    storedV x0 x1 x2 x3 (ix2 r j) = k0_pay5 (F := Ideal) x0 x1 x2 x3 (ix2 r ⟨2048 + j.val, by omega⟩) := by
  unfold storedV
  generalize k0_pay5 (F := Ideal) x0 x1 x2 x3 = y
  pointwise [k0_pay2]

/-! ## The arrays -/

variable (m : (ℓ : Loc nD τ sig) → Buf (Elt Ideal) ℓ) (c : Dev nD)

/-- Argument 0 of the launch. -/
abbrev A0 : FVec Ideal S4096x1024 .f32 := m ((c.tc : Thread nD τ).loc main_arg0)
/-- Argument 1 of the launch. -/
abbrev A1 : FVec Ideal S1x6x1024 .f32 := m ((c.tc : Thread nD τ).loc main_arg1)
/-- Argument 2 of the launch. -/
abbrev A2 : FVec Ideal S1x1024x3072 .f32 := m ((c.tc : Thread nD τ).loc main_arg2)
/-- Argument 3 of the launch. -/
abbrev A3 : FVec Ideal S1x3072 .f32 := m ((c.tc : Thread nD τ).loc main_arg3)

/-- Grid point `t` is token block `t`; the weights stay. -/
theorem idx : ∀ t : Fin cfg0.N, win0_0.index t = ![t.val, 0] ∧ win0_1.index t = ![0, 0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0, 0] ∧ win0_2.index t = ![0, 0] ∧ win0_3.index t = ![0, 0]
    ∧ win0_4.index t = ![t.val, 0] ∧ win0_5.index t = ![t.val, 0] ∧ win0_6.index t = ![t.val, 0])

theorem pt_lt (t : Fin cfg0.N) : t.val < 8 := lt_of_lt_of_eq t.isLt (by decide)

/-- The weights as the region finds them. -/
theorem entry_w : (V m c main_v1 : FVec Ideal S1024x3072 .bf16)
    = truncf .bf16 (shapeCast S1024x3072 (A2 m c) shapeCasts_S1x1024x3072_S1024x3072) bitsLt_bf16_f32 := by
  show StableHlo.after (List.flatten [hostOps0]) _ (Proc.devRef .tc main_v1) = _
  simp only [hostOps0, List.flatten_cons, List.flatten_nil, List.append_nil, List.cons_append, List.nil_append]
  after_results <;> rfl

/-- The bias as the region finds it. -/
theorem entry_b : (V m c main_v3 : FVec Ideal S1x3072 .f32)
    = shapeCast S1x3072 (shapeCast S3072 (A3 m c) shapeCasts_S1x3072_S3072) shapeCasts_S3072_S1x3072 := by
  show StableHlo.after (List.flatten [hostOps0]) _ (Proc.devRef .tc main_v3) = _
  simp only [hostOps0, List.flatten_cons, List.flatten_nil, List.append_nil, List.cons_append, List.nil_append]
  after_results <;> rfl

section
variable (t : Fin cfg0.N)

theorem blk0 (r : Fin 512) (j : Fin 1024) :
    (iblk m c 0 t : FVec Ideal S512x1024 .f32) (ix2 r j) = A0 m c (ix2 ⟨512 * t.val + r.val, by have := pt_lt t; omega⟩ j) := by
  blk_point [iblk, V, idx t]

theorem blk1 (k : Fin 6) (j : Fin 1024) :
    (iblk m c 1 t : FVec Ideal S1x6x1024 .f32) (ix3 0 k j) = A1 m c (ix3 0 k j) := by
  blk_point [iblk, V, idx t]

theorem blk2 (d : Fin 1024) (n : Fin 3072) :
    (iblk m c 2 t : FVec Ideal S1024x3072 .bf16) (ix2 d n) = A2 m c (ix3 0 d n) := by
  have g : truncf (F := Ideal) .bf16 (shapeCast S1024x3072 (A2 m c) shapeCasts_S1x1024x3072_S1024x3072) bitsLt_bf16_f32 (ix2 d n) = A2 m c (ix3 0 d n) := by
    generalize A2 m c = a
    pointwise
  refine Eq.trans ?_ g
  rw [← entry_w]
  refine congrArg (V m c main_v1) ?_
  blk_ext [idx t]

theorem blk3 (n : Fin 3072) :
    (iblk m c 3 t : FVec Ideal S1x3072 .f32) (ix2 0 n) = A3 m c (ix2 0 n) := by
  have g : shapeCast S1x3072 (shapeCast S3072 (A3 m c) shapeCasts_S1x3072_S3072) shapeCasts_S3072_S1x3072 (ix2 0 n) = A3 m c (ix2 0 n) := by
    generalize A3 m c = a
    pointwise
  refine Eq.trans ?_ g
  rw [← entry_b]
  refine congrArg (V m c main_v3) ?_
  blk_ext [idx t]

/-- What point `t` computes at row `r`, column `n` is the projection of the row's token. -/
theorem point (r : Fin 512) (n : Fin 3072) :
    k0_pay5 (F := Ideal) (iblk m c 0 t) (iblk m c 1 t) (iblk m c 2 t) (iblk m c 3 t) (ix2 r n)
      = proj (A0 m c) (A1 m c) (A2 m c) (A3 m c) ⟨512 * t.val + r.val, by have := pt_lt t; omega⟩ n := by
  rw [block]
  simp only [blk0, blk1, blk2, blk3]
  rfl

end

/-- The kernel's array Q, token by token. -/
def flatQ : FVec Ideal S4096x1024 .bf16 := fun i => proj (A0 m c) (A1 m c) (A2 m c) (A3 m c) (i 0) ⟨(i 1).val, by have : (i 1).val < 1024 := (i 1).isLt; omega⟩

theorem pointQ (t : Fin cfg0.N) (y : S512x1024.Idx) :
    storedQ (iblk m c 0 t) (iblk m c 1 t) (iblk m c 2 t) (iblk m c 3 t) y = flatQ m c (((View.whole main_v4_0).slice (win0_4.rect t)).emb y) := by
  obtain ⟨r, j, rfl⟩ : ∃ r j, y = ix2 r j := ⟨y 0, y 1, eq_ix2 y⟩
  rw [storedQ_at, point m c t r]
  refine Eq.trans (b := flatQ m c (ix2 ⟨512 * t.val + r.val, by have := pt_lt t; omega⟩ j)) rfl ?_
  refine congrArg _ ?_
  blk_ext [idx t]

theorem finalQ : (dats m 0 c).arrAt 4 cfg0.N = flatQ m c := by
  refine (dats m 0 c).arrAt_eq_of_covers 4 _ (by decide +kernel) fun t _ y => ?_
  blk_simp
  rw [after0_4]
  frame_out
  exact pointQ m c t y

/-- The kernel's array K, token by token. -/
def flatK : FVec Ideal S4096x1024 .f32 := fun i => proj (A0 m c) (A1 m c) (A2 m c) (A3 m c) (i 0) ⟨1024 + (i 1).val, by have : (i 1).val < 1024 := (i 1).isLt; omega⟩

theorem pointK (t : Fin cfg0.N) (y : S512x1024.Idx) :
    storedK (iblk m c 0 t) (iblk m c 1 t) (iblk m c 2 t) (iblk m c 3 t) y = flatK m c (((View.whole main_v4_1).slice (win0_5.rect t)).emb y) := by
  obtain ⟨r, j, rfl⟩ : ∃ r j, y = ix2 r j := ⟨y 0, y 1, eq_ix2 y⟩
  rw [storedK_at, point m c t r]
  refine Eq.trans (b := flatK m c (ix2 ⟨512 * t.val + r.val, by have := pt_lt t; omega⟩ j)) rfl ?_
  refine congrArg _ ?_
  blk_ext [idx t]

theorem finalK : (dats m 0 c).arrAt 5 cfg0.N = flatK m c := by
  refine (dats m 0 c).arrAt_eq_of_covers 5 _ (by decide +kernel) fun t _ y => ?_
  blk_simp
  rw [after0_5]
  frame_out
  exact pointK m c t y

/-- The kernel's array V, token by token. -/
def flatV : FVec Ideal S4096x1024 .f32 := fun i => proj (A0 m c) (A1 m c) (A2 m c) (A3 m c) (i 0) ⟨2048 + (i 1).val, by have : (i 1).val < 1024 := (i 1).isLt; omega⟩

theorem pointV (t : Fin cfg0.N) (y : S512x1024.Idx) :
    storedV (iblk m c 0 t) (iblk m c 1 t) (iblk m c 2 t) (iblk m c 3 t) y = flatV m c (((View.whole main_v4_2).slice (win0_6.rect t)).emb y) := by
  obtain ⟨r, j, rfl⟩ : ∃ r j, y = ix2 r j := ⟨y 0, y 1, eq_ix2 y⟩
  rw [storedV_at, point m c t r]
  refine Eq.trans (b := flatV m c (ix2 ⟨512 * t.val + r.val, by have := pt_lt t; omega⟩ j)) rfl ?_
  refine congrArg _ ?_
  blk_ext [idx t]

theorem finalV : (dats m 0 c).arrAt 6 cfg0.N = flatV m c := by
  refine (dats m 0 c).arrAt_eq_of_covers 6 _ (by decide +kernel) fun t _ y => ?_
  blk_simp
  rw [after0_6]
  frame_out
  exact pointV m c t y

end Cert.Qkv
end
-- ==== Proof.QkvClaim.lean ====
/- The query, key and value projection: kernel and reference end with the same arrays. -/
module

public import proofs.«01_k».proof.Defs
public import proofs.«01_k».proof.Proof.QkvValue
public import proofs.«01_k».proof.Proof.Gen.QkvIdeal.Run
public import proofs.«01_k».proof.Proof.Gen.QkvRefIdeal.Run
public import proofs.«01_k».proof.Proof.Gen.QkvRefIdeal
public import Idealize.ShloMosaic.Adequacy
public import Idealize.ShloMosaic.Init
public import Idealize.ShloMosaic.Lib.Claim

@[expose] public section

set_option maxRecDepth 16384

noncomputable section

namespace Cert.Qkv
open Idealize.ShloMosaic Idealize.ShloMosaic.TcCoe Idealize.SL.Sem
open Cert.QkvIdeal Cert.QkvIdeal.Gen

/-- A flat array of all tokens, sequence by sequence. -/
theorem rows (y : FVec Ideal S4096x1024 .bf16) (b : Fin 16) (s : Fin 256) (j : Fin 1024) :
    shapeCast S16x256x1024 y shapeCasts_S4096x1024_S16x256x1024 (ix3 b s j) = y (ix2 ⟨256 * b.val + s.val, by omega⟩ j) := by
  pointwise
  try simp only [Nat.mul_comm]

/-- A flat array of all tokens, head by head. -/
theorem heads (y : FVec Ideal S4096x1024 .f32) (b : Fin 16) (o : Fin 1) (h : Fin 16) (s : Fin 256) (d : Fin 64) :
    broadcastInDim S16x1x16x256x64 ![0, 2, 3, 4] bcast_S16x16x256x64_S16x1x16x256x64_0_2_3_4
      (transpose S16x16x256x64 [0, 2, 1, 3] (shapeCast S16x256x16x64 y shapeCasts_S4096x1024_S16x256x16x64)
        transposes_S16x256x16x64_S16x16x256x64_0_2_1_3) (ix5 b o h s d)
      = y (ix2 ⟨256 * b.val + s.val, by omega⟩ ⟨h.val * 64 + d.val, by omega⟩) := by
  pointwise
  try simp only [Nat.mul_comm]

variable (m : (ℓ : Loc nD τ sig) → Buf (Elt Ideal) ℓ) (c : Dev nD)

theorem kernelQ : shapeCast S16x256x1024 (flatQ m c) shapeCasts_S4096x1024_S16x256x1024 = outQ (A0 m c) (A1 m c) (A2 m c) (A3 m c) := by
  refine @funext _ _ _ _ fun i : S16x256x1024.Idx => ?_
  obtain ⟨b, s, j, rfl⟩ : ∃ b s j, i = ix3 b s j := ⟨i 0, i 1, i 2, eq_ix3 i⟩
  rw [rows]
  rfl

theorem kernelK : broadcastInDim S16x1x16x256x64 ![0, 2, 3, 4] bcast_S16x16x256x64_S16x1x16x256x64_0_2_3_4
      (transpose S16x16x256x64 [0, 2, 1, 3] (shapeCast S16x256x16x64 (flatK m c) shapeCasts_S4096x1024_S16x256x16x64)
        transposes_S16x256x16x64_S16x16x256x64_0_2_1_3) = outK (A0 m c) (A1 m c) (A2 m c) (A3 m c) := by
  refine @funext _ _ _ _ fun i : S16x1x16x256x64.Idx => ?_
  obtain ⟨b, o, h, s, d, rfl⟩ : ∃ b o h s d, i = ix5 b o h s d := ⟨i 0, i 1, i 2, i 3, i 4, eq_ix5 i⟩
  rw [heads]
  rfl

theorem kernelV : broadcastInDim S16x1x16x256x64 ![0, 2, 3, 4] bcast_S16x16x256x64_S16x1x16x256x64_0_2_3_4
      (transpose S16x16x256x64 [0, 2, 1, 3] (shapeCast S16x256x16x64 (flatV m c) shapeCasts_S4096x1024_S16x256x16x64)
        transposes_S16x256x16x64_S16x16x256x64_0_2_1_3) = outV (A0 m c) (A1 m c) (A2 m c) (A3 m c) := by
  refine @funext _ _ _ _ fun i : S16x1x16x256x64.Idx => ?_
  obtain ⟨b, o, h, s, d, rfl⟩ : ∃ b o h s d, i = ix5 b o h s d := ⟨i 0, i 1, i 2, i 3, i 4, eq_ix5 i⟩
  rw [heads]
  rfl

/-- THE VALUE CLAIM of the query, key and value projection. -/
theorem algebraic : Cert.algebraic_QkvIdeal_QkvRefIdeal (hQkvIdeal := Cert.QkvIdeal.Gen.facts)
    (hQkvRefIdeal := Cert.QkvRefIdeal.Gen.facts) := by
  intro m g m' g' _ hargs
  refine ⟨fun c => outQ (A0 m c) (A1 m c) (A2 m c) (A3 m c), fun c => outK (A0 m c) (A1 m c) (A2 m c) (A3 m c),
    fun c => outV (A0 m c) (A1 m c) (A2 m c) (A3 m c), ?_, ?_⟩
  · refine (θ_run _ _ _).mono (fun r h c => ?_) (Cert.QkvIdeal.Value.run m g)
    obtain ⟨hq, hk, hv, hr⟩ := h c
    have eq : Cert.QkvIdeal.Value.reg_main_v4_0 m c = flatQ m c := finalQ m c
    have ek : Cert.QkvIdeal.Value.reg_main_v4_1 m c = flatK m c := finalK m c
    have ev : Cert.QkvIdeal.Value.reg_main_v4_2 m c = flatV m c := finalV m c
    rw [eq] at hq
    rw [ek] at hk
    rw [ev] at hv
    exact ⟨hq.trans (kernelQ m c), hk.trans (kernelK m c), hv.trans (kernelV m c), hr⟩
  · refine (θ_run _ _ _).mono (fun r h c => ?_) (Cert.QkvRefIdeal.Value.run m' g')
    obtain ⟨hq, hk, hv, hr⟩ := h c
    obtain ⟨e0, e1, e2, e3⟩ := hargs c
    rw [e0, e1, e2, e3] at hq hk hv
    exact ⟨hq.trans ((Cert.QkvRefIdeal.Read.val_main_v40_eq (F := Ideal) _ _ _ _).trans (ref_q _ _ _ _)),
      hk.trans ((Cert.QkvRefIdeal.Read.val_main_v43_eq (F := Ideal) _ _ _ _).trans (ref_k _ _ _ _)),
      hv.trans ((Cert.QkvRefIdeal.Read.val_main_v46_eq (F := Ideal) _ _ _ _).trans (ref_v _ _ _ _)), hr⟩

end Cert.Qkv
end
-- ==== Proof.PostOddPromptBlock.lean ====
/- What one block of the odd layers' second half on the prompt's tokens computes, row by row. -/
module

public import proofs.«01_k».proof.Proof.Gen.PostOddPromptIdeal.Value
public import proofs.«01_k».proof.Proof.PostOddBlock

@[expose] public section

set_option maxRecDepth 16384

noncomputable section

namespace Cert.PostOddPrompt
open Idealize.ShloMosaic Idealize.ShloMosaic.TcCoe Idealize.SL.Sem
open Cert.PostOddPromptIdeal Cert.PostOddPromptIdeal.Gen Cert.Rows

/-! ## The block -/

section
variable (x0 : FVec Ideal S512x1024 .f32) (x1 : FVec Ideal S1x6x1024 .f32) (x2 : FVec Ideal S512x1024 .bf16) (x3 : FVec Ideal S1024x1024 .bf16)
  (x4 x5 x6 : FVec Ideal S1x1024 .f32) (x7 : FVec Ideal S1024x4096 .bf16) (x8 : FVec Ideal S1x4096 .f32) (x9 : FVec Ideal S4096x1024 .bf16)
  (x10 x11 x12 : FVec Ideal S1x1024 .f32)

/-- What the body stores, from its thirteen blocks. -/
abbrev stored : FVec Ideal S512x1024 .f32 :=
  k0_pay1 (F := Ideal) (k0_pay8 (F := Ideal) (k0_pay3 (F := Ideal) (k0_pay9 (F := Ideal) x0 x1 x2 x3 x4 x5 x6 x7 x8 x9 x10 x11 x12) x6) (k0_pay10 (F := Ideal) x0 x1 x2 x3 x4 x5 x6 x7 x8 x9 x10 x11 x12)
    (k0_pay7 (F := Ideal) (k0_pay10 (F := Ideal) x0 x1 x2 x3 x4 x5 x6 x7 x8 x9 x10 x11 x12) (k0_pay5 (F := Ideal))
      (k0_pay6 (F := Ideal) (k0_pay9 (F := Ideal) x0 x1 x2 x3 x4 x5 x6 x7 x8 x9 x10 x11 x12) x6 (View.ld x1 r0_4) (View.ld x1 r0_5) (View.ld x7 r0_6) (View.ld x8 r0_7))
      (View.ld x9 r0_8) (View.ld x7 r0_9) (View.ld x8 r0_10) (View.ld x9 r0_11) (View.ld x7 r0_12) (View.ld x8 r0_13) (View.ld x9 r0_14))
    (View.ld x7 r0_15) (View.ld x8 r0_16) (View.ld x9 r0_17) x10 (View.ld x1 r0_18)) x11 x12

/-- The body is the one of the latent tokens' call. -/
theorem stored_eq : stored x0 x1 x2 x3 x4 x5 x6 x7 x8 x9 x10 x11 x12 = Cert.PostOdd.stored x0 x1 x2 x3 x4 x5 x6 x7 x8 x9 x10 x11 x12 := rfl

/-- WHAT ONE BLOCK STORES: the second half of the block, for each of its rows. -/
theorem block (r : Fin 512) (c : Fin 1024) :
    stored x0 x1 x2 x3 x4 x5 x6 x7 x8 x9 x10 x11 x12 (ix2 r c)
      = secondHalf (fun j => x0 (ix2 r j)) (fun j => ∑ d : Fin 1024, x2 (ix2 r d) * x3 (ix2 d j) + x4 (ix2 0 j))
          (fun j => x1 (ix3 0 2 j)) (fun j => x1 (ix3 0 3 j)) (fun j => x1 (ix3 0 4 j)) (fun j => x1 (ix3 0 5 j))
          (fun j => x5 (ix2 0 j)) (fun j => x6 (ix2 0 j)) (fun d k => x7 (ix2 d k)) (fun k => x8 (ix2 0 k)) (fun k j => x9 (ix2 k j))
          (fun j => x10 (ix2 0 j)) (fun j => x11 (ix2 0 j)) (fun j => x12 (ix2 0 j)) c := by
  rw [stored_eq]
  exact Cert.PostOdd.block x0 x1 x2 x3 x4 x5 x6 x7 x8 x9 x10 x11 x12 r c

end

end Cert.PostOddPrompt
end
-- ==== Proof.PostOddPromptRef.lean ====
/- The reference of the odd layers' second half on the prompt's tokens, read row by row. -/
module

public import proofs.«01_k».proof.Proof.Gen.PostOddPromptRefIdeal.Read
public import proofs.«01_k».proof.Proof.Rows

@[expose] public section

set_option maxRecDepth 16384

noncomputable section

namespace Cert.PostOddPrompt
open Idealize.ShloMosaic Idealize.ShloMosaic.TcCoe
open Cert.PostOddPromptRefIdeal Cert.PostOddPromptRefIdeal.Read Cert.Rows

variable (x0 : FVec Ideal S4096x1024 .f32) (x1 : FVec Ideal S1x6x1024 .f32) (x2 : FVec Ideal S16x256x1024 .bf16)
  (x3 : FVec Ideal S1x1024x1024 .f32) (x4 : FVec Ideal S1x1024 .f32) (x5 x6 : FVec Ideal S2x1024 .f32)
  (x7 : FVec Ideal S2x1024x4096 .f32) (x8 : FVec Ideal S2x4096 .f32) (x9 : FVec Ideal S2x4096x1024 .f32)
  (x10 x11 x12 : FVec Ideal S2x1024 .f32) (b : Fin 16) (n : Fin 256)

/-- The projection of the attention's row. -/
def projRow (c : Fin 1024) : EReal := ∑ d : Fin 1024, x2 (ix3 b n d) * x3 (ix3 0 d c) + x4 (ix2 0 c)

/-- The reference's first residual sum. -/
theorem ref_residual (c : Fin 1024) :
    val_main_v20 (F := Ideal) x0 x1 x2 x3 x4 (ix3 b n c)
      = resid (fun j => x0 (ix2 ⟨256 * b.val + n.val, by omega⟩ j)) (fun j => x1 (ix3 0 2 j)) (projRow x2 x3 x4 b n) c := by
  unfold val_main_v20 val_main_v19 val_main_v18 val_main_v17 val_main_v16 val_main_v15 val_main_cst val_main_v14 val_main_v13 val_main_v12 val_main_v11 val_main_v10 val_main_v9 val_main_v8 val_main_v4 val_main_v1 val_main_v0
  pointwise [resid, projRow]
  simp only [resid, projRow, Nat.mul_comm]

/-- The reference's first normalization. -/
theorem ref_norm (c : Fin 1024) :
    val_main_v48 (F := Ideal) x0 x1 x2 x3 x4 x5 x6 (ix3 b n c)
      = lnw (fun j => val_main_v20 (F := Ideal) x0 x1 x2 x3 x4 (ix3 b n j)) (fun j => x5 (ix2 1 j)) (fun j => x6 (ix2 1 j)) c := by
  unfold val_main_v48 val_main_v47 val_main_v46 val_main_v45 val_main_v44 val_main_v43 val_main_v42 val_main_v41 val_main_v40 val_main_v39 val_main_v38 val_main_cst_4 val_main_v37 val_main_v36 val_main_v35 val_main_v34 val_main_cst_3 val_main_v33 val_main_v32 val_main_cst_2 val_main_v31 val_main_v30 val_main_v29 val_main_v28 val_main_v27 val_main_cst_1 val_main_v26 val_main_v25 val_main_cst_0 val_main_v24 val_main_v23 val_main_v22 val_main_v21
  generalize val_main_v20 (F := Ideal) x0 x1 x2 x3 x4 = y
  pointwise [lnw, ln, mean]

/-- The reference's modulated row. -/
theorem ref_modulated (c : Fin 1024) :
    val_main_v74 (F := Ideal) x0 x1 x2 x3 x4 x5 x6 (ix3 b n c)
      = modulated (fun j => val_main_v48 (F := Ideal) x0 x1 x2 x3 x4 x5 x6 (ix3 b n j)) (fun j => x1 (ix3 0 4 j)) (fun j => x1 (ix3 0 3 j)) c := by
  unfold val_main_v74 val_main_v73 val_main_v72 val_main_v71 val_main_v70 val_main_v69 val_main_v68 val_main_v67 val_main_cst_10 val_main_v66 val_main_v65 val_main_v64 val_main_v63 val_main_v62 val_main_cst_9 val_main_v61 val_main_v60 val_main_v59 val_main_v58 val_main_cst_8 val_main_v57 val_main_v56 val_main_cst_7 val_main_v55 val_main_v54 val_main_v53 val_main_v52 val_main_v51 val_main_cst_6 val_main_v50 val_main_v49 val_main_cst_5 val_main_v6 val_main_v5 val_main_v1
  generalize val_main_v48 (F := Ideal) x0 x1 x2 x3 x4 x5 x6 = y
  pointwise [modulated, ln, mean]

/-- The reference's hidden layer. -/
theorem ref_hidden (k : Fin 4096) :
    val_main_v90 (F := Ideal) x0 x1 x2 x3 x4 x5 x6 x7 x8 (ix3 b n k)
      = hid (fun j => val_main_v74 (F := Ideal) x0 x1 x2 x3 x4 x5 x6 (ix3 b n j)) (fun d => x7 (ix3 1 d k)) (x8 (ix2 1 k)) := by
  unfold val_main_v90 val_main_v89 val_main_call0_v0 val_main_call0_cst val_main_v88 val_main_v87 val_main_v86 val_main_v85 val_main_v80 val_main_v79 val_main_v78 val_main_v77
  generalize val_main_v74 (F := Ideal) x0 x1 x2 x3 x4 x5 x6 = y
  pointwise [hid]

/-- The reference's second residual sum. -/
theorem ref_residual2 (c : Fin 1024) :
    val_main_v98 (F := Ideal) x0 x1 x2 x3 x4 x5 x6 x7 x8 x9 x10 (ix3 b n c)
      = resid (fun j => val_main_v48 (F := Ideal) x0 x1 x2 x3 x4 x5 x6 (ix3 b n j)) (fun j => x1 (ix3 0 5 j))
          (fun j => ∑ k : Fin 4096, val_main_v90 (F := Ideal) x0 x1 x2 x3 x4 x5 x6 x7 x8 (ix3 b n k) * x9 (ix3 1 k j) + x10 (ix2 1 j)) c := by
  unfold val_main_v98 val_main_v97 val_main_v96 val_main_v95 val_main_v94 val_main_v93 val_main_v92 val_main_v91 val_main_v84 val_main_v83 val_main_v82 val_main_v81 val_main_v76 val_main_v75 val_main_cst_11 val_main_v7 val_main_v1
  generalize val_main_v48 (F := Ideal) x0 x1 x2 x3 x4 x5 x6 = y
  generalize val_main_v90 (F := Ideal) x0 x1 x2 x3 x4 x5 x6 x7 x8 = z
  pointwise [resid]

/-- The reference's second normalization. -/
theorem ref_norm2 (c : Fin 1024) :
    val_main_v126 (F := Ideal) x0 x1 x2 x3 x4 x5 x6 x7 x8 x9 x10 x11 x12 (ix3 b n c)
      = lnw (fun j => val_main_v98 (F := Ideal) x0 x1 x2 x3 x4 x5 x6 x7 x8 x9 x10 (ix3 b n j)) (fun j => x11 (ix2 1 j)) (fun j => x12 (ix2 1 j)) c := by
  unfold val_main_v126 val_main_v125 val_main_v124 val_main_v123 val_main_v122 val_main_v121 val_main_v120 val_main_v119 val_main_v118 val_main_v117 val_main_v116 val_main_cst_16 val_main_v115 val_main_v114 val_main_v113 val_main_v112 val_main_cst_15 val_main_v111 val_main_v110 val_main_cst_14 val_main_v109 val_main_v108 val_main_v107 val_main_v106 val_main_v105 val_main_cst_13 val_main_v104 val_main_v103 val_main_cst_12 val_main_v102 val_main_v101 val_main_v100 val_main_v99
  generalize val_main_v98 (F := Ideal) x0 x1 x2 x3 x4 x5 x6 x7 x8 x9 x10 = y
  pointwise [lnw, ln, mean]

/-- The whole array: the second half of the block at row `n` of sequence `b`, column `c`. -/
def out : FVec Ideal S4096x1024 .f32 := fun i =>
  secondHalf (fun j => x0 (ix2 (i 0) j)) (projRow x2 x3 x4 ⟨(i 0).val / 256, by have : (i 0).val < 4096 := (i 0).isLt; omega⟩ ⟨(i 0).val % 256, by omega⟩)
    (fun j => x1 (ix3 0 2 j)) (fun j => x1 (ix3 0 3 j))
    (fun j => x1 (ix3 0 4 j)) (fun j => x1 (ix3 0 5 j))
    (fun j => x5 (ix2 1 j)) (fun j => x6 (ix2 1 j)) (fun d k => x7 (ix3 1 d k)) (fun k => x8 (ix2 1 k)) (fun k j => x9 (ix3 1 k j))
    (fun j => x10 (ix2 1 j)) (fun j => x11 (ix2 1 j)) (fun j => x12 (ix2 1 j)) (i 1)

/-- THE REFERENCE'S ARRAY. -/
theorem ref_out : val_main_v127 (F := Ideal) x0 x1 x2 x3 x4 x5 x6 x7 x8 x9 x10 x11 x12 = out x0 x1 x2 x3 x4 x5 x6 x7 x8 x9 x10 x11 x12 := by
  funext i
  obtain ⟨p, c, rfl⟩ : ∃ p c, i = ix2 p c := ⟨i 0, i 1, eq_ix2 i⟩
  have h : val_main_v127 (F := Ideal) x0 x1 x2 x3 x4 x5 x6 x7 x8 x9 x10 x11 x12 (ix2 p c)
      = val_main_v126 (F := Ideal) x0 x1 x2 x3 x4 x5 x6 x7 x8 x9 x10 x11 x12 (ix3 ⟨p.val / 256, by omega⟩ ⟨p.val % 256, by omega⟩ c) := by
    unfold val_main_v127
    generalize val_main_v126 (F := Ideal) x0 x1 x2 x3 x4 x5 x6 x7 x8 x9 x10 x11 x12 = y
    pointwise
  have e : 256 * (p.val / 256) + p.val % 256 = p.val := by omega
  rw [h, ref_norm2]
  simp only [ref_residual2, ref_hidden, ref_modulated, ref_norm, ref_residual, e]
  rfl

end Cert.PostOddPrompt
end
-- ==== Proof.PostOddPromptValue.lean ====
/- The odd layers' second half on the prompt's tokens: the kernel's array. -/
module

public import proofs.«01_k».proof.Proof.PostOddPromptBlock
public import proofs.«01_k».proof.Proof.PostOddPromptRef

@[expose] public section

set_option maxRecDepth 16384

noncomputable section

namespace Cert.PostOddPrompt
open Idealize.ShloMosaic Idealize.ShloMosaic.TcCoe Idealize.SL.Sem
open Idealize.ShloMosaic.Pipeline (Dat)
open Cert.PostOddPromptIdeal Cert.PostOddPromptIdeal.Gen Cert.Rows

variable (m : (ℓ : Loc nD τ sig) → Buf (Elt Ideal) ℓ) (c : Dev nD)

/-- Argument 0 of the launch. -/
abbrev A0 : FVec Ideal S4096x1024 .f32 := m ((c.tc : Thread nD τ).loc main_arg0)
/-- Argument 1 of the launch. -/
abbrev A1 : FVec Ideal S1x6x1024 .f32 := m ((c.tc : Thread nD τ).loc main_arg1)
/-- Argument 2 of the launch. -/
abbrev A2 : FVec Ideal S16x256x1024 .bf16 := m ((c.tc : Thread nD τ).loc main_arg2)
/-- Argument 3 of the launch. -/
abbrev A3 : FVec Ideal S1x1024x1024 .f32 := m ((c.tc : Thread nD τ).loc main_arg3)
/-- Argument 4 of the launch. -/
abbrev A4 : FVec Ideal S1x1024 .f32 := m ((c.tc : Thread nD τ).loc main_arg4)
/-- Argument 5 of the launch. -/
abbrev A5 : FVec Ideal S2x1024 .f32 := m ((c.tc : Thread nD τ).loc main_arg5)
/-- Argument 6 of the launch. -/
abbrev A6 : FVec Ideal S2x1024 .f32 := m ((c.tc : Thread nD τ).loc main_arg6)
/-- Argument 7 of the launch. -/
abbrev A7 : FVec Ideal S2x1024x4096 .f32 := m ((c.tc : Thread nD τ).loc main_arg7)
/-- Argument 8 of the launch. -/
abbrev A8 : FVec Ideal S2x4096 .f32 := m ((c.tc : Thread nD τ).loc main_arg8)
/-- Argument 9 of the launch. -/
abbrev A9 : FVec Ideal S2x4096x1024 .f32 := m ((c.tc : Thread nD τ).loc main_arg9)
/-- Argument 10 of the launch. -/
abbrev A10 : FVec Ideal S2x1024 .f32 := m ((c.tc : Thread nD τ).loc main_arg10)
/-- Argument 11 of the launch. -/
abbrev A11 : FVec Ideal S2x1024 .f32 := m ((c.tc : Thread nD τ).loc main_arg11)
/-- Argument 12 of the launch. -/
abbrev A12 : FVec Ideal S2x1024 .f32 := m ((c.tc : Thread nD τ).loc main_arg12)

/-- Grid point `t` is token block `t`; the weights and the modulation rows stay. -/
theorem idx : ∀ t : Fin cfg0.N, win0_0.index t = ![t.val, 0] ∧ win0_1.index t = ![0, 0, 0] ∧ win0_2.index t = ![t.val, 0] ∧ win0_13.index t = ![t.val, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, win0_0.index t = ![t.val, 0] ∧ win0_1.index t = ![0, 0, 0] ∧ win0_2.index t = ![t.val, 0] ∧ win0_13.index t = ![t.val, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0])

theorem pt_lt (t : Fin cfg0.N) : t.val < 8 := lt_of_lt_of_eq t.isLt (by decide)

section
variable (t : Fin cfg0.N)

theorem blk0 (r : Fin 512) (j : Fin 1024) :
    (iblk m c 0 t : FVec Ideal S512x1024 .f32) (ix2 r j) = A0 m c (ix2 ⟨512 * t.val + r.val, by have := pt_lt t; omega⟩ j) := by
  blk_point [iblk, V, idx t]

theorem blk1 (k : Fin 6) (j : Fin 1024) :
    (iblk m c 1 t : FVec Ideal S1x6x1024 .f32) (ix3 0 k j) = A1 m c (ix3 0 k j) := by
  blk_point [iblk, V, idx t]

theorem blk2 (r : Fin 512) (j : Fin 1024) :
    (iblk m c 2 t : FVec Ideal S512x1024 .bf16) (ix2 r j)
      = A2 m c (ix3 ⟨(512 * t.val + r.val) / 256, by have := pt_lt t; omega⟩ ⟨(512 * t.val + r.val) % 256, by omega⟩ j) := by
  have h := pt_lt t
  blk_simp [iblk]
  entry_read
  have e : ∀ p : Fin 4096, shapeCast S4096x1024 (A2 m c) shapeCasts_S16x256x1024_S4096x1024 (ix2 p j) = A2 m c (ix3 ⟨p.val / 256, by omega⟩ ⟨p.val % 256, by omega⟩ j) := by
    intro p
    generalize A2 m c = a
    pointwise
  have g := e ⟨512 * t.val + r.val, by omega⟩
  refine Eq.trans ?_ g
  refine congrArg _ ?_
  blk_ext [idx t]

theorem blk3 (d j : Fin 1024) :
    (iblk m c 3 t : FVec Ideal S1024x1024 .bf16) (ix2 d j) = A3 m c (ix3 0 d j) := by
  blk_point [iblk, V, idx t]

theorem blk4 (j : Fin 1024) :
    (iblk m c 4 t : FVec Ideal S1x1024 .f32) (ix2 0 j) = A4 m c (ix2 0 j) := by
  blk_point [iblk, V, idx t]

theorem blk5 (j : Fin 1024) :
    (iblk m c 5 t : FVec Ideal S1x1024 .f32) (ix2 0 j) = A5 m c (ix2 1 j) := by
  blk_point [iblk, V, idx t]

theorem blk6 (j : Fin 1024) :
    (iblk m c 6 t : FVec Ideal S1x1024 .f32) (ix2 0 j) = A6 m c (ix2 1 j) := by
  blk_point [iblk, V, idx t]

theorem blk10 (j : Fin 1024) :
    (iblk m c 10 t : FVec Ideal S1x1024 .f32) (ix2 0 j) = A10 m c (ix2 1 j) := by
  blk_point [iblk, V, idx t]

theorem blk11 (j : Fin 1024) :
    (iblk m c 11 t : FVec Ideal S1x1024 .f32) (ix2 0 j) = A11 m c (ix2 1 j) := by
  blk_point [iblk, V, idx t]

theorem blk12 (j : Fin 1024) :
    (iblk m c 12 t : FVec Ideal S1x1024 .f32) (ix2 0 j) = A12 m c (ix2 1 j) := by
  blk_point [iblk, V, idx t]

theorem blk7 (d : Fin 1024) (k : Fin 4096) :
    (iblk m c 7 t : FVec Ideal S1024x4096 .bf16) (ix2 d k) = A7 m c (ix3 1 d k) := by
  blk_point [iblk, V, idx t]

theorem blk8 (k : Fin 4096) :
    (iblk m c 8 t : FVec Ideal S1x4096 .f32) (ix2 0 k) = A8 m c (ix2 1 k) := by
  blk_point [iblk, V, idx t]

theorem blk9 (k : Fin 4096) (j : Fin 1024) :
    (iblk m c 9 t : FVec Ideal S4096x1024 .bf16) (ix2 k j) = A9 m c (ix3 1 k j) := by
  blk_point [iblk, V, idx t]

end

/-- What the whole array holds. -/
abbrev result : FVec Ideal S4096x1024 .f32 := out (A0 m c) (A1 m c) (A2 m c) (A3 m c) (A4 m c) (A5 m c) (A6 m c) (A7 m c) (A8 m c) (A9 m c) (A10 m c) (A11 m c) (A12 m c)

/-- What point `t` stores at row `r`, column `j` is the result at the row's place in the array. -/
theorem point (t : Fin cfg0.N) (r : Fin 512) (j : Fin 1024) :
    stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = result m c (ix2 ⟨512 * t.val + r.val, by have := pt_lt t; omega⟩ j) := by
  have h := pt_lt t
  rw [block]
  simp only [blk0, blk1, blk2, blk3, blk4, blk5, blk6, blk7, blk8, blk9, blk10, blk11, blk12]
  rfl

/-- The same at the block's own index. -/
theorem point_at (t : Fin cfg0.N) (y : S512x1024.Idx) :
    stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = result m c (((View.whole main_v29).slice (win0_13.rect t)).emb y) := by
  obtain ⟨r, j, rfl⟩ : ∃ r j, y = ix2 r j := ⟨y 0, y 1, eq_ix2 y⟩
  rw [point m c t r j]
  refine congrArg _ ?_
  blk_ext [idx t]

/-- THE KERNEL'S ARRAY. -/
theorem final : (dats m 0 c).arrAt 13 cfg0.N = result m c := by
  refine (dats m 0 c).arrAt_eq_of_covers 13 _ (by decide +kernel) fun t _ y => ?_
  blk_simp
  rw [after0_13]
  frame_out
  exact point_at m c t y

end Cert.PostOddPrompt
end
-- ==== Proof.PostOddPromptClaim.lean ====
/- The odd layers' second half on the prompt's tokens: kernel and reference end with the same array. -/
module

public import proofs.«01_k».proof.Defs
public import proofs.«01_k».proof.Proof.PostOddPromptValue
public import proofs.«01_k».proof.Proof.Gen.PostOddPromptRefIdeal.Run
public import proofs.«01_k».proof.Proof.Gen.PostOddPromptRefIdeal
public import Idealize.ShloMosaic.Adequacy
public import Idealize.ShloMosaic.Init
public import Idealize.ShloMosaic.Lib.Claim

@[expose] public section

set_option maxRecDepth 16384

noncomputable section

namespace Cert.PostOddPrompt
open Idealize.ShloMosaic Idealize.ShloMosaic.TcCoe Idealize.SL.Sem

/-- THE VALUE CLAIM of the odd layers' second half on the prompt's tokens. -/
theorem algebraic : Cert.algebraic_PostOddPromptIdeal_PostOddPromptRefIdeal (hPostOddPromptIdeal := Cert.PostOddPromptIdeal.Gen.facts)
    (hPostOddPromptRefIdeal := Cert.PostOddPromptRefIdeal.Gen.facts) := by
  intro m g m' g' _ hargs
  refine ⟨fun c => result m c, ?_, ?_⟩
  · refine (θ_run _ _ _).mono (fun r h c => ?_) (Cert.PostOddPromptIdeal.Value.run_blocks m g)
    obtain ⟨h, hk⟩ := h c
    exact ⟨h.trans (final m c), hk⟩
  · refine (θ_run _ _ _).mono (fun r h c => ?_) (Cert.PostOddPromptRefIdeal.Value.run m' g')
    obtain ⟨h, hk⟩ := h c
    obtain ⟨e0, e1, e2, e3, e4, e5, e6, e7, e8, e9, e10, e11, e12⟩ := hargs c
    refine ⟨h.trans ?_, hk⟩
    refine (Cert.PostOddPromptRefIdeal.Read.val_main_v127_eq (F := Ideal) _).trans ?_
    refine Eq.trans (ref_out _ _ _ _ _ _ _ _ _ _ _ _ _) ?_
    show out _ _ _ _ _ _ _ _ _ _ _ _ _ = out _ _ _ _ _ _ _ _ _ _ _ _ _
    congr 1

end Cert.PostOddPrompt
end
-- ==== Proof.EvenInRef.lean ====
/- The reference of the even layer's input projection, read token by token. -/
module

public import proofs.«01_k».proof.Proof.Gen.EvenInRefIdeal.Read
public import proofs.«01_k».proof.Proof.Rows

@[expose] public section

set_option maxRecDepth 16384

noncomputable section

namespace Cert.EvenIn
open Idealize.ShloMosaic Idealize.ShloMosaic.TcCoe
open Cert.EvenInRefIdeal Cert.EvenInRefIdeal.Read Cert.Rows

variable (x0 : FVec Ideal S16384x1024 .f32) (x1 : FVec Ideal S4x6x1024 .f32) (x2 : FVec Ideal S1x1024x1536 .f32) (x3 : FVec Ideal S1x1536 .f32)
  (x4 x5 : FVec Ideal S512x512 .f32)

/-- The sequence a token belongs to. -/
def seq (p : Fin 16384) : Fin 4 := ⟨p.val / 4096, by omega⟩

/-- Column `n` of the projection of token `p`'s modulated row. -/
def proj (p : Fin 16384) (n : Fin 1536) : EReal :=
  ∑ d : Fin 1024, modulated (fun j => x0 (ix2 p j)) (fun j => x1 (ix3 (seq p) 1 j)) (fun j => x1 (ix3 (seq p) 0 j)) d * x2 (ix3 0 d n) + x3 (ix2 0 n)

/-- The first 1024 columns: the two halves of the recurrent branch's input. -/
def outU : FVec Ideal S16384x1024 .f32 := fun i =>
  proj x0 x1 x2 x3 (i 0) ⟨(i 1).val, by have : (i 1).val < 1024 := (i 1).isLt; omega⟩

/-- The last 512 columns times a table. -/
def outZ (y : FVec Ideal S512x512 .f32) : FVec Ideal S16384x512 .bf16 := fun i =>
  ∑ k : Fin 512, proj x0 x1 x2 x3 (i 0) ⟨1024 + k.val, by omega⟩ * y (ix2 k (i 1))

/-- The reference's modulated row. -/
theorem ref_modulated (b : Fin 4) (s : Fin 4096) (d : Fin 1024) :
    val_main_v30 (F := Ideal) x0 x1 (ix3 b s d)
      = modulated (fun j => x0 (ix2 ⟨4096 * b.val + s.val, by omega⟩ j)) (fun j => x1 (ix3 b 1 j)) (fun j => x1 (ix3 b 0 j)) d := by
  unfold val_main_v30 val_main_v29 val_main_v28 val_main_v27 val_main_v26 val_main_v25 val_main_cst_4 val_main_v24 val_main_v23 val_main_v22 val_main_v21 val_main_v20 val_main_cst_3 val_main_v19 val_main_v18 val_main_v17 val_main_v16 val_main_cst_2 val_main_v15 val_main_v14 val_main_cst_1 val_main_v13 val_main_v12 val_main_v11 val_main_v10 val_main_v9 val_main_cst_0 val_main_v8 val_main_v7 val_main_cst val_main_v2 val_main_v1 val_main_v0
  pointwise [modulated, ln, mean]
  simp only [modulated, ln, mean, Nat.mul_comm]

/-- The reference's projection. -/
theorem ref_proj (p : Fin 16384) (n : Fin 1536) :
    val_main_v36 (F := Ideal) x0 x1 x2 x3 (ix3 ⟨p.val / 4096, by omega⟩ ⟨p.val % 4096, by omega⟩ n) = proj x0 x1 x2 x3 p n := by
  have h : ∀ (b : Fin 4) (s : Fin 4096), val_main_v36 (F := Ideal) x0 x1 x2 x3 (ix3 b s n)
      = ∑ d : Fin 1024, val_main_v30 (F := Ideal) x0 x1 (ix3 b s d) * x2 (ix3 0 d n) + x3 (ix2 0 n) := by
    intro b s
    unfold val_main_v36 val_main_v35 val_main_v34 val_main_v33 val_main_v32 val_main_v31
    generalize val_main_v30 (F := Ideal) x0 x1 = y
    pointwise
  have e : 4096 * (p.val / 4096) + p.val % 4096 = p.val := by omega
  rw [h]
  simp only [ref_modulated, e]
  rfl

/-- THE REFERENCE'S FIRST COLUMNS. -/
theorem ref_u : val_main_v39 (F := Ideal) x0 x1 x2 x3 = outU x0 x1 x2 x3 := by
  funext i
  obtain ⟨p, c, rfl⟩ : ∃ p c, i = ix2 p c := ⟨i 0, i 1, eq_ix2 i⟩
  have h : val_main_v39 (F := Ideal) x0 x1 x2 x3 (ix2 p c)
      = val_main_v36 (F := Ideal) x0 x1 x2 x3 (ix3 ⟨p.val / 4096, by omega⟩ ⟨p.val % 4096, by omega⟩ ⟨c.val, by omega⟩) := by
    unfold val_main_v39 val_main_v38
    generalize val_main_v36 (F := Ideal) x0 x1 x2 x3 = y
    pointwise
  rw [h, ref_proj]
  rfl

/-- THE REFERENCE'S PRODUCT with the first table. -/
theorem ref_c : val_main_v42 (F := Ideal) x0 x1 x2 x3 x4 = outZ x0 x1 x2 x3 x4 := by
  funext i
  obtain ⟨p, c, rfl⟩ : ∃ p c, i = ix2 p c := ⟨i 0, i 1, eq_ix2 i⟩
  have h : val_main_v42 (F := Ideal) x0 x1 x2 x3 x4 (ix2 p c)
      = ∑ k : Fin 512, val_main_v36 (F := Ideal) x0 x1 x2 x3 (ix3 ⟨p.val / 4096, by omega⟩ ⟨p.val % 4096, by omega⟩ ⟨1024 + k.val, by omega⟩) * x4 (ix2 k c) := by
    unfold val_main_v42 val_main_v41 val_main_v40 val_main_v37
    generalize val_main_v36 (F := Ideal) x0 x1 x2 x3 = y
    pointwise
  rw [h]
  simp only [ref_proj]
  rfl

/-- THE REFERENCE'S PRODUCT with the second table. -/
theorem ref_s : val_main_v45 (F := Ideal) x0 x1 x2 x3 x5 = outZ x0 x1 x2 x3 x5 := by
  funext i
  obtain ⟨p, c, rfl⟩ : ∃ p c, i = ix2 p c := ⟨i 0, i 1, eq_ix2 i⟩
  have h : val_main_v45 (F := Ideal) x0 x1 x2 x3 x5 (ix2 p c)
      = ∑ k : Fin 512, val_main_v36 (F := Ideal) x0 x1 x2 x3 (ix3 ⟨p.val / 4096, by omega⟩ ⟨p.val % 4096, by omega⟩ ⟨1024 + k.val, by omega⟩) * x5 (ix2 k c) := by
    unfold val_main_v45 val_main_v44 val_main_v43 val_main_v37
    generalize val_main_v36 (F := Ideal) x0 x1 x2 x3 = y
    pointwise
  rw [h]
  simp only [ref_proj]
  rfl

end Cert.EvenIn
end
-- ==== Proof.EvenInValue.lean ====
/- The even layer's input projection: what the kernel leaves in its three arrays. -/
module

public import proofs.«01_k».proof.Proof.Gen.EvenInIdeal.Value
public import proofs.«01_k».proof.Proof.EvenInRef
public import Idealize.ShloMosaic.Lib.Pipeline.Value

@[expose] public section

set_option maxRecDepth 16384

noncomputable section

namespace Cert.EvenIn
open Idealize.ShloMosaic Idealize.ShloMosaic.TcCoe Idealize.SL.Sem
open Idealize.ShloMosaic.Pipeline (Dat)
open Cert.EvenInIdeal Cert.EvenInIdeal.Gen Cert.Rows

/-! ## One block -/

theorem ld_1 (x : FVec Ideal S1x6x1024 .f32) : View.ld (Val := Elt Ideal) (e' := EltTy.f32) x r0_1 = (fun i => x (ix3 0 1 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

theorem ld_2 (x : FVec Ideal S1x6x1024 .f32) : View.ld (Val := Elt Ideal) (e' := EltTy.f32) x r0_2 = (fun i => x (ix3 0 0 (i 2)) : FVec Ideal S1x1x1024 .f32) := by
  refine @funext _ _ _ _ fun i : S1x1x1024.Idx => ?_
  obtain ⟨a, b, j, rfl⟩ : ∃ a b j, i = ix3 a b j := ⟨i 0, i 1, i 2, eq_ix3 i⟩
  obtain rfl : a = 0 := Subsingleton.elim _ _
  obtain rfl : b = 0 := Subsingleton.elim _ _
  refine congrArg x ?_
  blk_ext []
  all_goals (rw [Rect.idx_unit_val]; first | rfl | exact Nat.zero_add _)

/-- One block's projection. -/
def projection (x0 : FVec Ideal S512x1024 .f32) (x1 : FVec Ideal S1x6x1024 .f32) (x2 : FVec Ideal S1024x1536 .bf16) (x3 : FVec Ideal S1x1536 .f32) : FVec Ideal S512x1536 .f32 :=
  k0_pay4 (F := Ideal) x0 (View.ld x1 r0_1) (View.ld x1 r0_2) x2 x3

section
variable (x0 : FVec Ideal S512x1024 .f32) (x1 : FVec Ideal S1x6x1024 .f32) (x2 : FVec Ideal S1024x1536 .bf16) (x3 : FVec Ideal S1x1536 .f32) (x4 x5 : FVec Ideal S512x512 .f32)

/-- One block's projection, at row `r` and column `n`. -/
theorem block (r : Fin 512) (n : Fin 1536) :
    projection x0 x1 x2 x3 (ix2 r n)
      = ∑ d : Fin 1024, modulated (fun j => x0 (ix2 r j)) (fun j => x1 (ix3 0 1 j)) (fun j => x1 (ix3 0 0 j)) d * x2 (ix2 d n) + x3 (ix2 0 n) := by
  unfold projection
  rw [ld_1, ld_2]
  pointwise [k0_pay4, modulated, ln, mean]

/-- The projection of the block is one value, whichever of the outputs reads it. -/
theorem pay6 : k0_pay6 (F := Ideal) x0 x1 x2 x3 x4 x5 = projection x0 x1 x2 x3 := by
  unfold k0_pay6 projection
  simp (disch := decide) only [View.ld_unit_lit']

/-- The stored first columns. -/
abbrev storedU : FVec Ideal S512x1024 .f32 := k0_pay5 (F := Ideal) x0 (View.ld x1 r0_1) (View.ld x1 r0_2) x2 x3
/-- The stored product with the first table. -/
abbrev storedC : FVec Ideal S512x512 .bf16 := k0_pay2 (F := Ideal) (k0_pay6 (F := Ideal) x0 x1 x2 x3 x4 x5) x4
/-- The stored product with the second table. -/
abbrev storedS : FVec Ideal S512x512 .bf16 := k0_pay3 (F := Ideal) (k0_pay6 (F := Ideal) x0 x1 x2 x3 x4 x5) x5

theorem storedU_at (r : Fin 512) (j : Fin 1024) :
    storedU x0 x1 x2 x3 (ix2 r j) = projection x0 x1 x2 x3 (ix2 r ⟨j.val, by omega⟩) := by
  unfold storedU k0_pay5
  rw [show k0_pay4 (F := Ideal) x0 (View.ld x1 r0_1) (View.ld x1 r0_2) x2 x3 = projection x0 x1 x2 x3 from rfl]
  generalize projection x0 x1 x2 x3 = y
  pointwise

theorem storedC_at (r : Fin 512) (j : Fin 512) :
    storedC x0 x1 x2 x3 x4 x5 (ix2 r j)
      = ∑ k : Fin 512, projection x0 x1 x2 x3 (ix2 r ⟨1024 + k.val, by omega⟩) * x4 (ix2 k j) := by
  unfold storedC
  rw [pay6]
  generalize projection x0 x1 x2 x3 = y
  pointwise [k0_pay2, k0_pay1]

theorem storedS_at (r : Fin 512) (j : Fin 512) :
    storedS x0 x1 x2 x3 x4 x5 (ix2 r j)
      = ∑ k : Fin 512, projection x0 x1 x2 x3 (ix2 r ⟨1024 + k.val, by omega⟩) * x5 (ix2 k j) := by
  unfold storedS
  rw [pay6]
  generalize projection x0 x1 x2 x3 = y
  pointwise [k0_pay3, k0_pay1]

end

/-! ## The arrays -/

variable (m : (ℓ : Loc nD τ sig) → Buf (Elt Ideal) ℓ) (c : Dev nD)

/-- Argument 0 of the launch. -/
abbrev A0 : FVec Ideal S16384x1024 .f32 := m ((c.tc : Thread nD τ).loc main_arg0)
/-- Argument 1 of the launch. -/
abbrev A1 : FVec Ideal S4x6x1024 .f32 := m ((c.tc : Thread nD τ).loc main_arg1)
/-- Argument 2 of the launch. -/
abbrev A2 : FVec Ideal S1x1024x1536 .f32 := m ((c.tc : Thread nD τ).loc main_arg2)
/-- Argument 3 of the launch. -/
abbrev A3 : FVec Ideal S1x1536 .f32 := m ((c.tc : Thread nD τ).loc main_arg3)
/-- Argument 4 of the launch. -/
abbrev A4 : FVec Ideal S512x512 .f32 := m ((c.tc : Thread nD τ).loc main_arg4)
/-- Argument 5 of the launch. -/
abbrev A5 : FVec Ideal S512x512 .f32 := m ((c.tc : Thread nD τ).loc main_arg5)

/-- Grid point `t` is token block `t`, of sequence `t / 8`; the weights and tables stay. -/
theorem idx : ∀ t : Fin cfg0.N, win0_0.index t = ![t.val, 0] ∧ win0_1.index t = ![t.val / 8, 0, 0] ∧ win0_2.index t = ![0, 0] ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val / 8, 0, 0] ∧ win0_2.index t = ![0, 0] ∧ win0_3.index t = ![0, 0] ∧ win0_4.index t = ![0, 0] ∧ win0_5.index t = ![0, 0]
    ∧ win0_6.index t = ![t.val, 0] ∧ win0_7.index t = ![t.val, 0] ∧ win0_8.index t = ![t.val, 0])

theorem pt_lt (t : Fin cfg0.N) : t.val < 32 := lt_of_lt_of_eq t.isLt (by decide)

section
variable (t : Fin cfg0.N)

theorem blk0 (r : Fin 512) (j : Fin 1024) :
    (iblk m c 0 t : FVec Ideal S512x1024 .f32) (ix2 r j) = A0 m c (ix2 ⟨512 * t.val + r.val, by have := pt_lt t; omega⟩ j) := by
  blk_point [iblk, V, idx t]

theorem blk1 (k : Fin 6) (j : Fin 1024) :
    (iblk m c 1 t : FVec Ideal S1x6x1024 .f32) (ix3 0 k j) = A1 m c (ix3 ⟨t.val / 8, by have := pt_lt t; omega⟩ k j) := by
  blk_point [iblk, V, idx t]

theorem blk2 (d : Fin 1024) (n : Fin 1536) :
    (iblk m c 2 t : FVec Ideal S1024x1536 .bf16) (ix2 d n) = A2 m c (ix3 0 d n) := by
  blk_point [iblk, V, idx t]

theorem blk3 (n : Fin 1536) :
    (iblk m c 3 t : FVec Ideal S1x1536 .f32) (ix2 0 n) = A3 m c (ix2 0 n) := by
  blk_point [iblk, V, idx t]

theorem blk4 (k n : Fin 512) :
    (iblk m c 4 t : FVec Ideal S512x512 .f32) (ix2 k n) = A4 m c (ix2 k n) := by
  blk_point [iblk, V, idx t]

theorem blk5 (k n : Fin 512) :
    (iblk m c 5 t : FVec Ideal S512x512 .f32) (ix2 k n) = A5 m c (ix2 k n) := by
  blk_point [iblk, V, idx t]

/-- What point `t` computes at row `r`, column `n` is the projection of the row's token. -/
theorem point (r : Fin 512) (n : Fin 1536) :
    projection (iblk m c 0 t) (iblk m c 1 t) (iblk m c 2 t) (iblk m c 3 t) (ix2 r n)
      = proj (A0 m c) (A1 m c) (A2 m c) (A3 m c) ⟨512 * t.val + r.val, by have := pt_lt t; omega⟩ n := by
  have h := pt_lt t
  refine (block (iblk m c 0 t) (iblk m c 1 t) (iblk m c 2 t) (iblk m c 3 t) r n).trans ?_
  simp only [blk0, blk1, blk2, blk3]
  have e : (⟨t.val / 8, by omega⟩ : Fin 4) = seq ⟨512 * t.val + r.val, by omega⟩ := Fin.ext (by show t.val / 8 = (512 * t.val + r.val) / 4096; omega)
  rw [e]
  rfl

end

/-- The kernel's first array. -/
abbrev flatU : FVec Ideal S16384x1024 .f32 := outU (A0 m c) (A1 m c) (A2 m c) (A3 m c)

theorem pointU (t : Fin cfg0.N) (y : S512x1024.Idx) :
    storedU (iblk m c 0 t) (iblk m c 1 t) (iblk m c 2 t) (iblk m c 3 t) y = flatU m c (((View.whole main_v4_0).slice (win0_6.rect t)).emb y) := by
  obtain ⟨r, j, rfl⟩ : ∃ r j, y = ix2 r j := ⟨y 0, y 1, eq_ix2 y⟩
  refine ((storedU_at (iblk m c 0 t) (iblk m c 1 t) (iblk m c 2 t) (iblk m c 3 t) r j).trans (point m c t r _)).trans ?_
  refine Eq.trans (b := flatU m c (ix2 ⟨512 * t.val + r.val, by have := pt_lt t; omega⟩ j)) rfl ?_
  refine congrArg _ ?_
  blk_ext [idx t]

theorem finalU : (dats m 0 c).arrAt 6 cfg0.N = flatU m c := by
  refine (dats m 0 c).arrAt_eq_of_covers 6 _ (by decide +kernel) fun t _ y => ?_
  blk_simp
  rw [after0_6]
  frame_out
  exact pointU m c t y

/-- The kernel's second array. -/
abbrev flatC : FVec Ideal S16384x512 .bf16 := outZ (A0 m c) (A1 m c) (A2 m c) (A3 m c) (A4 m c)

theorem pointC (t : Fin cfg0.N) (y : S512x512.Idx) :
    storedC (iblk m c 0 t) (iblk m c 1 t) (iblk m c 2 t) (iblk m c 3 t) (iblk m c 4 t) (iblk m c 5 t) y = flatC m c (((View.whole main_v4_1).slice (win0_7.rect t)).emb y) := by
  obtain ⟨r, j, rfl⟩ : ∃ r j, y = ix2 r j := ⟨y 0, y 1, eq_ix2 y⟩
  refine ((storedC_at (iblk m c 0 t) (iblk m c 1 t) (iblk m c 2 t) (iblk m c 3 t) (iblk m c 4 t) (iblk m c 5 t) r j).trans (Finset.sum_congr rfl fun k _ =>
    congrArg₂ (· * ·) (point m c t r _) (blk4 m c t k j))).trans ?_
  refine Eq.trans (b := flatC m c (ix2 ⟨512 * t.val + r.val, by have := pt_lt t; omega⟩ j)) rfl ?_
  refine congrArg _ ?_
  blk_ext [idx t]

theorem finalC : (dats m 0 c).arrAt 7 cfg0.N = flatC m c := by
  refine (dats m 0 c).arrAt_eq_of_covers 7 _ (by decide +kernel) fun t _ y => ?_
  blk_simp
  rw [after0_7]
  frame_out
  exact pointC m c t y

/-- The kernel's third array. -/
abbrev flatS : FVec Ideal S16384x512 .bf16 := outZ (A0 m c) (A1 m c) (A2 m c) (A3 m c) (A5 m c)

theorem pointS (t : Fin cfg0.N) (y : S512x512.Idx) :
    storedS (iblk m c 0 t) (iblk m c 1 t) (iblk m c 2 t) (iblk m c 3 t) (iblk m c 4 t) (iblk m c 5 t) y = flatS m c (((View.whole main_v4_2).slice (win0_8.rect t)).emb y) := by
  obtain ⟨r, j, rfl⟩ : ∃ r j, y = ix2 r j := ⟨y 0, y 1, eq_ix2 y⟩
  refine ((storedS_at (iblk m c 0 t) (iblk m c 1 t) (iblk m c 2 t) (iblk m c 3 t) (iblk m c 4 t) (iblk m c 5 t) r j).trans (Finset.sum_congr rfl fun k _ =>
    congrArg₂ (· * ·) (point m c t r _) (blk5 m c t k j))).trans ?_
  refine Eq.trans (b := flatS m c (ix2 ⟨512 * t.val + r.val, by have := pt_lt t; omega⟩ j)) rfl ?_
  refine congrArg _ ?_
  blk_ext [idx t]

theorem finalS : (dats m 0 c).arrAt 8 cfg0.N = flatS m c := by
  refine (dats m 0 c).arrAt_eq_of_covers 8 _ (by decide +kernel) fun t _ y => ?_
  blk_simp
  rw [after0_8]
  frame_out
  exact pointS m c t y

end Cert.EvenIn
end
-- ==== Proof.EvenInClaim.lean ====
/- The even layer's input projection: kernel and reference end with the same arrays. -/
module

public import proofs.«01_k».proof.Defs
public import proofs.«01_k».proof.Proof.EvenInValue
public import proofs.«01_k».proof.Proof.Gen.EvenInRefIdeal.Run
public import proofs.«01_k».proof.Proof.Gen.EvenInRefIdeal
public import Idealize.ShloMosaic.Adequacy
public import Idealize.ShloMosaic.Init
public import Idealize.ShloMosaic.Lib.Claim

@[expose] public section

set_option maxRecDepth 16384

noncomputable section

namespace Cert.EvenIn
open Idealize.ShloMosaic Idealize.ShloMosaic.TcCoe Idealize.SL.Sem

/-- THE VALUE CLAIM of the even layer's input projection. -/
theorem algebraic : Cert.algebraic_EvenInIdeal_EvenInRefIdeal (hEvenInIdeal := Cert.EvenInIdeal.Gen.facts)
    (hEvenInRefIdeal := Cert.EvenInRefIdeal.Gen.facts) := by
  intro m g m' g' _ hargs
  refine ⟨fun c => flatU m c, fun c => flatC m c, fun c => flatS m c, ?_, ?_⟩
  · refine (θ_run _ _ _).mono (fun r h c => ?_) (Cert.EvenInIdeal.Value.run_blocks m g)
    obtain ⟨hu, hc, hs, hk⟩ := h c
    exact ⟨hu.trans (finalU m c), hc.trans (finalC m c), hs.trans (finalS m c), hk⟩
  · refine (θ_run _ _ _).mono (fun r h c => ?_) (Cert.EvenInRefIdeal.Value.run m' g')
    obtain ⟨hu, hc, hs, hk⟩ := h c
    obtain ⟨e0, e1, e2, e3, e4, e5⟩ := hargs c
    rw [e0, e1, e2, e3] at hu
    rw [e0, e1, e2, e3, e4] at hc
    rw [e0, e1, e2, e3, e5] at hs
    exact ⟨hu.trans ((Cert.EvenInRefIdeal.Read.val_main_v39_eq (F := Ideal) _ _ _ _).trans (ref_u _ _ _ _)),
      hc.trans ((Cert.EvenInRefIdeal.Read.val_main_v42_eq (F := Ideal) _ _ _ _ _).trans (ref_c _ _ _ _ _)),
      hs.trans ((Cert.EvenInRefIdeal.Read.val_main_v45_eq (F := Ideal) _ _ _ _ _).trans (ref_s _ _ _ _ _)), hk⟩

end Cert.EvenIn
end
-- ==== Proof.lean ====
module

public import proofs.«01_k».proof.Defs
public import proofs.«01_k».proof.Proof.Gen.LatAttn.Frame
public import proofs.«01_k».proof.Proof.Gen.LatAttnIdeal.Frame
public import proofs.«01_k».proof.Proof.Gen.LatRefIdeal.Run
public import proofs.«01_k».proof.Proof.Gen.CtxAttn.Frame
public import proofs.«01_k».proof.Proof.Gen.CtxAttnIdeal.Frame
public import proofs.«01_k».proof.Proof.Gen.CtxRefIdeal.Run
public import proofs.«01_k».proof.Proof.Gen.PostOdd.Frame
public import proofs.«01_k».proof.Proof.Gen.PostOddIdeal.Frame
public import proofs.«01_k».proof.Proof.Gen.PostOddRefIdeal.Run
public import proofs.«01_k».proof.Proof.Gen.PostEven.Frame
public import proofs.«01_k».proof.Proof.Gen.PostEvenIdeal.Frame
public import proofs.«01_k».proof.Proof.Gen.PostEvenRefIdeal.Run
public import proofs.«01_k».proof.Proof.Gen.Qkv.Frame
public import proofs.«01_k».proof.Proof.Gen.QkvIdeal.Frame
public import proofs.«01_k».proof.Proof.Gen.QkvRefIdeal.Run
public import proofs.«01_k».proof.Proof.Gen.PostOddPrompt.Frame
public import proofs.«01_k».proof.Proof.Gen.PostOddPromptIdeal.Frame
public import proofs.«01_k».proof.Proof.Gen.PostOddPromptRefIdeal.Run
public import proofs.«01_k».proof.Proof.Gen.EvenIn.Frame
public import proofs.«01_k».proof.Proof.Gen.EvenInIdeal.Frame
public import proofs.«01_k».proof.Proof.Gen.EvenInRefIdeal.Run
public import proofs.«01_k».proof.Proof.LatClaim
public import proofs.«01_k».proof.Proof.CtxClaim
public import proofs.«01_k».proof.Proof.PostOddClaim
public import proofs.«01_k».proof.Proof.PostEvenClaim
public import proofs.«01_k».proof.Proof.QkvClaim
public import proofs.«01_k».proof.Proof.PostOddPromptClaim
public import proofs.«01_k».proof.Proof.EvenInClaim
public import proofs.«01_k».proof.Proof.Gen.LatAttn
public import proofs.«01_k».proof.Proof.Gen.LatAttnIdeal
public import proofs.«01_k».proof.Proof.Gen.LatRefIdeal
public import proofs.«01_k».proof.Proof.Gen.CtxAttn
public import proofs.«01_k».proof.Proof.Gen.CtxAttnIdeal
public import proofs.«01_k».proof.Proof.Gen.CtxRefIdeal
public import proofs.«01_k».proof.Proof.Gen.PostOdd
public import proofs.«01_k».proof.Proof.Gen.PostOddIdeal
public import proofs.«01_k».proof.Proof.Gen.PostOddRefIdeal
public import proofs.«01_k».proof.Proof.Gen.PostEven
public import proofs.«01_k».proof.Proof.Gen.PostEvenIdeal
public import proofs.«01_k».proof.Proof.Gen.PostEvenRefIdeal
public import proofs.«01_k».proof.Proof.Gen.Qkv
public import proofs.«01_k».proof.Proof.Gen.QkvIdeal
public import proofs.«01_k».proof.Proof.Gen.QkvRefIdeal
public import proofs.«01_k».proof.Proof.Gen.PostOddPrompt
public import proofs.«01_k».proof.Proof.Gen.PostOddPromptIdeal
public import proofs.«01_k».proof.Proof.Gen.PostOddPromptRefIdeal
public import proofs.«01_k».proof.Proof.Gen.EvenIn
public import proofs.«01_k».proof.Proof.Gen.EvenInIdeal
public import proofs.«01_k».proof.Proof.Gen.EvenInRefIdeal
public import proofs.«01_k».proof.Proof.Gen.Pre_lat_inputs
public import proofs.«01_k».proof.Proof.Gen.Pre_ctx_finite
public import Idealize.ShloMosaic.Lib.Quiescent
public import Idealize.ShloMosaic.Adequacy
public import Idealize.ShloMosaic.Init

@[expose] public section

noncomputable section

namespace Cert.Proof

open Idealize.ShloMosaic Idealize.SL.Sem

/-- Everything this certificate claims. -/
theorem claim : Cert.Claim :=
  ⟨Cert.LatAttn.Gen.facts, Cert.LatAttnIdeal.Gen.facts, Cert.LatRefIdeal.Gen.facts, Cert.CtxAttn.Gen.facts, Cert.CtxAttnIdeal.Gen.facts, Cert.CtxRefIdeal.Gen.facts, Cert.PostOdd.Gen.facts, Cert.PostOddIdeal.Gen.facts, Cert.PostOddRefIdeal.Gen.facts, Cert.PostEven.Gen.facts, Cert.PostEvenIdeal.Gen.facts, Cert.PostEvenRefIdeal.Gen.facts, Cert.Qkv.Gen.facts, Cert.QkvIdeal.Gen.facts, Cert.QkvRefIdeal.Gen.facts, Cert.PostOddPrompt.Gen.facts, Cert.PostOddPromptIdeal.Gen.facts, Cert.PostOddPromptRefIdeal.Gen.facts, Cert.EvenIn.Gen.facts, Cert.EvenInIdeal.Gen.facts, Cert.EvenInRefIdeal.Gen.facts, Cert.Pre_lat_inputs.Gen.facts, Cert.Pre_ctx_finite.Gen.facts,
    fun m g _ => Cert.LatAttn.Gen.frame m g,
    fun m g _ => Cert.LatAttnIdeal.Gen.frame m g,
    fun m g _ => Cert.LatAttnIdeal.Gen.frame m g,
    fun m g _ => (θ_run _ _ _).mono (fun r h => ⟨fun c => (h c).2, sem_eq_zero_of_no_sems (by decide) r.2⟩) (Cert.LatRefIdeal.Value.run m g),
    fun m g _ => (θ_run _ _ _).mono (fun r h => ⟨fun c => (h c).2, sem_eq_zero_of_no_sems (by decide) r.2⟩) (Cert.LatRefIdeal.Value.run m g),
    fun m g _ => Cert.CtxAttn.Gen.frame m g,
    fun m g _ => Cert.CtxAttnIdeal.Gen.frame m g,
    fun m g _ => Cert.CtxAttnIdeal.Gen.frame m g,
    fun m g _ => (θ_run _ _ _).mono (fun r h => ⟨fun c => (h c).2, sem_eq_zero_of_no_sems (by decide) r.2⟩) (Cert.CtxRefIdeal.Value.run m g),
    fun m g _ => (θ_run _ _ _).mono (fun r h => ⟨fun c => (h c).2, sem_eq_zero_of_no_sems (by decide) r.2⟩) (Cert.CtxRefIdeal.Value.run m g),
    fun m g _ => Cert.PostOdd.Gen.frame m g,
    fun m g _ => Cert.PostOddIdeal.Gen.frame m g,
    fun m g _ => (θ_run _ _ _).mono (fun r h => ⟨fun c => (h c).2, sem_eq_zero_of_no_sems (by decide) r.2⟩) (Cert.PostOddRefIdeal.Value.run m g),
    fun m g _ => Cert.PostEven.Gen.frame m g,
    fun m g _ => Cert.PostEvenIdeal.Gen.frame m g,
    fun m g _ => (θ_run _ _ _).mono (fun r h => ⟨fun c => (h c).2, sem_eq_zero_of_no_sems (by decide) r.2⟩) (Cert.PostEvenRefIdeal.Value.run m g),
    fun m g _ => Cert.Qkv.Gen.frame m g,
    fun m g _ => Cert.QkvIdeal.Gen.frame m g,
    fun m g _ => (θ_run _ _ _).mono (fun r h => ⟨fun c => (h c).2.2.2, sem_eq_zero_of_no_sems (by decide) r.2⟩) (Cert.QkvRefIdeal.Value.run m g),
    fun m g _ => Cert.PostOddPrompt.Gen.frame m g,
    fun m g _ => Cert.PostOddPromptIdeal.Gen.frame m g,
    fun m g _ => (θ_run _ _ _).mono (fun r h => ⟨fun c => (h c).2, sem_eq_zero_of_no_sems (by decide) r.2⟩) (Cert.PostOddPromptRefIdeal.Value.run m g),
    fun m g _ => Cert.EvenIn.Gen.frame m g,
    fun m g _ => Cert.EvenInIdeal.Gen.frame m g,
    fun m g _ => (θ_run _ _ _).mono (fun r h => ⟨fun c => (h c).2.2.2, sem_eq_zero_of_no_sems (by decide) r.2⟩) (Cert.EvenInRefIdeal.Value.run m g),
    trivial,
    Cert.Lat.algebraic,
    trivial,
    Cert.Ctx.algebraic,
    trivial,
    Cert.PostOdd.algebraic,
    trivial,
    Cert.PostEven.algebraic,
    trivial,
    Cert.Qkv.algebraic,
    trivial,
    Cert.PostOddPrompt.algebraic,
    trivial,
    Cert.EvenIn.algebraic⟩

end Cert.Proof

end
